-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Rkv (m : (ℓ : Loc Cert.Rkv.nD Cert.Rkv.τ Cert.Rkv.sig) → Buf (Elt Bits) ℓ) : Prop :=
  True

def Pre_RkvIdeal (m : (ℓ : Loc Cert.RkvIdeal.nD Cert.RkvIdeal.τ Cert.RkvIdeal.sig) → Buf (Elt Ideal) ℓ) : Prop :=
  True

def Pre_RkvRefIdeal (m : (ℓ : Loc Cert.RkvRefIdeal.nD Cert.RkvRefIdeal.τ Cert.RkvRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_CaQ (m : (ℓ : Loc Cert.CaQ.nD Cert.CaQ.τ Cert.CaQ.sig) → Buf (Elt Bits) ℓ) : Prop :=
  True

def Pre_CaQIdeal (m : (ℓ : Loc Cert.CaQIdeal.nD Cert.CaQIdeal.τ Cert.CaQIdeal.sig) → Buf (Elt Ideal) ℓ) : Prop :=
  True

def Pre_CaQRefIdeal (m : (ℓ : Loc Cert.CaQRefIdeal.nD Cert.CaQRefIdeal.τ Cert.CaQRefIdeal.sig) → Buf (Elt Ideal) ℓ) : Prop :=
  True

def Pre_CaKv (m : (ℓ : Loc Cert.CaKv.nD Cert.CaKv.τ Cert.CaKv.sig) → Buf (Elt Bits) ℓ) : Prop :=
  True

def Pre_CaKvIdeal (m : (ℓ : Loc Cert.CaKvIdeal.nD Cert.CaKvIdeal.τ Cert.CaKvIdeal.sig) → Buf (Elt Ideal) ℓ) : Prop :=
  True

def Pre_CaKvRefIdeal (m : (ℓ : Loc Cert.CaKvRefIdeal.nD Cert.CaKvRefIdeal.τ Cert.CaKvRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_CaO (m : (ℓ : Loc Cert.CaO.nD Cert.CaO.τ Cert.CaO.sig) → Buf (Elt Bits) ℓ) : Prop :=
  True

def Pre_CaOIdeal (m : (ℓ : Loc Cert.CaOIdeal.nD Cert.CaOIdeal.τ Cert.CaOIdeal.sig) → Buf (Elt Ideal) ℓ) : Prop :=
  True

def Pre_CaORefIdeal (m : (ℓ : Loc Cert.CaORefIdeal.nD Cert.CaORefIdeal.τ Cert.CaORefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Rkv [hRkv : Cert.Rkv.Facts] : Prop :=
  ∀ (m : (ℓ : Loc Cert.Rkv.nD Cert.Rkv.τ Cert.Rkv.sig) → Buf (Elt Bits) ℓ) (g : Dev Cert.Rkv.nD → PrngReg), Pre_Rkv m →
    θ_run (Cert.Rkv.defs (F := Bits)) (onTc (τ := Cert.Rkv.τ) (Cert.Rkv.main (F := Bits))) ⟨m, fun _ => 0, g⟩ (fun r => (∀ c : Dev Cert.Rkv.nD,
      r.2.mem ((c.tc : Thread Cert.Rkv.nD Cert.Rkv.τ).loc Cert.Rkv.main_arg0) = m ((c.tc : Thread Cert.Rkv.nD Cert.Rkv.τ).loc Cert.Rkv.main_arg0)
      ∧ r.2.mem ((c.tc : Thread Cert.Rkv.nD Cert.Rkv.τ).loc Cert.Rkv.main_arg1) = m ((c.tc : Thread Cert.Rkv.nD Cert.Rkv.τ).loc Cert.Rkv.main_arg1))
      ∧ r.2.sem = fun _ => 0)

def quiescent_RkvIdeal [hRkvIdeal : Cert.RkvIdeal.Facts] : Prop :=
  ∀ (m : (ℓ : Loc Cert.RkvIdeal.nD Cert.RkvIdeal.τ Cert.RkvIdeal.sig) → Buf (Elt Ideal) ℓ) (g : Dev Cert.RkvIdeal.nD → PrngReg), Pre_RkvIdeal m →
    θ_run (Cert.RkvIdeal.defs (F := Ideal)) (onTc (τ := Cert.RkvIdeal.τ) (Cert.RkvIdeal.main (F := Ideal))) ⟨m, fun _ => 0, g⟩ (fun r => (∀ c : Dev Cert.RkvIdeal.nD,
      r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
      ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ r.2.sem = fun _ => 0)

def quiescent_RkvRefIdeal [hRkvRefIdeal : Cert.RkvRefIdeal.Facts] : Prop :=
  ∀ (m : (ℓ : Loc Cert.RkvRefIdeal.nD Cert.RkvRefIdeal.τ Cert.RkvRefIdeal.sig) → Buf (Elt Ideal) ℓ) (g : Dev Cert.RkvRefIdeal.nD → PrngReg), Pre_RkvRefIdeal m →
    θ_run (Cert.RkvRefIdeal.defs (F := Ideal)) (onTc (τ := Cert.RkvRefIdeal.τ) (Cert.RkvRefIdeal.main (F := Ideal))) ⟨m, fun _ => 0, g⟩ (fun r => (∀ c : Dev Cert.RkvRefIdeal.nD,
      r.2.mem ((c.tc : Thread Cert.RkvRefIdeal.nD Cert.RkvRefIdeal.τ).loc Cert.RkvRefIdeal.main_arg0) = m ((c.tc : Thread Cert.RkvRefIdeal.nD Cert.RkvRefIdeal.τ).loc Cert.RkvRefIdeal.main_arg0)
      ∧ r.2.mem ((c.tc : Thread Cert.RkvRefIdeal.nD Cert.RkvRefIdeal.τ).loc Cert.RkvRefIdeal.main_arg1) = m ((c.tc : Thread Cert.RkvRefIdeal.nD Cert.RkvRefIdeal.τ).loc Cert.RkvRefIdeal.main_arg1))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_CaQ [hCaQ : Cert.CaQ.Facts] : Prop :=
  ∀ (m : (ℓ : Loc Cert.CaQ.nD Cert.CaQ.τ Cert.CaQ.sig) → Buf (Elt Bits) ℓ) (g : Dev Cert.CaQ.nD → PrngReg), Pre_CaQ m →
    θ_run (Cert.CaQ.defs (F := Bits)) (onTc (τ := Cert.CaQ.τ) (Cert.CaQ.main (F := Bits))) ⟨m, fun _ => 0, g⟩ (fun r => (∀ c : Dev Cert.CaQ.nD,
      r.2.mem ((c.tc : Thread Cert.CaQ.nD Cert.CaQ.τ).loc Cert.CaQ.main_arg0) = m ((c.tc : Thread Cert.CaQ.nD Cert.CaQ.τ).loc Cert.CaQ.main_arg0)
      ∧ r.2.mem ((c.tc : Thread Cert.CaQ.nD Cert.CaQ.τ).loc Cert.CaQ.main_arg1) = m ((c.tc : Thread Cert.CaQ.nD Cert.CaQ.τ).loc Cert.CaQ.main_arg1))
      ∧ r.2.sem = fun _ => 0)

def quiescent_CaQIdeal [hCaQIdeal : Cert.CaQIdeal.Facts] : Prop :=
  ∀ (m : (ℓ : Loc Cert.CaQIdeal.nD Cert.CaQIdeal.τ Cert.CaQIdeal.sig) → Buf (Elt Ideal) ℓ) (g : Dev Cert.CaQIdeal.nD → PrngReg), Pre_CaQIdeal m →
    θ_run (Cert.CaQIdeal.defs (F := Ideal)) (onTc (τ := Cert.CaQIdeal.τ) (Cert.CaQIdeal.main (F := Ideal))) ⟨m, fun _ => 0, g⟩ (fun r => (∀ c : Dev Cert.CaQIdeal.nD,
      r.2.mem ((c.tc : Thread Cert.CaQIdeal.nD Cert.CaQIdeal.τ).loc Cert.CaQIdeal.main_arg0) = m ((c.tc : Thread Cert.CaQIdeal.nD Cert.CaQIdeal.τ).loc Cert.CaQIdeal.main_arg0)
      ∧ r.2.mem ((c.tc : Thread Cert.CaQIdeal.nD Cert.CaQIdeal.τ).loc Cert.CaQIdeal.main_arg1) = m ((c.tc : Thread Cert.CaQIdeal.nD Cert.CaQIdeal.τ).loc Cert.CaQIdeal.main_arg1))
      ∧ r.2.sem = fun _ => 0)

def quiescent_CaQRefIdeal [hCaQRefIdeal : Cert.CaQRefIdeal.Facts] : Prop :=
  ∀ (m : (ℓ : Loc Cert.CaQRefIdeal.nD Cert.CaQRefIdeal.τ Cert.CaQRefIdeal.sig) → Buf (Elt Ideal) ℓ) (g : Dev Cert.CaQRefIdeal.nD → PrngReg), Pre_CaQRefIdeal m →
    θ_run (Cert.CaQRefIdeal.defs (F := Ideal)) (onTc (τ := Cert.CaQRefIdeal.τ) (Cert.CaQRefIdeal.main (F := Ideal))) ⟨m, fun _ => 0, g⟩ (fun r => (∀ c : Dev Cert.CaQRefIdeal.nD,
      r.2.mem ((c.tc : Thread Cert.CaQRefIdeal.nD Cert.CaQRefIdeal.τ).loc Cert.CaQRefIdeal.main_arg0) = m ((c.tc : Thread Cert.CaQRefIdeal.nD Cert.CaQRefIdeal.τ).loc Cert.CaQRefIdeal.main_arg0)
      ∧ r.2.mem ((c.tc : Thread Cert.CaQRefIdeal.nD Cert.CaQRefIdeal.τ).loc Cert.CaQRefIdeal.main_arg1) = m ((c.tc : Thread Cert.CaQRefIdeal.nD Cert.CaQRefIdeal.τ).loc Cert.CaQRefIdeal.main_arg1))
      ∧ r.2.sem = fun _ => 0)

def quiescent_CaKv [hCaKv : Cert.CaKv.Facts] : Prop :=
  ∀ (m : (ℓ : Loc Cert.CaKv.nD Cert.CaKv.τ Cert.CaKv.sig) → Buf (Elt Bits) ℓ) (g : Dev Cert.CaKv.nD → PrngReg), Pre_CaKv m →
    θ_run (Cert.CaKv.defs (F := Bits)) (onTc (τ := Cert.CaKv.τ) (Cert.CaKv.main (F := Bits))) ⟨m, fun _ => 0, g⟩ (fun r => (∀ c : Dev Cert.CaKv.nD,
      r.2.mem ((c.tc : Thread Cert.CaKv.nD Cert.CaKv.τ).loc Cert.CaKv.main_arg0) = m ((c.tc : Thread Cert.CaKv.nD Cert.CaKv.τ).loc Cert.CaKv.main_arg0)
      ∧ r.2.mem ((c.tc : Thread Cert.CaKv.nD Cert.CaKv.τ).loc Cert.CaKv.main_arg1) = m ((c.tc : Thread Cert.CaKv.nD Cert.CaKv.τ).loc Cert.CaKv.main_arg1))
      ∧ r.2.sem = fun _ => 0)

def quiescent_CaKvIdeal [hCaKvIdeal : Cert.CaKvIdeal.Facts] : Prop :=
  ∀ (m : (ℓ : Loc Cert.CaKvIdeal.nD Cert.CaKvIdeal.τ Cert.CaKvIdeal.sig) → Buf (Elt Ideal) ℓ) (g : Dev Cert.CaKvIdeal.nD → PrngReg), Pre_CaKvIdeal m →
    θ_run (Cert.CaKvIdeal.defs (F := Ideal)) (onTc (τ := Cert.CaKvIdeal.τ) (Cert.CaKvIdeal.main (F := Ideal))) ⟨m, fun _ => 0, g⟩ (fun r => (∀ c : Dev Cert.CaKvIdeal.nD,
      r.2.mem ((c.tc : Thread Cert.CaKvIdeal.nD Cert.CaKvIdeal.τ).loc Cert.CaKvIdeal.main_arg0) = m ((c.tc : Thread Cert.CaKvIdeal.nD Cert.CaKvIdeal.τ).loc Cert.CaKvIdeal.main_arg0)
      ∧ r.2.mem ((c.tc : Thread Cert.CaKvIdeal.nD Cert.CaKvIdeal.τ).loc Cert.CaKvIdeal.main_arg1) = m ((c.tc : Thread Cert.CaKvIdeal.nD Cert.CaKvIdeal.τ).loc Cert.CaKvIdeal.main_arg1))
      ∧ r.2.sem = fun _ => 0)

def quiescent_CaKvRefIdeal [hCaKvRefIdeal : Cert.CaKvRefIdeal.Facts] : Prop :=
  ∀ (m : (ℓ : Loc Cert.CaKvRefIdeal.nD Cert.CaKvRefIdeal.τ Cert.CaKvRefIdeal.sig) → Buf (Elt Ideal) ℓ) (g : Dev Cert.CaKvRefIdeal.nD → PrngReg), Pre_CaKvRefIdeal m →
    θ_run (Cert.CaKvRefIdeal.defs (F := Ideal)) (onTc (τ := Cert.CaKvRefIdeal.τ) (Cert.CaKvRefIdeal.main (F := Ideal))) ⟨m, fun _ => 0, g⟩ (fun r => (∀ c : Dev Cert.CaKvRefIdeal.nD,
      r.2.mem ((c.tc : Thread Cert.CaKvRefIdeal.nD Cert.CaKvRefIdeal.τ).loc Cert.CaKvRefIdeal.main_arg0) = m ((c.tc : Thread Cert.CaKvRefIdeal.nD Cert.CaKvRefIdeal.τ).loc Cert.CaKvRefIdeal.main_arg0)
      ∧ r.2.mem ((c.tc : Thread Cert.CaKvRefIdeal.nD Cert.CaKvRefIdeal.τ).loc Cert.CaKvRefIdeal.main_arg1) = m ((c.tc : Thread Cert.CaKvRefIdeal.nD Cert.CaKvRefIdeal.τ).loc Cert.CaKvRefIdeal.main_arg1))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1)
      ∧ r.2.mem ((c.tc : Thread Cert.WOut.nD Cert.WOut.τ).loc Cert.WOut.main_arg2) = m ((c.tc : Thread Cert.WOut.nD Cert.WOut.τ).loc Cert.WOut.main_arg2)
      ∧ r.2.mem ((c.tc : Thread Cert.WOut.nD Cert.WOut.τ).loc Cert.WOut.main_arg3) = m ((c.tc : Thread Cert.WOut.nD Cert.WOut.τ).loc Cert.WOut.main_arg3)
      ∧ r.2.mem ((c.tc : Thread Cert.WOut.nD Cert.WOut.τ).loc Cert.WOut.main_arg4) = m ((c.tc : Thread Cert.WOut.nD Cert.WOut.τ).loc Cert.WOut.main_arg4))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
      ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
      ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3)
      ∧ r.2.mem ((c.tc : Thread Cert.WOutIdeal.nD Cert.WOutIdeal.τ).loc Cert.WOutIdeal.main_arg4) = m ((c.tc : Thread Cert.WOutIdeal.nD Cert.WOutIdeal.τ).loc Cert.WOutIdeal.main_arg4))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1)
      ∧ r.2.mem ((c.tc : Thread Cert.WOutRefIdeal.nD Cert.WOutRefIdeal.τ).loc Cert.WOutRefIdeal.main_arg2) = m ((c.tc : Thread Cert.WOutRefIdeal.nD Cert.WOutRefIdeal.τ).loc Cert.WOutRefIdeal.main_arg2)
      ∧ r.2.mem ((c.tc : Thread Cert.WOutRefIdeal.nD Cert.WOutRefIdeal.τ).loc Cert.WOutRefIdeal.main_arg3) = m ((c.tc : Thread Cert.WOutRefIdeal.nD Cert.WOutRefIdeal.τ).loc Cert.WOutRefIdeal.main_arg3)
      ∧ r.2.mem ((c.tc : Thread Cert.WOutRefIdeal.nD Cert.WOutRefIdeal.τ).loc Cert.WOutRefIdeal.main_arg4) = m ((c.tc : Thread Cert.WOutRefIdeal.nD Cert.WOutRefIdeal.τ).loc Cert.WOutRefIdeal.main_arg4))
      ∧ r.2.sem = fun _ => 0)

def quiescent_CaO [hCaO : Cert.CaO.Facts] : Prop :=
  ∀ (m : (ℓ : Loc Cert.CaO.nD Cert.CaO.τ Cert.CaO.sig) → Buf (Elt Bits) ℓ) (g : Dev Cert.CaO.nD → PrngReg), Pre_CaO m →
    θ_run (Cert.CaO.defs (F := Bits)) (onTc (τ := Cert.CaO.τ) (Cert.CaO.main (F := Bits))) ⟨m, fun _ => 0, g⟩ (fun r => (∀ c : Dev Cert.CaO.nD,
      r.2.mem ((c.tc : Thread Cert.CaO.nD Cert.CaO.τ).loc Cert.CaO.main_arg0) = m ((c.tc : Thread Cert.CaO.nD Cert.CaO.τ).loc Cert.CaO.main_arg0)
      ∧ r.2.mem ((c.tc : Thread Cert.CaO.nD Cert.CaO.τ).loc Cert.CaO.main_arg1) = m ((c.tc : Thread Cert.CaO.nD Cert.CaO.τ).loc Cert.CaO.main_arg1)
      ∧ r.2.mem ((c.tc : Thread Cert.CaO.nD Cert.CaO.τ).loc Cert.CaO.main_arg2) = m ((c.tc : Thread Cert.CaO.nD Cert.CaO.τ).loc Cert.CaO.main_arg2)
      ∧ r.2.mem ((c.tc : Thread Cert.CaO.nD Cert.CaO.τ).loc Cert.CaO.main_arg3) = m ((c.tc : Thread Cert.CaO.nD Cert.CaO.τ).loc Cert.CaO.main_arg3)
      ∧ r.2.mem ((c.tc : Thread Cert.CaO.nD Cert.CaO.τ).loc Cert.CaO.main_arg4) = m ((c.tc : Thread Cert.CaO.nD Cert.CaO.τ).loc Cert.CaO.main_arg4))
      ∧ r.2.sem = fun _ => 0)

def quiescent_CaOIdeal [hCaOIdeal : Cert.CaOIdeal.Facts] : Prop :=
  ∀ (m : (ℓ : Loc Cert.CaOIdeal.nD Cert.CaOIdeal.τ Cert.CaOIdeal.sig) → Buf (Elt Ideal) ℓ) (g : Dev Cert.CaOIdeal.nD → PrngReg), Pre_CaOIdeal m →
    θ_run (Cert.CaOIdeal.defs (F := Ideal)) (onTc (τ := Cert.CaOIdeal.τ) (Cert.CaOIdeal.main (F := Ideal))) ⟨m, fun _ => 0, g⟩ (fun r => (∀ c : Dev Cert.CaOIdeal.nD,
      r.2.mem ((c.tc : Thread Cert.CaOIdeal.nD Cert.CaOIdeal.τ).loc Cert.CaOIdeal.main_arg0) = m ((c.tc : Thread Cert.CaOIdeal.nD Cert.CaOIdeal.τ).loc Cert.CaOIdeal.main_arg0)
      ∧ r.2.mem ((c.tc : Thread Cert.CaOIdeal.nD Cert.CaOIdeal.τ).loc Cert.CaOIdeal.main_arg1) = m ((c.tc : Thread Cert.CaOIdeal.nD Cert.CaOIdeal.τ).loc Cert.CaOIdeal.main_arg1)
      ∧ r.2.mem ((c.tc : Thread Cert.CaOIdeal.nD Cert.CaOIdeal.τ).loc Cert.CaOIdeal.main_arg2) = m ((c.tc : Thread Cert.CaOIdeal.nD Cert.CaOIdeal.τ).loc Cert.CaOIdeal.main_arg2)
      ∧ r.2.mem ((c.tc : Thread Cert.CaOIdeal.nD Cert.CaOIdeal.τ).loc Cert.CaOIdeal.main_arg3) = m ((c.tc : Thread Cert.CaOIdeal.nD Cert.CaOIdeal.τ).loc Cert.CaOIdeal.main_arg3)
      ∧ r.2.mem ((c.tc : Thread Cert.CaOIdeal.nD Cert.CaOIdeal.τ).loc Cert.CaOIdeal.main_arg4) = m ((c.tc : Thread Cert.CaOIdeal.nD Cert.CaOIdeal.τ).loc Cert.CaOIdeal.main_arg4))
      ∧ r.2.sem = fun _ => 0)

def quiescent_CaORefIdeal [hCaORefIdeal : Cert.CaORefIdeal.Facts] : Prop :=
  ∀ (m : (ℓ : Loc Cert.CaORefIdeal.nD Cert.CaORefIdeal.τ Cert.CaORefIdeal.sig) → Buf (Elt Ideal) ℓ) (g : Dev Cert.CaORefIdeal.nD → PrngReg), Pre_CaORefIdeal m →
    θ_run (Cert.CaORefIdeal.defs (F := Ideal)) (onTc (τ := Cert.CaORefIdeal.τ) (Cert.CaORefIdeal.main (F := Ideal))) ⟨m, fun _ => 0, g⟩ (fun r => (∀ c : Dev Cert.CaORefIdeal.nD,
      r.2.mem ((c.tc : Thread Cert.CaORefIdeal.nD Cert.CaORefIdeal.τ).loc Cert.CaORefIdeal.main_arg0) = m ((c.tc : Thread Cert.CaORefIdeal.nD Cert.CaORefIdeal.τ).loc Cert.CaORefIdeal.main_arg0)
      ∧ r.2.mem ((c.tc : Thread Cert.CaORefIdeal.nD Cert.CaORefIdeal.τ).loc Cert.CaORefIdeal.main_arg1) = m ((c.tc : Thread Cert.CaORefIdeal.nD Cert.CaORefIdeal.τ).loc Cert.CaORefIdeal.main_arg1)
      ∧ r.2.mem ((c.tc : Thread Cert.CaORefIdeal.nD Cert.CaORefIdeal.τ).loc Cert.CaORefIdeal.main_arg2) = m ((c.tc : Thread Cert.CaORefIdeal.nD Cert.CaORefIdeal.τ).loc Cert.CaORefIdeal.main_arg2)
      ∧ r.2.mem ((c.tc : Thread Cert.CaORefIdeal.nD Cert.CaORefIdeal.τ).loc Cert.CaORefIdeal.main_arg3) = m ((c.tc : Thread Cert.CaORefIdeal.nD Cert.CaORefIdeal.τ).loc Cert.CaORefIdeal.main_arg3)
      ∧ r.2.mem ((c.tc : Thread Cert.CaORefIdeal.nD Cert.CaORefIdeal.τ).loc Cert.CaORefIdeal.main_arg4) = m ((c.tc : Thread Cert.CaORefIdeal.nD Cert.CaORefIdeal.τ).loc Cert.CaORefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3)
      ∧ r.2.mem ((c.tc : Thread Cert.ProjA.nD Cert.ProjA.τ).loc Cert.ProjA.main_arg4) = m ((c.tc : Thread Cert.ProjA.nD Cert.ProjA.τ).loc Cert.ProjA.main_arg4)
      ∧ r.2.mem ((c.tc : Thread Cert.ProjA.nD Cert.ProjA.τ).loc Cert.ProjA.main_arg5) = m ((c.tc : Thread Cert.ProjA.nD Cert.ProjA.τ).loc Cert.ProjA.main_arg5))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
      ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4)
      ∧ r.2.mem ((c.tc : Thread Cert.ProjAIdeal.nD Cert.ProjAIdeal.τ).loc Cert.ProjAIdeal.main_arg5) = m ((c.tc : Thread Cert.ProjAIdeal.nD Cert.ProjAIdeal.τ).loc Cert.ProjAIdeal.main_arg5))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2)
      ∧ r.2.mem ((c.tc : Thread Cert.ProjARefIdeal.nD Cert.ProjARefIdeal.τ).loc Cert.ProjARefIdeal.main_arg3) = m ((c.tc : Thread Cert.ProjARefIdeal.nD Cert.ProjARefIdeal.τ).loc Cert.ProjARefIdeal.main_arg3)
      ∧ r.2.mem ((c.tc : Thread Cert.ProjARefIdeal.nD Cert.ProjARefIdeal.τ).loc Cert.ProjARefIdeal.main_arg4) = m ((c.tc : Thread Cert.ProjARefIdeal.nD Cert.ProjARefIdeal.τ).loc Cert.ProjARefIdeal.main_arg4)
      ∧ r.2.mem ((c.tc : Thread Cert.ProjARefIdeal.nD Cert.ProjARefIdeal.τ).loc Cert.ProjARefIdeal.main_arg5) = m ((c.tc : Thread Cert.ProjARefIdeal.nD Cert.ProjARefIdeal.τ).loc Cert.ProjARefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Rkv_RkvIdeal : Prop :=
  True

def algebraic_RkvIdeal_RkvRefIdeal [hRkvIdeal : Cert.RkvIdeal.Facts] [hRkvRefIdeal : Cert.RkvRefIdeal.Facts] : Prop :=
  ∀ (m : (ℓ : Loc Cert.RkvIdeal.nD Cert.RkvIdeal.τ Cert.RkvIdeal.sig) → Buf (Elt Ideal) ℓ) (g : Dev Cert.RkvIdeal.nD → PrngReg)
    (m' : (ℓ : Loc Cert.RkvRefIdeal.nD Cert.RkvRefIdeal.τ Cert.RkvRefIdeal.sig) → Buf (Elt Ideal) ℓ) (g' : Dev Cert.RkvRefIdeal.nD → PrngReg), Pre_RkvIdeal m →
    (∀ c : Dev Cert.RkvIdeal.nD,
      m' ((c.tc : Thread Cert.RkvRefIdeal.nD Cert.RkvRefIdeal.τ).loc Cert.RkvRefIdeal.main_arg0) = m ((c.tc : Thread Cert.RkvIdeal.nD Cert.RkvIdeal.τ).loc Cert.RkvIdeal.main_arg0)
      ∧ m' ((c.tc : Thread Cert.RkvRefIdeal.nD Cert.RkvRefIdeal.τ).loc Cert.RkvRefIdeal.main_arg1) = m ((c.tc : Thread Cert.RkvIdeal.nD Cert.RkvIdeal.τ).loc Cert.RkvIdeal.main_arg1)) →
    ∃ (v0 : (c : Dev Cert.RkvIdeal.nD) → Buf (Elt Ideal) ((c.tc : Thread Cert.RkvIdeal.nD Cert.RkvIdeal.τ).loc Cert.RkvIdeal.main_v8)),
      θ_run (Cert.RkvIdeal.defs (F := Ideal)) (onTc (τ := Cert.RkvIdeal.τ) (Cert.RkvIdeal.main (F := Ideal))) ⟨m, fun _ => 0, g⟩ (fun r => ∀ c : Dev Cert.RkvIdeal.nD,
          r.2.mem ((c.tc : Thread Cert.RkvIdeal.nD Cert.RkvIdeal.τ).loc Cert.RkvIdeal.main_v8) = v0 c
          ∧ r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
          ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ θ_run (Cert.RkvRefIdeal.defs (F := Ideal)) (onTc (τ := Cert.RkvRefIdeal.τ) (Cert.RkvRefIdeal.main (F := Ideal))) ⟨m', fun _ => 0, g'⟩ (fun r => ∀ c : Dev Cert.RkvRefIdeal.nD,
          r.2.mem ((c.tc : Thread Cert.RkvRefIdeal.nD Cert.RkvRefIdeal.τ).loc Cert.RkvRefIdeal.main_v4) = v0 c
          ∧ r.2.mem ((c.tc : Thread Cert.RkvRefIdeal.nD Cert.RkvRefIdeal.τ).loc Cert.RkvRefIdeal.main_arg0) = m' ((c.tc : Thread Cert.RkvRefIdeal.nD Cert.RkvRefIdeal.τ).loc Cert.RkvRefIdeal.main_arg0)
          ∧ r.2.mem ((c.tc : Thread Cert.RkvRefIdeal.nD Cert.RkvRefIdeal.τ).loc Cert.RkvRefIdeal.main_arg1) = m' ((c.tc : Thread Cert.RkvRefIdeal.nD Cert.RkvRefIdeal.τ).loc Cert.RkvRefIdeal.main_arg1))

def preserves_Lora_LoraIdeal : Prop :=
  True

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)) →
    ∃ (v0 : (c : Dev Cert.LoraIdeal.nD) → Buf (Elt Ideal) ((c.tc : Thread Cert.LoraIdeal.nD Cert.LoraIdeal.τ).loc Cert.LoraIdeal.main_v3)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v3) = v0 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v2) = v0 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v2) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_CaQ_CaQIdeal : Prop :=
  True

def algebraic_CaQIdeal_CaQRefIdeal [hCaQIdeal : Cert.CaQIdeal.Facts] [hCaQRefIdeal : Cert.CaQRefIdeal.Facts] : Prop :=
  ∀ (m : (ℓ : Loc Cert.CaQIdeal.nD Cert.CaQIdeal.τ Cert.CaQIdeal.sig) → Buf (Elt Ideal) ℓ) (g : Dev Cert.CaQIdeal.nD → PrngReg)
    (m' : (ℓ : Loc Cert.CaQRefIdeal.nD Cert.CaQRefIdeal.τ Cert.CaQRefIdeal.sig) → Buf (Elt Ideal) ℓ) (g' : Dev Cert.CaQRefIdeal.nD → PrngReg), Pre_CaQIdeal m →
    (∀ c : Dev Cert.CaQIdeal.nD,
      m' ((c.tc : Thread Cert.CaQRefIdeal.nD Cert.CaQRefIdeal.τ).loc Cert.CaQRefIdeal.main_arg0) = m ((c.tc : Thread Cert.CaQIdeal.nD Cert.CaQIdeal.τ).loc Cert.CaQIdeal.main_arg0)
      ∧ m' ((c.tc : Thread Cert.CaQRefIdeal.nD Cert.CaQRefIdeal.τ).loc Cert.CaQRefIdeal.main_arg1) = m ((c.tc : Thread Cert.CaQIdeal.nD Cert.CaQIdeal.τ).loc Cert.CaQIdeal.main_arg1)) →
    ∃ (v0 : (c : Dev Cert.CaQIdeal.nD) → Buf (Elt Ideal) ((c.tc : Thread Cert.CaQIdeal.nD Cert.CaQIdeal.τ).loc Cert.CaQIdeal.main_v1)),
      θ_run (Cert.CaQIdeal.defs (F := Ideal)) (onTc (τ := Cert.CaQIdeal.τ) (Cert.CaQIdeal.main (F := Ideal))) ⟨m, fun _ => 0, g⟩ (fun r => ∀ c : Dev Cert.CaQIdeal.nD,
          r.2.mem ((c.tc : Thread Cert.CaQIdeal.nD Cert.CaQIdeal.τ).loc Cert.CaQIdeal.main_v1) = v0 c
          ∧ r.2.mem ((c.tc : Thread Cert.CaQIdeal.nD Cert.CaQIdeal.τ).loc Cert.CaQIdeal.main_arg0) = m ((c.tc : Thread Cert.CaQIdeal.nD Cert.CaQIdeal.τ).loc Cert.CaQIdeal.main_arg0)
          ∧ r.2.mem ((c.tc : Thread Cert.CaQIdeal.nD Cert.CaQIdeal.τ).loc Cert.CaQIdeal.main_arg1) = m ((c.tc : Thread Cert.CaQIdeal.nD Cert.CaQIdeal.τ).loc Cert.CaQIdeal.main_arg1))
      ∧ θ_run (Cert.CaQRefIdeal.defs (F := Ideal)) (onTc (τ := Cert.CaQRefIdeal.τ) (Cert.CaQRefIdeal.main (F := Ideal))) ⟨m', fun _ => 0, g'⟩ (fun r => ∀ c : Dev Cert.CaQRefIdeal.nD,
          r.2.mem ((c.tc : Thread Cert.CaQRefIdeal.nD Cert.CaQRefIdeal.τ).loc Cert.CaQRefIdeal.main_v0) = v0 c
          ∧ r.2.mem ((c.tc : Thread Cert.CaQRefIdeal.nD Cert.CaQRefIdeal.τ).loc Cert.CaQRefIdeal.main_arg0) = m' ((c.tc : Thread Cert.CaQRefIdeal.nD Cert.CaQRefIdeal.τ).loc Cert.CaQRefIdeal.main_arg0)
          ∧ r.2.mem ((c.tc : Thread Cert.CaQRefIdeal.nD Cert.CaQRefIdeal.τ).loc Cert.CaQRefIdeal.main_arg1) = m' ((c.tc : Thread Cert.CaQRefIdeal.nD Cert.CaQRefIdeal.τ).loc Cert.CaQRefIdeal.main_arg1))

def preserves_CaKv_CaKvIdeal : Prop :=
  True

def algebraic_CaKvIdeal_CaKvRefIdeal [hCaKvIdeal : Cert.CaKvIdeal.Facts] [hCaKvRefIdeal : Cert.CaKvRefIdeal.Facts] : Prop :=
  ∀ (m : (ℓ : Loc Cert.CaKvIdeal.nD Cert.CaKvIdeal.τ Cert.CaKvIdeal.sig) → Buf (Elt Ideal) ℓ) (g : Dev Cert.CaKvIdeal.nD → PrngReg)
    (m' : (ℓ : Loc Cert.CaKvRefIdeal.nD Cert.CaKvRefIdeal.τ Cert.CaKvRefIdeal.sig) → Buf (Elt Ideal) ℓ) (g' : Dev Cert.CaKvRefIdeal.nD → PrngReg), Pre_CaKvIdeal m →
    (∀ c : Dev Cert.CaKvIdeal.nD,
      m' ((c.tc : Thread Cert.CaKvRefIdeal.nD Cert.CaKvRefIdeal.τ).loc Cert.CaKvRefIdeal.main_arg0) = m ((c.tc : Thread Cert.CaKvIdeal.nD Cert.CaKvIdeal.τ).loc Cert.CaKvIdeal.main_arg0)
      ∧ m' ((c.tc : Thread Cert.CaKvRefIdeal.nD Cert.CaKvRefIdeal.τ).loc Cert.CaKvRefIdeal.main_arg1) = m ((c.tc : Thread Cert.CaKvIdeal.nD Cert.CaKvIdeal.τ).loc Cert.CaKvIdeal.main_arg1)) →
    ∃ (v0 : (c : Dev Cert.CaKvIdeal.nD) → Buf (Elt Ideal) ((c.tc : Thread Cert.CaKvIdeal.nD Cert.CaKvIdeal.τ).loc Cert.CaKvIdeal.main_v1)),
      θ_run (Cert.CaKvIdeal.defs (F := Ideal)) (onTc (τ := Cert.CaKvIdeal.τ) (Cert.CaKvIdeal.main (F := Ideal))) ⟨m, fun _ => 0, g⟩ (fun r => ∀ c : Dev Cert.CaKvIdeal.nD,
          r.2.mem ((c.tc : Thread Cert.CaKvIdeal.nD Cert.CaKvIdeal.τ).loc Cert.CaKvIdeal.main_v1) = v0 c
          ∧ r.2.mem ((c.tc : Thread Cert.CaKvIdeal.nD Cert.CaKvIdeal.τ).loc Cert.CaKvIdeal.main_arg0) = m ((c.tc : Thread Cert.CaKvIdeal.nD Cert.CaKvIdeal.τ).loc Cert.CaKvIdeal.main_arg0)
          ∧ r.2.mem ((c.tc : Thread Cert.CaKvIdeal.nD Cert.CaKvIdeal.τ).loc Cert.CaKvIdeal.main_arg1) = m ((c.tc : Thread Cert.CaKvIdeal.nD Cert.CaKvIdeal.τ).loc Cert.CaKvIdeal.main_arg1))
      ∧ θ_run (Cert.CaKvRefIdeal.defs (F := Ideal)) (onTc (τ := Cert.CaKvRefIdeal.τ) (Cert.CaKvRefIdeal.main (F := Ideal))) ⟨m', fun _ => 0, g'⟩ (fun r => ∀ c : Dev Cert.CaKvRefIdeal.nD,
          r.2.mem ((c.tc : Thread Cert.CaKvRefIdeal.nD Cert.CaKvRefIdeal.τ).loc Cert.CaKvRefIdeal.main_v1) = v0 c
          ∧ r.2.mem ((c.tc : Thread Cert.CaKvRefIdeal.nD Cert.CaKvRefIdeal.τ).loc Cert.CaKvRefIdeal.main_arg0) = m' ((c.tc : Thread Cert.CaKvRefIdeal.nD Cert.CaKvRefIdeal.τ).loc Cert.CaKvRefIdeal.main_arg0)
          ∧ r.2.mem ((c.tc : Thread Cert.CaKvRefIdeal.nD Cert.CaKvRefIdeal.τ).loc Cert.CaKvRefIdeal.main_arg1) = m' ((c.tc : Thread Cert.CaKvRefIdeal.nD Cert.CaKvRefIdeal.τ).loc Cert.CaKvRefIdeal.main_arg1))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v28)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v28) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v77) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)
      ∧ m' ((c.tc : Thread Cert.WOutRefIdeal.nD Cert.WOutRefIdeal.τ).loc Cert.WOutRefIdeal.main_arg2) = m ((c.tc : Thread Cert.WOutIdeal.nD Cert.WOutIdeal.τ).loc Cert.WOutIdeal.main_arg2)
      ∧ m' ((c.tc : Thread Cert.WOutRefIdeal.nD Cert.WOutRefIdeal.τ).loc Cert.WOutRefIdeal.main_arg3) = m ((c.tc : Thread Cert.WOutIdeal.nD Cert.WOutIdeal.τ).loc Cert.WOutIdeal.main_arg3)
      ∧ m' ((c.tc : Thread Cert.WOutRefIdeal.nD Cert.WOutRefIdeal.τ).loc Cert.WOutRefIdeal.main_arg4) = m ((c.tc : Thread Cert.WOutIdeal.nD Cert.WOutIdeal.τ).loc Cert.WOutIdeal.main_arg4)) →
    ∃ (v0 : (c : Dev Cert.WOutIdeal.nD) → Buf (Elt Ideal) ((c.tc : Thread Cert.WOutIdeal.nD Cert.WOutIdeal.τ).loc Cert.WOutIdeal.main_v5_0)) (v1 : (c : Dev Cert.WOutIdeal.nD) → Buf (Elt Ideal) ((c.tc : Thread Cert.WOutIdeal.nD Cert.WOutIdeal.τ).loc Cert.WOutIdeal.main_v5_1)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v5_0) = v0 c
          ∧ r.2.mem ((c.tc : Thread Cert.WOutIdeal.nD Cert.WOutIdeal.τ).loc Cert.WOutIdeal.main_v5_1) = v1 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
          ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
          ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3)
          ∧ r.2.mem ((c.tc : Thread Cert.WOutIdeal.nD Cert.WOutIdeal.τ).loc Cert.WOutIdeal.main_arg4) = m ((c.tc : Thread Cert.WOutIdeal.nD Cert.WOutIdeal.τ).loc Cert.WOutIdeal.main_arg4))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v28) = v0 c
          ∧ r.2.mem ((c.tc : Thread Cert.WOutRefIdeal.nD Cert.WOutRefIdeal.τ).loc Cert.WOutRefIdeal.main_v29) = v1 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1)
          ∧ r.2.mem ((c.tc : Thread Cert.WOutRefIdeal.nD Cert.WOutRefIdeal.τ).loc Cert.WOutRefIdeal.main_arg2) = m' ((c.tc : Thread Cert.WOutRefIdeal.nD Cert.WOutRefIdeal.τ).loc Cert.WOutRefIdeal.main_arg2)
          ∧ r.2.mem ((c.tc : Thread Cert.WOutRefIdeal.nD Cert.WOutRefIdeal.τ).loc Cert.WOutRefIdeal.main_arg3) = m' ((c.tc : Thread Cert.WOutRefIdeal.nD Cert.WOutRefIdeal.τ).loc Cert.WOutRefIdeal.main_arg3)
          ∧ r.2.mem ((c.tc : Thread Cert.WOutRefIdeal.nD Cert.WOutRefIdeal.τ).loc Cert.WOutRefIdeal.main_arg4) = m' ((c.tc : Thread Cert.WOutRefIdeal.nD Cert.WOutRefIdeal.τ).loc Cert.WOutRefIdeal.main_arg4))

def preserves_CaO_CaOIdeal : Prop :=
  True

def algebraic_CaOIdeal_CaORefIdeal [hCaOIdeal : Cert.CaOIdeal.Facts] [hCaORefIdeal : Cert.CaORefIdeal.Facts] : Prop :=
  ∀ (m : (ℓ : Loc Cert.CaOIdeal.nD Cert.CaOIdeal.τ Cert.CaOIdeal.sig) → Buf (Elt Ideal) ℓ) (g : Dev Cert.CaOIdeal.nD → PrngReg)
    (m' : (ℓ : Loc Cert.CaORefIdeal.nD Cert.CaORefIdeal.τ Cert.CaORefIdeal.sig) → Buf (Elt Ideal) ℓ) (g' : Dev Cert.CaORefIdeal.nD → PrngReg), Pre_CaOIdeal m →
    (∀ c : Dev Cert.CaOIdeal.nD,
      m' ((c.tc : Thread Cert.CaORefIdeal.nD Cert.CaORefIdeal.τ).loc Cert.CaORefIdeal.main_arg0) = m ((c.tc : Thread Cert.CaOIdeal.nD Cert.CaOIdeal.τ).loc Cert.CaOIdeal.main_arg0)
      ∧ m' ((c.tc : Thread Cert.CaORefIdeal.nD Cert.CaORefIdeal.τ).loc Cert.CaORefIdeal.main_arg1) = m ((c.tc : Thread Cert.CaOIdeal.nD Cert.CaOIdeal.τ).loc Cert.CaOIdeal.main_arg1)
      ∧ m' ((c.tc : Thread Cert.CaORefIdeal.nD Cert.CaORefIdeal.τ).loc Cert.CaORefIdeal.main_arg2) = m ((c.tc : Thread Cert.CaOIdeal.nD Cert.CaOIdeal.τ).loc Cert.CaOIdeal.main_arg2)
      ∧ m' ((c.tc : Thread Cert.CaORefIdeal.nD Cert.CaORefIdeal.τ).loc Cert.CaORefIdeal.main_arg3) = m ((c.tc : Thread Cert.CaOIdeal.nD Cert.CaOIdeal.τ).loc Cert.CaOIdeal.main_arg3)
      ∧ m' ((c.tc : Thread Cert.CaORefIdeal.nD Cert.CaORefIdeal.τ).loc Cert.CaORefIdeal.main_arg4) = m ((c.tc : Thread Cert.CaOIdeal.nD Cert.CaOIdeal.τ).loc Cert.CaOIdeal.main_arg4)) →
    ∃ (v0 : (c : Dev Cert.CaOIdeal.nD) → Buf (Elt Ideal) ((c.tc : Thread Cert.CaOIdeal.nD Cert.CaOIdeal.τ).loc Cert.CaOIdeal.main_v4_0)) (v1 : (c : Dev Cert.CaOIdeal.nD) → Buf (Elt Ideal) ((c.tc : Thread Cert.CaOIdeal.nD Cert.CaOIdeal.τ).loc Cert.CaOIdeal.main_v4_1)),
      θ_run (Cert.CaOIdeal.defs (F := Ideal)) (onTc (τ := Cert.CaOIdeal.τ) (Cert.CaOIdeal.main (F := Ideal))) ⟨m, fun _ => 0, g⟩ (fun r => ∀ c : Dev Cert.CaOIdeal.nD,
          r.2.mem ((c.tc : Thread Cert.CaOIdeal.nD Cert.CaOIdeal.τ).loc Cert.CaOIdeal.main_v4_0) = v0 c
          ∧ r.2.mem ((c.tc : Thread Cert.CaOIdeal.nD Cert.CaOIdeal.τ).loc Cert.CaOIdeal.main_v4_1) = v1 c
          ∧ r.2.mem ((c.tc : Thread Cert.CaOIdeal.nD Cert.CaOIdeal.τ).loc Cert.CaOIdeal.main_arg0) = m ((c.tc : Thread Cert.CaOIdeal.nD Cert.CaOIdeal.τ).loc Cert.CaOIdeal.main_arg0)
          ∧ r.2.mem ((c.tc : Thread Cert.CaOIdeal.nD Cert.CaOIdeal.τ).loc Cert.CaOIdeal.main_arg1) = m ((c.tc : Thread Cert.CaOIdeal.nD Cert.CaOIdeal.τ).loc Cert.CaOIdeal.main_arg1)
          ∧ r.2.mem ((c.tc : Thread Cert.CaOIdeal.nD Cert.CaOIdeal.τ).loc Cert.CaOIdeal.main_arg2) = m ((c.tc : Thread Cert.CaOIdeal.nD Cert.CaOIdeal.τ).loc Cert.CaOIdeal.main_arg2)
          ∧ r.2.mem ((c.tc : Thread Cert.CaOIdeal.nD Cert.CaOIdeal.τ).loc Cert.CaOIdeal.main_arg3) = m ((c.tc : Thread Cert.CaOIdeal.nD Cert.CaOIdeal.τ).loc Cert.CaOIdeal.main_arg3)
          ∧ r.2.mem ((c.tc : Thread Cert.CaOIdeal.nD Cert.CaOIdeal.τ).loc Cert.CaOIdeal.main_arg4) = m ((c.tc : Thread Cert.CaOIdeal.nD Cert.CaOIdeal.τ).loc Cert.CaOIdeal.main_arg4))
      ∧ θ_run (Cert.CaORefIdeal.defs (F := Ideal)) (onTc (τ := Cert.CaORefIdeal.τ) (Cert.CaORefIdeal.main (F := Ideal))) ⟨m', fun _ => 0, g'⟩ (fun r => ∀ c : Dev Cert.CaORefIdeal.nD,
          r.2.mem ((c.tc : Thread Cert.CaORefIdeal.nD Cert.CaORefIdeal.τ).loc Cert.CaORefIdeal.main_v27) = v0 c
          ∧ r.2.mem ((c.tc : Thread Cert.CaORefIdeal.nD Cert.CaORefIdeal.τ).loc Cert.CaORefIdeal.main_v28) = v1 c
          ∧ r.2.mem ((c.tc : Thread Cert.CaORefIdeal.nD Cert.CaORefIdeal.τ).loc Cert.CaORefIdeal.main_arg0) = m' ((c.tc : Thread Cert.CaORefIdeal.nD Cert.CaORefIdeal.τ).loc Cert.CaORefIdeal.main_arg0)
          ∧ r.2.mem ((c.tc : Thread Cert.CaORefIdeal.nD Cert.CaORefIdeal.τ).loc Cert.CaORefIdeal.main_arg1) = m' ((c.tc : Thread Cert.CaORefIdeal.nD Cert.CaORefIdeal.τ).loc Cert.CaORefIdeal.main_arg1)
          ∧ r.2.mem ((c.tc : Thread Cert.CaORefIdeal.nD Cert.CaORefIdeal.τ).loc Cert.CaORefIdeal.main_arg2) = m' ((c.tc : Thread Cert.CaORefIdeal.nD Cert.CaORefIdeal.τ).loc Cert.CaORefIdeal.main_arg2)
          ∧ r.2.mem ((c.tc : Thread Cert.CaORefIdeal.nD Cert.CaORefIdeal.τ).loc Cert.CaORefIdeal.main_arg3) = m' ((c.tc : Thread Cert.CaORefIdeal.nD Cert.CaORefIdeal.τ).loc Cert.CaORefIdeal.main_arg3)
          ∧ r.2.mem ((c.tc : Thread Cert.CaORefIdeal.nD Cert.CaORefIdeal.τ).loc Cert.CaORefIdeal.main_arg4) = m' ((c.tc : Thread Cert.CaORefIdeal.nD Cert.CaORefIdeal.τ).loc Cert.CaORefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v23_0)) (v1 : (c : Dev Cert.QkvIdeal.nD) → Buf (Elt Ideal) ((c.tc : Thread Cert.QkvIdeal.nD Cert.QkvIdeal.τ).loc Cert.QkvIdeal.main_v23_1)) (v2 : (c : Dev Cert.QkvIdeal.nD) → Buf (Elt Ideal) ((c.tc : Thread Cert.QkvIdeal.nD Cert.QkvIdeal.τ).loc Cert.QkvIdeal.main_v23_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v23_0) = v0 c
          ∧ r.2.mem ((c.tc : Thread Cert.QkvIdeal.nD Cert.QkvIdeal.τ).loc Cert.QkvIdeal.main_v23_1) = v1 c
          ∧ r.2.mem ((c.tc : Thread Cert.QkvIdeal.nD Cert.QkvIdeal.τ).loc Cert.QkvIdeal.main_v23_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v77) = v0 c
          ∧ r.2.mem ((c.tc : Thread Cert.QkvRefIdeal.nD Cert.QkvRefIdeal.τ).loc Cert.QkvRefIdeal.main_v80) = v1 c
          ∧ r.2.mem ((c.tc : Thread Cert.QkvRefIdeal.nD Cert.QkvRefIdeal.τ).loc Cert.QkvRefIdeal.main_v83) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)
      ∧ m' ((c.tc : Thread Cert.ProjARefIdeal.nD Cert.ProjARefIdeal.τ).loc Cert.ProjARefIdeal.main_arg3) = m ((c.tc : Thread Cert.ProjAIdeal.nD Cert.ProjAIdeal.τ).loc Cert.ProjAIdeal.main_arg3)
      ∧ m' ((c.tc : Thread Cert.ProjARefIdeal.nD Cert.ProjARefIdeal.τ).loc Cert.ProjARefIdeal.main_arg4) = m ((c.tc : Thread Cert.ProjAIdeal.nD Cert.ProjAIdeal.τ).loc Cert.ProjAIdeal.main_arg4)
      ∧ m' ((c.tc : Thread Cert.ProjARefIdeal.nD Cert.ProjARefIdeal.τ).loc Cert.ProjARefIdeal.main_arg5) = m ((c.tc : Thread Cert.ProjAIdeal.nD Cert.ProjAIdeal.τ).loc Cert.ProjAIdeal.main_arg5)) →
    ∃ (v0 : (c : Dev Cert.ProjAIdeal.nD) → Buf (Elt Ideal) ((c.tc : Thread Cert.ProjAIdeal.nD Cert.ProjAIdeal.τ).loc Cert.ProjAIdeal.main_v12)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v12) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
          ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4)
          ∧ r.2.mem ((c.tc : Thread Cert.ProjAIdeal.nD Cert.ProjAIdeal.τ).loc Cert.ProjAIdeal.main_arg5) = m ((c.tc : Thread Cert.ProjAIdeal.nD Cert.ProjAIdeal.τ).loc Cert.ProjAIdeal.main_arg5))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v35) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2)
          ∧ r.2.mem ((c.tc : Thread Cert.ProjARefIdeal.nD Cert.ProjARefIdeal.τ).loc Cert.ProjARefIdeal.main_arg3) = m' ((c.tc : Thread Cert.ProjARefIdeal.nD Cert.ProjARefIdeal.τ).loc Cert.ProjARefIdeal.main_arg3)
          ∧ r.2.mem ((c.tc : Thread Cert.ProjARefIdeal.nD Cert.ProjARefIdeal.τ).loc Cert.ProjARefIdeal.main_arg4) = m' ((c.tc : Thread Cert.ProjARefIdeal.nD Cert.ProjARefIdeal.τ).loc Cert.ProjARefIdeal.main_arg4)
          ∧ r.2.mem ((c.tc : Thread Cert.ProjARefIdeal.nD Cert.ProjARefIdeal.τ).loc Cert.ProjARefIdeal.main_arg5) = m' ((c.tc : Thread Cert.ProjARefIdeal.nD Cert.ProjARefIdeal.τ).loc Cert.ProjARefIdeal.main_arg5))

def Claim : Prop :=
  ∃ (hKernel : Cert.Kernel.Facts) (hKernelIdeal : Cert.KernelIdeal.Facts) (hReferenceIdeal : Cert.ReferenceIdeal.Facts) (hRkv : Cert.Rkv.Facts) (hRkvIdeal : Cert.RkvIdeal.Facts) (hRkvRefIdeal : Cert.RkvRefIdeal.Facts) (hLora : Cert.Lora.Facts) (hLoraIdeal : Cert.LoraIdeal.Facts) (hLoraRefIdeal : Cert.LoraRefIdeal.Facts) (hGate : Cert.Gate.Facts) (hGateIdeal : Cert.GateIdeal.Facts) (hGateRefIdeal : Cert.GateRefIdeal.Facts) (hCaQ : Cert.CaQ.Facts) (hCaQIdeal : Cert.CaQIdeal.Facts) (hCaQRefIdeal : Cert.CaQRefIdeal.Facts) (hCaKv : Cert.CaKv.Facts) (hCaKvIdeal : Cert.CaKvIdeal.Facts) (hCaKvRefIdeal : Cert.CaKvRefIdeal.Facts) (hMoe : Cert.Moe.Facts) (hMoeIdeal : Cert.MoeIdeal.Facts) (hMoeRefIdeal : Cert.MoeRefIdeal.Facts) (hWOut : Cert.WOut.Facts) (hWOutIdeal : Cert.WOutIdeal.Facts) (hWOutRefIdeal : Cert.WOutRefIdeal.Facts) (hCaO : Cert.CaO.Facts) (hCaOIdeal : Cert.CaOIdeal.Facts) (hCaORefIdeal : Cert.CaORefIdeal.Facts) (hQkv : Cert.Qkv.Facts) (hQkvIdeal : Cert.QkvIdeal.Facts) (hQkvRefIdeal : Cert.QkvRefIdeal.Facts) (hProjA : Cert.ProjA.Facts) (hProjAIdeal : Cert.ProjAIdeal.Facts) (hProjARefIdeal : Cert.ProjARefIdeal.Facts),
    quiescent_Kernel (hKernel := hKernel)
    ∧ quiescent_KernelIdeal (hKernelIdeal := hKernelIdeal)
    ∧ quiescent_ReferenceIdeal (hReferenceIdeal := hReferenceIdeal)
    ∧ quiescent_Rkv (hRkv := hRkv)
    ∧ quiescent_RkvIdeal (hRkvIdeal := hRkvIdeal)
    ∧ quiescent_RkvRefIdeal (hRkvRefIdeal := hRkvRefIdeal)
    ∧ quiescent_Lora (hLora := hLora)
    ∧ quiescent_LoraIdeal (hLoraIdeal := hLoraIdeal)
    ∧ quiescent_LoraRefIdeal (hLoraRefIdeal := hLoraRefIdeal)
    ∧ quiescent_Gate (hGate := hGate)
    ∧ quiescent_GateIdeal (hGateIdeal := hGateIdeal)
    ∧ quiescent_GateRefIdeal (hGateRefIdeal := hGateRefIdeal)
    ∧ quiescent_CaQ (hCaQ := hCaQ)
    ∧ quiescent_CaQIdeal (hCaQIdeal := hCaQIdeal)
    ∧ quiescent_CaQRefIdeal (hCaQRefIdeal := hCaQRefIdeal)
    ∧ quiescent_CaKv (hCaKv := hCaKv)
    ∧ quiescent_CaKvIdeal (hCaKvIdeal := hCaKvIdeal)
    ∧ quiescent_CaKvRefIdeal (hCaKvRefIdeal := hCaKvRefIdeal)
    ∧ quiescent_Moe (hMoe := hMoe)
    ∧ quiescent_MoeIdeal (hMoeIdeal := hMoeIdeal)
    ∧ quiescent_MoeRefIdeal (hMoeRefIdeal := hMoeRefIdeal)
    ∧ quiescent_WOut (hWOut := hWOut)
    ∧ quiescent_WOutIdeal (hWOutIdeal := hWOutIdeal)
    ∧ quiescent_WOutRefIdeal (hWOutRefIdeal := hWOutRefIdeal)
    ∧ quiescent_CaO (hCaO := hCaO)
    ∧ quiescent_CaOIdeal (hCaOIdeal := hCaOIdeal)
    ∧ quiescent_CaORefIdeal (hCaORefIdeal := hCaORefIdeal)
    ∧ quiescent_Qkv (hQkv := hQkv)
    ∧ quiescent_QkvIdeal (hQkvIdeal := hQkvIdeal)
    ∧ quiescent_QkvRefIdeal (hQkvRefIdeal := hQkvRefIdeal)
    ∧ quiescent_ProjA (hProjA := hProjA)
    ∧ quiescent_ProjAIdeal (hProjAIdeal := hProjAIdeal)
    ∧ quiescent_ProjARefIdeal (hProjARefIdeal := hProjARefIdeal)
    ∧ preserves_Kernel_KernelIdeal
    ∧ algebraic_KernelIdeal_ReferenceIdeal (hKernelIdeal := hKernelIdeal) (hReferenceIdeal := hReferenceIdeal)
    ∧ preserves_Rkv_RkvIdeal
    ∧ algebraic_RkvIdeal_RkvRefIdeal (hRkvIdeal := hRkvIdeal) (hRkvRefIdeal := hRkvRefIdeal)
    ∧ preserves_Lora_LoraIdeal
    ∧ algebraic_LoraIdeal_LoraRefIdeal (hLoraIdeal := hLoraIdeal) (hLoraRefIdeal := hLoraRefIdeal)
    ∧ preserves_Gate_GateIdeal
    ∧ algebraic_GateIdeal_GateRefIdeal (hGateIdeal := hGateIdeal) (hGateRefIdeal := hGateRefIdeal)
    ∧ preserves_CaQ_CaQIdeal
    ∧ algebraic_CaQIdeal_CaQRefIdeal (hCaQIdeal := hCaQIdeal) (hCaQRefIdeal := hCaQRefIdeal)
    ∧ preserves_CaKv_CaKvIdeal
    ∧ algebraic_CaKvIdeal_CaKvRefIdeal (hCaKvIdeal := hCaKvIdeal) (hCaKvRefIdeal := hCaKvRefIdeal)
    ∧ preserves_Moe_MoeIdeal
    ∧ algebraic_MoeIdeal_MoeRefIdeal (hMoeIdeal := hMoeIdeal) (hMoeRefIdeal := hMoeRefIdeal)
    ∧ preserves_WOut_WOutIdeal
    ∧ algebraic_WOutIdeal_WOutRefIdeal (hWOutIdeal := hWOutIdeal) (hWOutRefIdeal := hWOutRefIdeal)
    ∧ preserves_CaO_CaOIdeal
    ∧ algebraic_CaOIdeal_CaORefIdeal (hCaOIdeal := hCaOIdeal) (hCaORefIdeal := hCaORefIdeal)
    ∧ preserves_Qkv_QkvIdeal
    ∧ algebraic_QkvIdeal_QkvRefIdeal (hQkvIdeal := hQkvIdeal) (hQkvRefIdeal := hQkvRefIdeal)
    ∧ preserves_ProjA_ProjAIdeal
    ∧ algebraic_ProjAIdeal_ProjARefIdeal (hProjAIdeal := hProjAIdeal) (hProjARefIdeal := hProjARefIdeal)
-- ==== Kernel.lean ====
abbrev S4x4096x3x8x64 : Shape := ⟨5, ![4, 4096, 3, 8, 64]⟩
abbrev S4x1024x6144 : Shape := ⟨3, ![4, 1024, 6144]⟩
abbrev S4x1024x2048 : Shape := ⟨3, ![4, 1024, 2048]⟩
abbrev S1x256x512 : Shape := ⟨3, ![1, 256, 512]⟩
abbrev S1x128x512 : Shape := ⟨3, ![1, 128, 512]⟩
abbrev S128x256 : Shape := ⟨2, ![128, 256]⟩
abbrev S128x512 : Shape := ⟨2, ![128, 512]⟩
abbrev S256x512 : Shape := ⟨2, ![256, 512]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S1x128x64 : Shape := ⟨3, ![1, 128, 64]⟩

abbrev nBuf : Space → Nat
  | .hbm => 4
  | .vmem => 14
  | .smem => 0
  | _ => 0

abbrev bufTy : (tb : Table) → Fin (tcTables nBuf tb) → BufTy
  | .hbm, ⟨0, _⟩ => ⟨S4x4096x3x8x64, .f32⟩
  | .hbm, ⟨1, _⟩ => ⟨S4x1024x6144, .f32⟩
  | .hbm, ⟨2, _⟩ => ⟨S4x1024x2048, .f32⟩
  | .hbm, ⟨3, _⟩ => ⟨S4x1024x2048, .f32⟩
  | .local _ .vmem, ⟨0, _⟩ => ⟨S1x256x512, .f32⟩
  | .local _ .vmem, ⟨1, _⟩ => ⟨S1x256x512, .f32⟩
  | .local _ .vmem, ⟨2, _⟩ => ⟨S1x128x512, .f32⟩
  | .local _ .vmem, ⟨3, _⟩ => ⟨S1x128x512, .f32⟩
  | .local _ .vmem, ⟨4, _⟩ => ⟨S1x256x512, .f32⟩
  | .local _ .vmem, ⟨5, _⟩ => ⟨S1x256x512, .f32⟩
  | .local _ .vmem, ⟨6, _⟩ => ⟨S1x128x512, .f32⟩
  | .local _ .vmem, ⟨7, _⟩ => ⟨S1x128x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | _, _ => ⟨S4x4096x3x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli arg1 c3_i32
  let c1_i32_0 : BitVec 32 := 1#32
  let v4 : BitVec 32 := Scalar.addi v3 c1_i32_0
  let c0_i32_1 : BitVec 32 := 0#32
  ![arg0.toNat, v2.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli arg1 c3_i32
  let c2_i32_0 : BitVec 32 := 2#32
  let v4 : BitVec 32 := Scalar.addi v3 c2_i32_0
  let c0_i32_1 : BitVec 32 := 0#32
  ![arg0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  ![arg0.toNat, arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x3x8x64 : Shape := ⟨5, ![4, 4096, 3, 8, 64]⟩
abbrev S4x4096x1x8x64 : Shape := ⟨5, ![4, 4096, 1, 8, 64]⟩
abbrev S4x4096x8x64 : Shape := ⟨4, ![4, 4096, 8, 64]⟩
abbrev S4x1024x4x8x64 : Shape := ⟨5, ![4, 1024, 4, 8, 64]⟩
abbrev S4x4x1024x8x64 : Shape := ⟨5, ![4, 4, 1024, 8, 64]⟩
abbrev S4x4x8x128x8x64 : Shape := ⟨6, ![4, 4, 8, 128, 8, 64]⟩
abbrev S_ : Shape := ⟨0, ![]⟩
abbrev S4x4x9x128x8x64 : Shape := ⟨6, ![4, 4, 9, 128, 8, 64]⟩
abbrev S4x4x8x256x8x64 : Shape := ⟨6, ![4, 4, 8, 256, 8, 64]⟩
abbrev S4x4x8x8x128x256 : Shape := ⟨6, ![4, 4, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x1x8x1x128x256 : Shape := ⟨6, ![1, 1, 8, 1, 128, 256]⟩
abbrev S4x4x8x8x128 : Shape := ⟨5, ![4, 4, 8, 8, 128]⟩
abbrev S4x4x8x8x128x1 : Shape := ⟨6, ![4, 4, 8, 8, 128, 1]⟩
abbrev S4x4x8x8x64x128 : Shape := ⟨6, ![4, 4, 8, 8, 64, 128]⟩
abbrev S4x4x8x128x8 : Shape := ⟨5, ![4, 4, 8, 128, 8]⟩
abbrev S4x4x8x128x8x1 : Shape := ⟨6, ![4, 4, 8, 128, 8, 1]⟩
abbrev S4x4x1024x8 : Shape := ⟨4, ![4, 4, 1024, 8]⟩
abbrev S4x1024x4x8 : Shape := ⟨4, ![4, 1024, 4, 8]⟩
abbrev S4x4096x8 : Shape := ⟨3, ![4, 4096, 8]⟩
abbrev S4x4096x8x1 : Shape := ⟨4, ![4, 4096, 8, 1]⟩
abbrev S4x1024x2048 : Shape := ⟨3, ![4, 1024, 2048]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x3x8x64, .f32⟩
  | .hbm, ⟨1, _⟩ => ⟨S4x4096x1x8x64, .f32⟩
  | .hbm, ⟨2, _⟩ => ⟨S4x4096x8x64, .f32⟩
  | .hbm, ⟨3, _⟩ => ⟨S4x4096x1x8x64, .f32⟩
  | .hbm, ⟨4, _⟩ => ⟨S4x4096x8x64, .f32⟩
  | .hbm, ⟨5, _⟩ => ⟨S4x4096x1x8x64, .f32⟩
  | .hbm, ⟨6, _⟩ => ⟨S4x4096x8x64, .f32⟩
  | .hbm, ⟨7, _⟩ => ⟨S4x1024x4x8x64, .f32⟩
  | .hbm, ⟨8, _⟩ => ⟨S4x4x1024x8x64, .f32⟩
  | .hbm, ⟨9, _⟩ => ⟨S4x4x8x128x8x64, .f32⟩
  | .hbm, ⟨10, _⟩ => ⟨S4x1024x4x8x64, .f32⟩
  | .hbm, ⟨11, _⟩ => ⟨S4x4x1024x8x64, .f32⟩
  | .hbm, ⟨12, _⟩ => ⟨S4x4x8x128x8x64, .f32⟩
  | .hbm, ⟨13, _⟩ => ⟨S_, .i32⟩
  | .hbm, ⟨14, _⟩ => ⟨S_, .f32⟩
  | .hbm, ⟨15, _⟩ => ⟨S4x4x9x128x8x64, .f32⟩
  | .hbm, ⟨16, _⟩ => ⟨S4x4x8x128x8x64, .f32⟩
  | .hbm, ⟨17, _⟩ => ⟨S4x4x8x256x8x64, .f32⟩
  | .hbm, ⟨18, _⟩ => ⟨S4x1024x4x8x64, .f32⟩
  | .hbm, ⟨19, _⟩ => ⟨S4x4x1024x8x64, .f32⟩
  | .hbm, ⟨20, _⟩ => ⟨S4x4x8x128x8x64, .f32⟩
  | .hbm, ⟨21, _⟩ => ⟨S_, .i32⟩
  | .hbm, ⟨22, _⟩ => ⟨S_, .f32⟩
  | .hbm, ⟨23, _⟩ => ⟨S4x4x9x128x8x64, .f32⟩
  | .hbm, ⟨24, _⟩ => ⟨S4x4x8x128x8x64, .f32⟩
  | .hbm, ⟨25, _⟩ => ⟨S4x4x8x256x8x64, .f32⟩
  | .hbm, ⟨26, _⟩ => ⟨S4x4x8x8x128x256, .f32⟩
  | .hbm, ⟨27, _⟩ => ⟨S_, .f32⟩
  | .hbm, ⟨28, _⟩ => ⟨S4x4x8x8x128x256, .f32⟩
  | .hbm, ⟨29, _⟩ => ⟨S4x4x8x8x128x256, .f32⟩
  | .hbm, ⟨30, _⟩ => ⟨S128, .i32⟩
  | .hbm, ⟨31, _⟩ => ⟨S128x1, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S8, .i32⟩
  | .hbm, ⟨48, _⟩ => ⟨S_, .i32⟩
  | .hbm, ⟨49, _⟩ => ⟨S8, .i32⟩
  | .hbm, ⟨50, _⟩ => ⟨S8, .i1⟩
  | .hbm, ⟨51, _⟩ => ⟨S8x1x1, .i1⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x1x256, .i1⟩
  | .hbm, ⟨56, _⟩ => ⟨S8x1x256, .i1⟩
  | .hbm, ⟨57, _⟩ => ⟨S8x1x256, .i1⟩
  | .hbm, ⟨58, _⟩ => ⟨S8x1x256, .i1⟩
  | .hbm, ⟨59, _⟩ => ⟨S1x128x256, .i1⟩
  | .hbm, ⟨60, _⟩ => ⟨S8x128x256, .i1⟩
  | .hbm, ⟨61, _⟩ => ⟨S8x128x256, .i1⟩
  | .hbm, ⟨62, _⟩ => ⟨S8x128x256, .i1⟩
  | .hbm, ⟨63, _⟩ => ⟨S1x1x8x1x128x256, .i1⟩
  | .hbm, ⟨64, _⟩ => ⟨S_, .f32⟩
  | .hbm, ⟨65, _⟩ => ⟨S_, .f32⟩
  | .hbm, ⟨66, _⟩ => ⟨S4x4x8x8x128x256, .i1⟩
  | .hbm, ⟨67, _⟩ => ⟨S4x4x8x8x128x256, .f32⟩
  | .hbm, ⟨68, _⟩ => ⟨S4x4x8x8x128x256, .f32⟩
  | .hbm, ⟨69, _⟩ => ⟨S_, .f32⟩
  | .hbm, ⟨70, _⟩ => ⟨S4x4x8x8x128, .f32⟩
  | .hbm, ⟨71, _⟩ => ⟨S4x4x8x8x128x1, .f32⟩
  | .hbm, ⟨72, _⟩ => ⟨S4x4x8x8x128x256, .f32⟩
  | .hbm, ⟨73, _⟩ => ⟨S4x4x8x8x128x256, .f32⟩
  | .hbm, ⟨74, _⟩ => ⟨S4x4x8x8x128x256, .f32⟩
  | .hbm, ⟨75, _⟩ => ⟨S_, .f32⟩
  | .hbm, ⟨76, _⟩ => ⟨S4x4x8x8x128, .f32⟩
  | .hbm, ⟨77, _⟩ => ⟨S4x4x8x8x128x1, .f32⟩
  | .hbm, ⟨78, _⟩ => ⟨S4x4x8x8x64x128, .f32⟩
  | .hbm, ⟨79, _⟩ => ⟨S4x4x8x128x8x64, .f32⟩
  | .hbm, ⟨80, _⟩ => ⟨S4x4x8x8x128, .f32⟩
  | .hbm, ⟨81, _⟩ => ⟨S4x4x8x128x8, .f32⟩
  | .hbm, ⟨82, _⟩ => ⟨S4x4x8x128x8x1, .f32⟩
  | .hbm, ⟨83, _⟩ => ⟨S4x4x8x128x8x64, .f32⟩
  | .hbm, ⟨84, _⟩ => ⟨S4x4x8x128x8x64, .f32⟩
  | .hbm, ⟨85, _⟩ => ⟨S4x4x8x8x128x1, .f32⟩
  | .hbm, ⟨86, _⟩ => ⟨S4x4x8x8x128x1, .f32⟩
  | .hbm, ⟨87, _⟩ => ⟨S4x4x8x8x128, .f32⟩
  | .hbm, ⟨88, _⟩ => ⟨S4x4x8x128x8, .f32⟩
  | .hbm, ⟨89, _⟩ => ⟨S4x4x1024x8x64, .f32⟩
  | .hbm, ⟨90, _⟩ => ⟨S4x1024x4x8x64, .f32⟩
  | .hbm, ⟨91, _⟩ => ⟨S4x4096x8x64, .f32⟩
  | .hbm, ⟨92, _⟩ => ⟨S4x4x1024x8, .f32⟩
  | .hbm, ⟨93, _⟩ => ⟨S4x1024x4x8, .f32⟩
  | .hbm, ⟨94, _⟩ => ⟨S4x4096x8, .f32⟩
  | .hbm, ⟨95, _⟩ => ⟨S4x4096x8x1, .f32⟩
  | .hbm, ⟨96, _⟩ => ⟨S4x4096x8x64, .f32⟩
  | .hbm, ⟨97, _⟩ => ⟨S4x1024x2048, .f32⟩
  | .hbm, ⟨98, _⟩ => ⟨S4x1024x2048, .f32⟩
  | _, _ => ⟨S4x4096x3x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_call0_v0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_call1_v0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_2 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩

abbrev nD : Nat := 1
abbrev τ : Topo := Topo.v7x

variable {F : FTy → Type} [FloatOps F]
-- ==== Rkv.lean ====
abbrev S4x4096x2048 : Shape := ⟨3, ![4, 4096, 2048]⟩
abbrev S2048x15296 : Shape := ⟨2, ![2048, 15296]⟩
abbrev S16384x2048 : Shape := ⟨2, ![16384, 2048]⟩
abbrev S2048x6144 : Shape := ⟨2, ![2048, 6144]⟩
abbrev S2048x3x2048 : Shape := ⟨3, ![2048, 3, 2048]⟩
abbrev S2048x3x32x64 : Shape := ⟨4, ![2048, 3, 32, 64]⟩
abbrev S2048x3x64x32 : Shape := ⟨4, ![2048, 3, 64, 32]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x15296, .f32⟩
  | .hbm, ⟨2, _⟩ => ⟨S4x4096x2048, .bf16⟩
  | .hbm, ⟨3, _⟩ => ⟨S16384x2048, .bf16⟩
  | .hbm, ⟨4, _⟩ => ⟨S2048x6144, .f32⟩
  | .hbm, ⟨5, _⟩ => ⟨S2048x3x2048, .f32⟩
  | .hbm, ⟨6, _⟩ => ⟨S2048x3x32x64, .f32⟩
  | .hbm, ⟨7, _⟩ => ⟨S2048x3x64x32, .f32⟩
  | .hbm, ⟨8, _⟩ => ⟨S2048x3x2048, .f32⟩
  | .hbm, ⟨9, _⟩ => ⟨S2048x6144, .f32⟩
  | .hbm, ⟨10, _⟩ => ⟨S16384x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RkvRefIdeal.lean ====
abbrev S4x4096x2048 : Shape := ⟨3, ![4, 4096, 2048]⟩
abbrev S2048x15296 : Shape := ⟨2, ![2048, 15296]⟩
abbrev S4x4096x15296 : Shape := ⟨3, ![4, 4096, 15296]⟩
abbrev S4x4096x6144 : Shape := ⟨3, ![4, 4096, 6144]⟩
abbrev S16384x3x32x64 : Shape := ⟨4, ![16384, 3, 32, 64]⟩
abbrev S16384x3x64x32 : Shape := ⟨4, ![16384, 3, 64, 32]⟩
abbrev S16384x6144 : Shape := ⟨2, ![16384, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15296, .f32⟩
  | .hbm, ⟨2, _⟩ => ⟨S4x4096x15296, .f32⟩
  | .hbm, ⟨3, _⟩ => ⟨S4x4096x6144, .f32⟩
  | .hbm, ⟨4, _⟩ => ⟨S16384x3x32x64, .f32⟩
  | .hbm, ⟨5, _⟩ => ⟨S16384x3x64x32, .f32⟩
  | .hbm, ⟨6, _⟩ => ⟨S16384x6144, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Lora.lean ====
abbrev S4x4096x2048 : Shape := ⟨3, ![4, 4096, 2048]⟩
abbrev S2048x15296 : Shape := ⟨2, ![2048, 15296]⟩
abbrev S16384x2048 : Shape := ⟨2, ![16384, 2048]⟩
abbrev S2048x448 : Shape := ⟨2, ![2048, 448]⟩
abbrev S16384x448 : Shape := ⟨2, ![16384, 448]⟩
abbrev S1024x2048 : Shape := ⟨2, ![1024, 2048]⟩
abbrev S1024x448 : Shape := ⟨2, ![1024, 448]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x15296, .f32⟩
  | .hbm, ⟨2, _⟩ => ⟨S4x4096x2048, .bf16⟩
  | .hbm, ⟨3, _⟩ => ⟨S16384x2048, .bf16⟩
  | .hbm, ⟨4, _⟩ => ⟨S2048x448, .f32⟩
  | .hbm, ⟨5, _⟩ => ⟨S16384x448, .f32⟩
  | .local _ .vmem, ⟨0, _⟩ => ⟨S1024x2048, .bf16⟩
  | .local _ .vmem, ⟨1, _⟩ => ⟨S1024x2048, .bf16⟩
  | .local _ .vmem, ⟨2, _⟩ => ⟨S2048x448, .f32⟩
  | .local _ .vmem, ⟨3, _⟩ => ⟨S1024x448, .f32⟩
  | .local _ .vmem, ⟨4, _⟩ => ⟨S1024x448, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x448 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LoraRefIdeal.lean ====
abbrev S4x4096x2048 : Shape := ⟨3, ![4, 4096, 2048]⟩
abbrev S2048x15296 : Shape := ⟨2, ![2048, 15296]⟩
abbrev S4x4096x15296 : Shape := ⟨3, ![4, 4096, 15296]⟩
abbrev S4x4096x448 : Shape := ⟨3, ![4, 4096, 448]⟩
abbrev S16384x448 : Shape := ⟨2, ![16384, 448]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15296, .f32⟩
  | .hbm, ⟨2, _⟩ => ⟨S4x4096x15296, .f32⟩
  | .hbm, ⟨3, _⟩ => ⟨S4x4096x448, .f32⟩
  | .hbm, ⟨4, _⟩ => ⟨S16384x448, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gate.lean ====
abbrev S4x4096x2048 : Shape := ⟨3, ![4, 4096, 2048]⟩
abbrev S2048x15296 : Shape := ⟨2, ![2048, 15296]⟩
abbrev S16384x2048 : Shape := ⟨2, ![16384, 2048]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x15296, .f32⟩
  | .hbm, ⟨2, _⟩ => ⟨S4x4096x2048, .bf16⟩
  | .hbm, ⟨3, _⟩ => ⟨S16384x2048, .bf16⟩
  | .hbm, ⟨4, _⟩ => ⟨S2048x4096, .f32⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S4x4096x2048 : Shape := ⟨3, ![4, 4096, 2048]⟩
abbrev S2048x15296 : Shape := ⟨2, ![2048, 15296]⟩
abbrev S4x4096x15296 : Shape := ⟨3, ![4, 4096, 15296]⟩
abbrev S4x4096x4096 : Shape := ⟨3, ![4, 4096, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15296, .f32⟩
  | .hbm, ⟨2, _⟩ => ⟨S4x4096x15296, .f32⟩
  | .hbm, ⟨3, _⟩ => ⟨S4x4096x4096, .f32⟩
  | .hbm, ⟨4, _⟩ => ⟨S16384x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CaQ.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .bf16⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CaQRefIdeal.lean ====
abbrev S16384x2048 : Shape := ⟨2, ![16384, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CaKv.lean ====
abbrev S4x256x2048 : Shape := ⟨3, ![4, 256, 2048]⟩
abbrev S2048x4096 : Shape := ⟨2, ![2048, 4096]⟩
abbrev S1024x2048 : Shape := ⟨2, ![1024, 2048]⟩
abbrev S1024x4096 : Shape := ⟨2, ![1024, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S2048x4096, .f32⟩
  | .hbm, ⟨2, _⟩ => ⟨S1024x2048, .f32⟩
  | .hbm, ⟨3, _⟩ => ⟨S1024x4096, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CaKvRefIdeal.lean ====
abbrev S4x256x2048 : Shape := ⟨3, ![4, 256, 2048]⟩
abbrev S2048x4096 : Shape := ⟨2, ![2048, 4096]⟩
abbrev S4x256x4096 : Shape := ⟨3, ![4, 256, 4096]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048x4096, .f32⟩
  | .hbm, ⟨2, _⟩ => ⟨S4x256x4096, .f32⟩
  | .hbm, ⟨3, _⟩ => ⟨S1024x4096, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Moe.lean ====
abbrev S32 : Shape := ⟨1, ![32]⟩
abbrev S69632x2048 : Shape := ⟨2, ![69632, 2048]⟩
abbrev S69632 : Shape := ⟨1, ![69632]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S544 : Shape := ⟨1, ![544]⟩
abbrev S_ : Shape := ⟨0, ![]⟩
abbrev S1x32 : Shape := ⟨2, ![1, 32]⟩
abbrev S544x1 : Shape := ⟨2, ![544, 1]⟩
abbrev S544x32 : Shape := ⟨2, ![544, 32]⟩
abbrev S1 : Shape := ⟨1, ![1]⟩
abbrev S32x1x2048 : Shape := ⟨3, ![32, 1, 2048]⟩
abbrev S69632x1 : Shape := ⟨2, ![69632, 1]⟩
abbrev S128x2048 : Shape := ⟨2, ![128, 2048]⟩
abbrev S128x1 : Shape := ⟨2, ![128, 1]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 49
  | .vmem => 18
  | .smem => 2
  | _ => 0

abbrev bufTy : (tb : Table) → Fin (tcTables nBuf tb) → BufTy
  | .hbm, ⟨0, _⟩ => ⟨S32, .i32⟩
  | .hbm, ⟨1, _⟩ => ⟨S69632x2048, .f32⟩
  | .hbm, ⟨2, _⟩ => ⟨S69632, .f32⟩
  | .hbm, ⟨3, _⟩ => ⟨S32x2048x4096, .f32⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S544, .i32⟩
  | .hbm, ⟨8, _⟩ => ⟨S_, .i32⟩
  | .hbm, ⟨9, _⟩ => ⟨S544, .i32⟩
  | .hbm, ⟨10, _⟩ => ⟨S544, .i32⟩
  | .hbm, ⟨11, _⟩ => ⟨S1x32, .i32⟩
  | .hbm, ⟨12, _⟩ => ⟨S544x1, .i32⟩
  | .hbm, ⟨13, _⟩ => ⟨S544x32, .i32⟩
  | .hbm, ⟨14, _⟩ => ⟨S544x32, .i32⟩
  | .hbm, ⟨15, _⟩ => ⟨S544x32, .i1⟩
  | .hbm, ⟨16, _⟩ => ⟨S544x32, .i32⟩
  | .hbm, ⟨17, _⟩ => ⟨S_, .i32⟩
  | .hbm, ⟨18, _⟩ => ⟨S544, .i32⟩
  | .hbm, ⟨19, _⟩ => ⟨S_, .i32⟩
  | .hbm, ⟨20, _⟩ => ⟨S544, .i32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S32x2048x2048, .f32⟩
  | .hbm, ⟨37, _⟩ => ⟨S32x2048x2048, .bf16⟩
  | .hbm, ⟨38, _⟩ => ⟨S32x2048x2048, .f32⟩
  | .hbm, ⟨39, _⟩ => ⟨S32x2048x2048, .bf16⟩
  | .hbm, ⟨40, _⟩ => ⟨S69632x2048, .bf16⟩
  | .hbm, ⟨41, _⟩ => ⟨S32x2048, .f32⟩
  | .hbm, ⟨42, _⟩ => ⟨S32x1x2048, .f32⟩
  | .hbm, ⟨43, _⟩ => ⟨S32x2048, .f32⟩
  | .hbm, ⟨44, _⟩ => ⟨S32x1x2048, .f32⟩
  | .hbm, ⟨45, _⟩ => ⟨S32x2048x2048, .bf16⟩
  | .hbm, ⟨46, _⟩ => ⟨S32x1x2048, .f32⟩
  | .hbm, ⟨47, _⟩ => ⟨S69632x1, .f32⟩
  | .hbm, ⟨48, _⟩ => ⟨S69632x2048, .f32⟩
  | .local _ .vmem, ⟨0, _⟩ => ⟨S128x2048, .bf16⟩
  | .local _ .vmem, ⟨1, _⟩ => ⟨S128x2048, .bf16⟩
  | .local _ .vmem, ⟨2, _⟩ => ⟨S128x1, .f32⟩
  | .local _ .vmem, ⟨3, _⟩ => ⟨S128x1, .f32⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S1x2048x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048x2048, .bf16⟩
  | .local _ .vmem, ⟨13, _⟩ => ⟨S1x2048x2048, .bf16⟩
  | .local _ .vmem, ⟨14, _⟩ => ⟨S1x1x2048, .f32⟩
  | .local _ .vmem, ⟨15, _⟩ => ⟨S1x1x2048, .f32⟩
  | .local _ .vmem, ⟨16, _⟩ => ⟨S128x2048, .f32⟩
  | .local _ .vmem, ⟨17, _⟩ => ⟨S128x2048, .f32⟩
  | .local _ .smem, ⟨0, _⟩ => ⟨S544, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c : Ref sig .tc := ⟨.hbm, 30, rfl⟩
abbrev main_call0_v6 : Ref sig .tc := ⟨.hbm, 31, rfl⟩
abbrev main_call0_v7 : Ref sig .tc := ⟨.hbm, 32, rfl⟩
abbrev main_call0_c_0 : Ref sig .tc := ⟨.hbm, 33, rfl⟩
abbrev main_call0_v8 : Ref sig .tc := ⟨.hbm, 34, rfl⟩
abbrev main_v14 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v11 : Ref sig .tc := ⟨.smem, 0, rfl⟩
abbrev main_v15 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_v11.idx, main_v15.idx], fun | 0 => main_v11.names | 1 => main_v15.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MoeRefIdeal.lean ====
abbrev S32 : Shape := ⟨1, ![32]⟩
abbrev S69632x2048 : Shape := ⟨2, ![69632, 2048]⟩
abbrev S69632 : Shape := ⟨1, ![69632]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S544 : Shape := ⟨1, ![544]⟩
abbrev S_ : Shape := ⟨0, ![]⟩
abbrev S1x32 : Shape := ⟨2, ![1, 32]⟩
abbrev S544x1 : Shape := ⟨2, ![544, 1]⟩
abbrev S544x32 : Shape := ⟨2, ![544, 32]⟩
abbrev S544x128x2048 : Shape := ⟨3, ![544, 128, 2048]⟩
abbrev S544x2048x4096 : Shape := ⟨3, ![544, 2048, 4096]⟩
abbrev S544x128x4096 : Shape := ⟨3, ![544, 128, 4096]⟩
abbrev S544x4096 : Shape := ⟨2, ![544, 4096]⟩
abbrev S544x1x4096 : Shape := ⟨3, ![544, 1, 4096]⟩
abbrev S544x2048x2048 : Shape := ⟨3, ![544, 2048, 2048]⟩
abbrev S544x2048 : Shape := ⟨2, ![544, 2048]⟩
abbrev S544x1x2048 : Shape := ⟨3, ![544, 1, 2048]⟩
abbrev S1 : Shape := ⟨1, ![1]⟩
abbrev S544x1x1 : Shape := ⟨3, ![544, 1, 1]⟩
abbrev S69632x1 : Shape := ⟨2, ![69632, 1]⟩

abbrev nBuf : Space → Nat
  | .hbm => 124
  | .vmem => 0
  | .smem => 0
  | _ => 0

abbrev bufTy : (tb : Table) → Fin (tcTables nBuf tb) → BufTy
  | .hbm, ⟨0, _⟩ => ⟨S32, .i32⟩
  | .hbm, ⟨1, _⟩ => ⟨S69632x2048, .f32⟩
  | .hbm, ⟨2, _⟩ => ⟨S69632, .f32⟩
  | .hbm, ⟨3, _⟩ => ⟨S32x2048x4096, .f32⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S544, .i32⟩
  | .hbm, ⟨8, _⟩ => ⟨S_, .i32⟩
  | .hbm, ⟨9, _⟩ => ⟨S544, .i32⟩
  | .hbm, ⟨10, _⟩ => ⟨S544, .i32⟩
  | .hbm, ⟨11, _⟩ => ⟨S1x32, .i32⟩
  | .hbm, ⟨12, _⟩ => ⟨S544x1, .i32⟩
  | .hbm, ⟨13, _⟩ => ⟨S544x32, .i32⟩
  | .hbm, ⟨14, _⟩ => ⟨S544x32, .i32⟩
  | .hbm, ⟨15, _⟩ => ⟨S544x32, .i1⟩
  | .hbm, ⟨16, _⟩ => ⟨S544x32, .i32⟩
  | .hbm, ⟨17, _⟩ => ⟨S_, .i32⟩
  | .hbm, ⟨18, _⟩ => ⟨S544, .i32⟩
  | .hbm, ⟨19, _⟩ => ⟨S_, .i32⟩
  | .hbm, ⟨20, _⟩ => ⟨S544, .i32⟩
  | .hbm, ⟨21, _⟩ => ⟨S544, .i32⟩
  | .hbm, ⟨22, _⟩ => ⟨S544x128x2048, .f32⟩
  | .hbm, ⟨23, _⟩ => ⟨S_, .i32⟩
  | .hbm, ⟨24, _⟩ => ⟨S544, .i32⟩
  | .hbm, ⟨25, _⟩ => ⟨S544, .i1⟩
  | .hbm, ⟨26, _⟩ => ⟨S_, .i32⟩
  | .hbm, ⟨27, _⟩ => ⟨S544, .i32⟩
  | .hbm, ⟨28, _⟩ => ⟨S544, .i32⟩
  | .hbm, ⟨29, _⟩ => ⟨S544, .i32⟩
  | .hbm, ⟨30, _⟩ => ⟨S544x1, .i32⟩
  | .hbm, ⟨31, _⟩ => ⟨S544x2048x4096, .f32⟩
  | .hbm, ⟨32, _⟩ => ⟨S544x128x4096, .f32⟩
  | .hbm, ⟨33, _⟩ => ⟨S_, .i32⟩
  | .hbm, ⟨34, _⟩ => ⟨S544, .i32⟩
  | .hbm, ⟨35, _⟩ => ⟨S544, .i1⟩
  | .hbm, ⟨36, _⟩ => ⟨S_, .i32⟩
  | .hbm, ⟨37, _⟩ => ⟨S544, .i32⟩
  | .hbm, ⟨38, _⟩ => ⟨S544, .i32⟩
  | .hbm, ⟨39, _⟩ => ⟨S544, .i32⟩
  | .hbm, ⟨40, _⟩ => ⟨S544x1, .i32⟩
  | .hbm, ⟨41, _⟩ => ⟨S544x4096, .f32⟩
  | .hbm, ⟨42, _⟩ => ⟨S544x1x4096, .f32⟩
  | .hbm, ⟨43, _⟩ => ⟨S544x128x4096, .f32⟩
  | .hbm, ⟨44, _⟩ => ⟨S544x128x4096, .f32⟩
  | .hbm, ⟨45, _⟩ => ⟨S544x128x2048, .f32⟩
  | .hbm, ⟨46, _⟩ => ⟨S544x128x2048, .f32⟩
  | .hbm, ⟨47, _⟩ => ⟨S_, .f32⟩
  | .hbm, ⟨48, _⟩ => ⟨S544x128x2048, .f32⟩
  | .hbm, ⟨49, _⟩ => ⟨S544x128x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S544x128x2048, .f32⟩
  | .hbm, ⟨54, _⟩ => ⟨S544x128x2048, .f32⟩
  | .hbm, ⟨55, _⟩ => ⟨S_, .f32⟩
  | .hbm, ⟨56, _⟩ => ⟨S544x128x2048, .f32⟩
  | .hbm, ⟨57, _⟩ => ⟨S544x128x2048, .f32⟩
  | .hbm, ⟨58, _⟩ => ⟨S_, .f32⟩
  | .hbm, ⟨59, _⟩ => ⟨S544x128x2048, .f32⟩
  | .hbm, ⟨60, _⟩ => ⟨S544x128x2048, .f32⟩
  | .hbm, ⟨61, _⟩ => ⟨S544x128x2048, .f32⟩
  | .hbm, ⟨62, _⟩ => ⟨S544x128x2048, .f32⟩
  | .hbm, ⟨63, _⟩ => ⟨S_, .f32⟩
  | .hbm, ⟨64, _⟩ => ⟨S544x128x2048, .f32⟩
  | .hbm, ⟨65, _⟩ => ⟨S544x128x2048, .f32⟩
  | .hbm, ⟨66, _⟩ => ⟨S_, .f32⟩
  | .hbm, ⟨67, _⟩ => ⟨S544x128x2048, .f32⟩
  | .hbm, ⟨68, _⟩ => ⟨S544x128x2048, .f32⟩
  | .hbm, ⟨69, _⟩ => ⟨S544x128x2048, .f32⟩
  | .hbm, ⟨70, _⟩ => ⟨S_, .f32⟩
  | .hbm, ⟨71, _⟩ => ⟨S544x128x2048, .f32⟩
  | .hbm, ⟨72, _⟩ => ⟨S544x128x2048, .f32⟩
  | .hbm, ⟨73, _⟩ => ⟨S544x128x2048, .f32⟩
  | .hbm, ⟨74, _⟩ => ⟨S_, .i32⟩
  | .hbm, ⟨75, _⟩ => ⟨S544, .i32⟩
  | .hbm, ⟨76, _⟩ => ⟨S544, .i1⟩
  | .hbm, ⟨77, _⟩ => ⟨S_, .i32⟩
  | .hbm, ⟨78, _⟩ => ⟨S544, .i32⟩
  | .hbm, ⟨79, _⟩ => ⟨S544, .i32⟩
  | .hbm, ⟨80, _⟩ => ⟨S544, .i32⟩
  | .hbm, ⟨81, _⟩ => ⟨S544x1, .i32⟩
  | .hbm, ⟨82, _⟩ => ⟨S544x2048x2048, .f32⟩
  | .hbm, ⟨83, _⟩ => ⟨S544x128x2048, .f32⟩
  | .hbm, ⟨84, _⟩ => ⟨S_, .i32⟩
  | .hbm, ⟨85, _⟩ => ⟨S544, .i32⟩
  | .hbm, ⟨86, _⟩ => ⟨S544, .i1⟩
  | .hbm, ⟨87, _⟩ => ⟨S_, .i32⟩
  | .hbm, ⟨88, _⟩ => ⟨S544, .i32⟩
  | .hbm, ⟨89, _⟩ => ⟨S544, .i32⟩
  | .hbm, ⟨90, _⟩ => ⟨S544, .i32⟩
  | .hbm, ⟨91, _⟩ => ⟨S544x1, .i32⟩
  | .hbm, ⟨92, _⟩ => ⟨S544x2048, .f32⟩
  | .hbm, ⟨93, _⟩ => ⟨S544x1x2048, .f32⟩
  | .hbm, ⟨94, _⟩ => ⟨S544x128x2048, .f32⟩
  | .hbm, ⟨95, _⟩ => ⟨S544x128x2048, .f32⟩
  | .hbm, ⟨96, _⟩ => ⟨S544, .i32⟩
  | .hbm, ⟨97, _⟩ => ⟨S1, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i1⟩
  | .hbm, ⟨105, _⟩ => ⟨S_, .i32⟩
  | .hbm, ⟨106, _⟩ => ⟨S_, .i32⟩
  | .hbm, ⟨107, _⟩ => ⟨S_, .i1⟩
  | .hbm, ⟨108, _⟩ => ⟨S_, .i1⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S544, .i32⟩
  | .hbm, ⟨113, _⟩ => ⟨S544, .i1⟩
  | .hbm, ⟨114, _⟩ => ⟨S544x1x1, .i1⟩
  | .hbm, ⟨115, _⟩ => ⟨S_, .f32⟩
  | .hbm, ⟨116, _⟩ => ⟨S_, .f32⟩
  | .hbm, ⟨117, _⟩ => ⟨S544x128x2048, .i1⟩
  | .hbm, ⟨118, _⟩ => ⟨S544x128x2048, .f32⟩
  | .hbm, ⟨119, _⟩ => ⟨S544x128x2048, .f32⟩
  | .hbm, ⟨120, _⟩ => ⟨S69632x2048, .f32⟩
  | .hbm, ⟨121, _⟩ => ⟨S69632x1, .f32⟩
  | .hbm, ⟨122, _⟩ => ⟨S69632x2048, .f32⟩
  | .hbm, ⟨123, _⟩ => ⟨S69632x2048, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_14 : Ref sig .tc := ⟨.hbm, 84, rfl⟩
abbrev main_v56 : Ref sig .tc := ⟨.hbm, 85, rfl⟩
abbrev main_v57 : Ref sig .tc := ⟨.hbm, 86, rfl⟩
abbrev main_c_15 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_c : Ref sig .tc := ⟨.hbm, 106, rfl⟩
abbrev main_call1_v6 : Ref sig .tc := ⟨.hbm, 107, rfl⟩
abbrev main_call1_v7 : Ref sig .tc := ⟨.hbm, 108, rfl⟩
abbrev main_call1_c_0 : Ref sig .tc := ⟨.hbm, 109, rfl⟩
abbrev main_call1_v8 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_17 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩

abbrev nD : Nat := 1
abbrev τ : Topo := Topo.v7x

variable {F : FTy → Type} [FloatOps F]
-- ==== WOut.lean ====
abbrev S16384x2048 : Shape := ⟨2, ![16384, 2048]⟩
abbrev S2048x2048 : Shape := ⟨2, ![2048, 2048]⟩
abbrev S4x4096x2048 : Shape := ⟨3, ![4, 4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S16384x2048, .bf16⟩
  | .hbm, ⟨6, _⟩ => ⟨S16384x2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WOutRefIdeal.lean ====
abbrev S16384x2048 : Shape := ⟨2, ![16384, 2048]⟩
abbrev S2048x2048 : Shape := ⟨2, ![2048, 2048]⟩
abbrev S4x4096x2048 : Shape := ⟨3, ![4, 4096, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== CaO.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x2048, .bf16⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CaORefIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Qkv.lean ====
abbrev S4x4096x2048 : Shape := ⟨3, ![4, 4096, 2048]⟩
abbrev S2048x15296 : Shape := ⟨2, ![2048, 15296]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S2048x4608 : Shape := ⟨2, ![2048, 4608]⟩
abbrev S4x4096x1536 : Shape := ⟨3, ![4, 4096, 1536]⟩
abbrev S4x1024x6144 : Shape := ⟨3, ![4, 1024, 6144]⟩
abbrev S4x256x24576 : Shape := ⟨3, ![4, 256, 24576]⟩
abbrev S1x256x2048 : Shape := ⟨3, ![1, 256, 2048]⟩
abbrev S256x128 : Shape := ⟨2, ![256, 128]⟩
abbrev S1x256x1536 : Shape := ⟨3, ![1, 256, 1536]⟩
abbrev S1x64x6144 : Shape := ⟨3, ![1, 64, 6144]⟩
abbrev S1x16x24576 : Shape := ⟨3, ![1, 16, 24576]⟩
abbrev S24x256x128 : Shape := ⟨3, ![24, 256, 128]⟩
abbrev S256x2048 : Shape := ⟨2, ![256, 2048]⟩
abbrev S256x4608 : Shape := ⟨2, ![256, 4608]⟩
abbrev S1x256x128 : Shape := ⟨3, ![1, 256, 128]⟩
abbrev S1x64x128 : Shape := ⟨3, ![1, 64, 128]⟩
abbrev S64x128 : Shape := ⟨2, ![64, 128]⟩
abbrev S1x16x128 : Shape := ⟨3, ![1, 16, 128]⟩
abbrev S16x128 : Shape := ⟨2, ![16, 128]⟩

abbrev nBuf : Space → Nat
  | .hbm => 31
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2048x15296, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x128, .f32⟩
  | .hbm, ⟨22, _⟩ => ⟨S4096x32, .f32⟩
  | .hbm, ⟨23, _⟩ => ⟨S4096x32, .f32⟩
  | .hbm, ⟨24, _⟩ => ⟨S4096x128, .f32⟩
  | .hbm, ⟨25, _⟩ => ⟨S4x4096x2048, .bf16⟩
  | .hbm, ⟨26, _⟩ => ⟨S2048x4608, .f32⟩
  | .hbm, ⟨27, _⟩ => ⟨S2048x4608, .bf16⟩
  | .hbm, ⟨28, _⟩ => ⟨S4x4096x1536, .f32⟩
  | .hbm, ⟨29, _⟩ => ⟨S4x1024x6144, .f32⟩
  | .hbm, ⟨30, _⟩ => ⟨S4x256x24576, .f32⟩
  | .local _ .vmem, ⟨0, _⟩ => ⟨S1x256x2048, .bf16⟩
  | .local _ .vmem, ⟨1, _⟩ => ⟨S1x256x2048, .bf16⟩
  | .local _ .vmem, ⟨2, _⟩ => ⟨S2048x4608, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S1x256x1536, .f32⟩
  | .local _ .vmem, ⟨8, _⟩ => ⟨S1x256x1536, .f32⟩
  | .local _ .vmem, ⟨9, _⟩ => ⟨S1x64x6144, .f32⟩
  | .local _ .vmem, ⟨10, _⟩ => ⟨S1x64x6144, .f32⟩
  | .local _ .vmem, ⟨11, _⟩ => ⟨S1x16x24576, .f32⟩
  | .local _ .vmem, ⟨12, _⟩ => ⟨S1x16x24576, .f32⟩
  | .local _ .vmem, ⟨13, _⟩ => ⟨S24x256x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x24576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvRefIdeal.lean ====
abbrev S4x4096x2048 : Shape := ⟨3, ![4, 4096, 2048]⟩
abbrev S2048x15296 : Shape := ⟨2, ![2048, 15296]⟩
abbrev S4x4096x15296 : Shape := ⟨3, ![4, 4096, 15296]⟩
abbrev S4x4096x4608 : Shape := ⟨3, ![4, 4096, 4608]⟩
abbrev S4x4096x3x3x8x64 : Shape := ⟨6, ![4, 4096, 3, 3, 8, 64]⟩
abbrev S4x4096x1x3x8x64 : Shape := ⟨6, ![4, 4096, 1, 3, 8, 64]⟩
abbrev S4x4096x3x8x64 : Shape := ⟨5, ![4, 4096, 3, 8, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x1x32 : Shape := ⟨5, ![1, 4096, 1, 1, 32]⟩
abbrev S4x4096x3x8x32 : Shape := ⟨5, ![4, 4096, 3, 8, 32]⟩
abbrev S4x4096x3x1x8x64 : Shape := ⟨6, ![4, 4096, 3, 1, 8, 64]⟩
abbrev S4x4096x1536 : Shape := ⟨3, ![4, 4096, 1536]⟩
abbrev S4x1024x6144 : Shape := ⟨3, ![4, 1024, 6144]⟩
abbrev S4x256x24576 : Shape := ⟨3, ![4, 256, 24576]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15296, .f32⟩
  | .hbm, ⟨2, _⟩ => ⟨S4x4096x15296, .f32⟩
  | .hbm, ⟨3, _⟩ => ⟨S4x4096x4608, .f32⟩
  | .hbm, ⟨4, _⟩ => ⟨S4x4096x3x3x8x64, .f32⟩
  | .hbm, ⟨5, _⟩ => ⟨S4x4096x1x3x8x64, .f32⟩
  | .hbm, ⟨6, _⟩ => ⟨S4x4096x3x8x64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S1x4096x1x1x32, .f32⟩
  | .hbm, ⟨26, _⟩ => ⟨S4096x32, .f32⟩
  | .hbm, ⟨27, _⟩ => ⟨S1x4096x1x1x32, .f32⟩
  | .hbm, ⟨28, _⟩ => ⟨S4x4096x3x8x32, .f32⟩
  | .hbm, ⟨29, _⟩ => ⟨S4x4096x3x8x32, .f32⟩
  | .hbm, ⟨30, _⟩ => ⟨S4x4096x3x8x32, .f32⟩
  | .hbm, ⟨31, _⟩ => ⟨S4x4096x3x8x32, .f32⟩
  | .hbm, ⟨32, _⟩ => ⟨S4x4096x3x8x32, .f32⟩
  | .hbm, ⟨33, _⟩ => ⟨S4x4096x3x8x32, .f32⟩
  | .hbm, ⟨34, _⟩ => ⟨S4x4096x3x8x32, .f32⟩
  | .hbm, ⟨35, _⟩ => ⟨S4x4096x3x8x32, .f32⟩
  | .hbm, ⟨36, _⟩ => ⟨S4x4096x3x8x32, .f32⟩
  | .hbm, ⟨37, _⟩ => ⟨S4x4096x3x8x32, .f32⟩
  | .hbm, ⟨38, _⟩ => ⟨S4x4096x3x8x32, .f32⟩
  | .hbm, ⟨39, _⟩ => ⟨S4x4096x3x8x32, .f32⟩
  | .hbm, ⟨40, _⟩ => ⟨S4x4096x3x8x64, .f32⟩
  | .hbm, ⟨41, _⟩ => ⟨S4x4096x1x3x8x64, .f32⟩
  | .hbm, ⟨42, _⟩ => ⟨S4x4096x3x8x64, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S4096, .f32⟩
  | .hbm, ⟨55, _⟩ => ⟨S4096x1, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S1x4096x1x1x32, .f32⟩
  | .hbm, ⟨62, _⟩ => ⟨S4096x32, .f32⟩
  | .hbm, ⟨63, _⟩ => ⟨S1x4096x1x1x32, .f32⟩
  | .hbm, ⟨64, _⟩ => ⟨S4x4096x3x8x32, .f32⟩
  | .hbm, ⟨65, _⟩ => ⟨S4x4096x3x8x32, .f32⟩
  | .hbm, ⟨66, _⟩ => ⟨S4x4096x3x8x32, .f32⟩
  | .hbm, ⟨67, _⟩ => ⟨S4x4096x3x8x32, .f32⟩
  | .hbm, ⟨68, _⟩ => ⟨S4x4096x3x8x32, .f32⟩
  | .hbm, ⟨69, _⟩ => ⟨S4x4096x3x8x32, .f32⟩
  | .hbm, ⟨70, _⟩ => ⟨S4x4096x3x8x32, .f32⟩
  | .hbm, ⟨71, _⟩ => ⟨S4x4096x3x8x32, .f32⟩
  | .hbm, ⟨72, _⟩ => ⟨S4x4096x3x8x32, .f32⟩
  | .hbm, ⟨73, _⟩ => ⟨S4x4096x3x8x32, .f32⟩
  | .hbm, ⟨74, _⟩ => ⟨S4x4096x3x8x32, .f32⟩
  | .hbm, ⟨75, _⟩ => ⟨S4x4096x3x8x32, .f32⟩
  | .hbm, ⟨76, _⟩ => ⟨S4x4096x3x8x64, .f32⟩
  | .hbm, ⟨77, _⟩ => ⟨S4x4096x1x3x8x64, .f32⟩
  | .hbm, ⟨78, _⟩ => ⟨S4x4096x3x8x64, .f32⟩
  | .hbm, ⟨79, _⟩ => ⟨S4x4096x1x3x8x64, .f32⟩
  | .hbm, ⟨80, _⟩ => ⟨S4x4096x1x3x8x64, .f32⟩
  | .hbm, ⟨81, _⟩ => ⟨S4x4096x1x3x8x64, .f32⟩
  | .hbm, ⟨82, _⟩ => ⟨S4x4096x3x3x8x64, .f32⟩
  | .hbm, ⟨83, _⟩ => ⟨S4x4096x3x1x8x64, .f32⟩
  | .hbm, ⟨84, _⟩ => ⟨S4x4096x3x8x64, .f32⟩
  | .hbm, ⟨85, _⟩ => ⟨S4x4096x1536, .f32⟩
  | .hbm, ⟨86, _⟩ => ⟨S4x4096x3x1x8x64, .f32⟩
  | .hbm, ⟨87, _⟩ => ⟨S4x4096x3x8x64, .f32⟩
  | .hbm, ⟨88, _⟩ => ⟨S4x1024x6144, .f32⟩
  | .hbm, ⟨89, _⟩ => ⟨S4x4096x3x1x8x64, .f32⟩
  | .hbm, ⟨90, _⟩ => ⟨S4x4096x3x8x64, .f32⟩
  | .hbm, ⟨91, _⟩ => ⟨S4x256x24576, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩

abbrev nD : Nat := 1
abbrev τ : Topo := Topo.v7x

variable {F : FTy → Type} [FloatOps F]
-- ==== ProjA.lean ====
abbrev S16384x2048 : Shape := ⟨2, ![16384, 2048]⟩
abbrev S2048 : Shape := ⟨1, ![2048]⟩
abbrev S2048x2048 : Shape := ⟨2, ![2048, 2048]⟩
abbrev S32x64x2048 : Shape := ⟨3, ![32, 64, 2048]⟩
abbrev S64x32x2048 : Shape := ⟨3, ![64, 32, 2048]⟩
abbrev S32x64 : Shape := ⟨2, ![32, 64]⟩
abbrev S64x32 : Shape := ⟨2, ![64, 32]⟩
abbrev S1x2048 : Shape := ⟨2, ![1, 2048]⟩
abbrev S256x2048 : Shape := ⟨2, ![256, 2048]⟩
abbrev S256x128 : Shape := ⟨2, ![256, 128]⟩

abbrev nBuf : Space → Nat
  | .hbm => 19
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S32x64x2048, .f32⟩
  | .hbm, ⟨7, _⟩ => ⟨S64x32x2048, .f32⟩
  | .hbm, ⟨8, _⟩ => ⟨S2048x2048, .f32⟩
  | .hbm, ⟨9, _⟩ => ⟨S32x64, .f32⟩
  | .hbm, ⟨10, _⟩ => ⟨S64x32, .f32⟩
  | .hbm, ⟨11, _⟩ => ⟨S2048, .f32⟩
  | .hbm, ⟨12, _⟩ => ⟨S32x64, .f32⟩
  | .hbm, ⟨13, _⟩ => ⟨S64x32, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S2048x2048, .bf16⟩
  | .hbm, ⟨18, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S256x2048, .f32⟩
  | .local _ .vmem, ⟨10, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjARefIdeal.lean ====
abbrev S16384x2048 : Shape := ⟨2, ![16384, 2048]⟩
abbrev S2048 : Shape := ⟨1, ![2048]⟩
abbrev S2048x2048 : Shape := ⟨2, ![2048, 2048]⟩
abbrev S16384x64x32 : Shape := ⟨3, ![16384, 64, 32]⟩
abbrev S16384x32x64 : Shape := ⟨3, ![16384, 32, 64]⟩
abbrev S_ : Shape := ⟨0, ![]⟩
abbrev S16384x32 : Shape := ⟨2, ![16384, 32]⟩
abbrev S16384x32x1 : Shape := ⟨3, ![16384, 32, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S16384x64x32, .f32⟩
  | .hbm, ⟨7, _⟩ => ⟨S16384x32x64, .f32⟩
  | .hbm, ⟨8, _⟩ => ⟨S_, .f32⟩
  | .hbm, ⟨9, _⟩ => ⟨S16384x32, .f32⟩
  | .hbm, ⟨10, _⟩ => ⟨S16384x32x1, .f32⟩
  | .hbm, ⟨11, _⟩ => ⟨S_, .f32⟩
  | .hbm, ⟨12, _⟩ => ⟨S16384x32x1, .f32⟩
  | .hbm, ⟨13, _⟩ => ⟨S16384x32x1, .f32⟩
  | .hbm, ⟨14, _⟩ => ⟨S16384x32x64, .f32⟩
  | .hbm, ⟨15, _⟩ => ⟨S16384x32x64, .f32⟩
  | .hbm, ⟨16, _⟩ => ⟨S16384x32x64, .f32⟩
  | .hbm, ⟨17, _⟩ => ⟨S_, .f32⟩
  | .hbm, ⟨18, _⟩ => ⟨S16384x32, .f32⟩
  | .hbm, ⟨19, _⟩ => ⟨S16384x32x1, .f32⟩
  | .hbm, ⟨20, _⟩ => ⟨S_, .f32⟩
  | .hbm, ⟨21, _⟩ => ⟨S16384x32x1, .f32⟩
  | .hbm, ⟨22, _⟩ => ⟨S16384x32x1, .f32⟩
  | .hbm, ⟨23, _⟩ => ⟨S16384x32x64, .f32⟩
  | .hbm, ⟨24, _⟩ => ⟨S16384x32x64, .f32⟩
  | .hbm, ⟨25, _⟩ => ⟨S_, .f32⟩
  | .hbm, ⟨26, _⟩ => ⟨S16384x32x1, .f32⟩
  | .hbm, ⟨27, _⟩ => ⟨S16384x32x1, .f32⟩
  | .hbm, ⟨28, _⟩ => ⟨S16384x32x1, .f32⟩
  | .hbm, ⟨29, _⟩ => ⟨S16384x32x64, .f32⟩
  | .hbm, ⟨30, _⟩ => ⟨S16384x32x64, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x64x32, .f32⟩
  | .hbm, ⟨39, _⟩ => ⟨S16384x32x64, .f32⟩
  | .hbm, ⟨40, _⟩ => ⟨S16384x2048, .f32⟩
  | .hbm, ⟨41, _⟩ => ⟨S16384x2048, .f32⟩
  | .hbm, ⟨42, _⟩ => ⟨S16384x64x32, .f32⟩
  | .hbm, ⟨43, _⟩ => ⟨S16384x32x64, .f32⟩
  | .hbm, ⟨44, _⟩ => ⟨S16384x2048, .f32⟩
  | .hbm, ⟨45, _⟩ => ⟨S16384x2048, .f32⟩
  | .hbm, ⟨46, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Softmax.lean ====
module
public import Idealize.ShloMosaic.Lib.Pipeline.ValueKit

/-!
# One row of masked softmax attention

The mathematics of one query row, over the extended reals: its scores, their maximum, the
exponential weights, the weights' sum, the attended value and the log-sum-exp.
-/

@[expose] public section
noncomputable section
open Idealize.ShloMosaic

namespace Cert.Attn

/-- The scores of one query row against 256 key rows: the scaled product where the mask holds and
    minus infinity where it does not. -/
def score (ok : Fin 256 → Prop) [∀ j, Decidable (ok j)] (q : Fin 64 → EReal) (k : Fin 256 → Fin 64 → EReal) (j : Fin 256) : EReal :=
  if ok j then (∑ x, q x * k j x) * Ideal.ofBits .f32 0x3E000000#32 else ⊥

/-- The largest score of the row. -/
def top (s : Fin 256 → EReal) : EReal := Finset.univ.fold max ⊥ s

/-- The weight of key `j`: the exponential of its score less the largest score. -/
def weight (s : Fin 256 → EReal) (j : Fin 256) : EReal := Ideal.exp (s j - top s)

/-- The sum of the weights. -/
def den (s : Fin 256 → EReal) : EReal := ∑ j, weight s j

/-- The attended value: the weighted sum of the values divided by the sum of the weights. -/
def val (s v : Fin 256 → EReal) : EReal := Ideal.div (∑ j, weight s j * v j) (den s)

/-- The log-sum-exp of the row. -/
def lse (s : Fin 256 → EReal) : EReal := top s + Ideal.log (den s)

/-- The word the row maximum starts from is minus infinity. -/
theorem neg_inf : Ideal.ofBits .f32 0xFF800000#32 = ⊥ := by
  simp [Ideal.ofBits, Ideal.ieee]

/-- A masked key has weight zero. -/
theorem weight_bot {s : Fin 256 → EReal} {j : Fin 256} (h : s j = ⊥) : weight s j = 0 := by
  unfold weight
  rw [h, EReal.bot_sub, Ideal.exp_bot]

/-- Two rows of scores agree when the masks do and the products agree at the kept keys. -/
theorem score_congr {p p' : Fin 256 → Prop} [∀ j, Decidable (p j)] [∀ j, Decidable (p' j)] {q q' : Fin 64 → EReal}
    {k k' : Fin 256 → Fin 64 → EReal} (hp : ∀ j, p j ↔ p' j) (hq : ∀ x, q x = q' x) (hk : ∀ j, p' j → ∀ x, k j x = k' j x) :
    score p q k = score p' q' k' := by
  funext j
  unfold score
  by_cases h : p' j
  · rw [if_pos h, if_pos ((hp j).mpr h)]
    congr 1
    exact Finset.sum_congr rfl fun x _ => by rw [hq, hk j h]
  · rw [if_neg h, if_neg (fun h' => h ((hp j).mp h'))]

/-- The attended value depends on the values of the kept keys only. -/
theorem val_congr {p : Fin 256 → Prop} [∀ j, Decidable (p j)] {q : Fin 64 → EReal} {k : Fin 256 → Fin 64 → EReal} {v v' : Fin 256 → EReal}
    (hv : ∀ j, p j → v j = v' j) : val (score p q k) v = val (score p q k) v' := by
  unfold val
  congr 1
  refine Finset.sum_congr rfl fun j _ => ?_
  by_cases h : p j
  · rw [hv j h]
  · rw [weight_bot (s := score p q k) (j := j) (if_neg h), zero_mul, zero_mul]

/-- The band of the sliding window: key `j` of the 256 rows that begin one block of 128 before the
    query block is kept for query `i` when it lies at most 128 rows back; `first` says that the
    query block has no block before it, and then the keys of that block are dropped. -/
def band (first : Prop) (i : ℕ) (j : Fin 256) : Prop := i ≤ j.val ∧ j.val ≤ i + 128 ∧ (first → 128 ≤ j.val)

instance (first : Prop) [Decidable first] (i : ℕ) (j : Fin 256) : Decidable (band first i j) := by unfold band; infer_instance

/-- A small word read as an integer. -/
theorem toInt_small (n : ℕ) (h : n < 2 ^ 31) : (BitVec.ofNat 32 n).toInt = (n : ℤ) := by
  rw [BitVec.toInt_eq_toNat_cond, BitVec.toNat_ofNat, Nat.mod_eq_of_lt (by omega), if_pos (by omega)]

/-- The two comparisons of the band on words: the distance `i + 128 - j` is at least 0 and at most 128. -/
theorem band_word (i j : ℕ) (hi : i < 128) (hj : j < 256) :
    IntOp.andi (IntOp.cmpi .sge (IntOp.subi (IntOp.addi (BitVec.ofNat 32 i) 128#32) (BitVec.ofNat 32 j)) 0#32)
      (IntOp.cmpi .sle (IntOp.subi (IntOp.addi (BitVec.ofNat 32 i) 128#32) (BitVec.ofNat 32 j)) 128#32)
      = BitVec.ofBool (decide (i ≤ j ∧ j ≤ i + 128)) := by
  have e : (IntOp.subi (IntOp.addi (BitVec.ofNat 32 i) 128#32) (BitVec.ofNat 32 j)).toInt = (i : ℤ) + 128 - j := by
    have t : IntOp.addi (BitVec.ofNat 32 i) 128#32 = BitVec.ofNat 32 (i + 128) := (BitVec.ofNat_add i 128).symm
    rw [t, IntOp.subi, BitVec.toInt_sub, toInt_small (i + 128) (by omega), toInt_small j (by omega), Int.bmod_def]
    omega
  simp only [IntOp.cmpi, IntOp.andi, BitVec.sle, e]
  have a : ((0#32 : BitVec 32).toInt ≤ (i : ℤ) + 128 - j) ↔ j ≤ i + 128 := by
    rw [toInt_small 0 (by decide)]; omega
  have b : ((i : ℤ) + 128 - j ≤ (128#32 : BitVec 32).toInt) ↔ i ≤ j := by
    rw [toInt_small 128 (by decide)]; omega
  simp only [a, b]
  by_cases p : i ≤ j <;> by_cases q : j ≤ i + 128 <;> simp [p, q]

/-- The comparison that keeps the keys of the block before: the block is not the first one or the key
    lies in the second half. -/
theorem first_word (st j : ℕ) (hs : st < 2 ^ 31) (hj : j < 256) :
    IntOp.ori (IntOp.cmpi .sgt (BitVec.ofNat 32 st) 0#32) (IntOp.cmpi .sge (BitVec.ofNat 32 j) 128#32)
      = BitVec.ofBool (decide (st = 0 → 128 ≤ j)) := by
  have a : ((0#32 : BitVec 32).toInt < (BitVec.ofNat 32 st).toInt) ↔ ¬ st = 0 := by
    rw [toInt_small 0 (by decide), toInt_small st hs]; omega
  have b : ((128#32 : BitVec 32).toInt ≤ (BitVec.ofNat 32 j).toInt) ↔ 128 ≤ j := by
    rw [toInt_small 128 (by decide), toInt_small j (by omega)]; omega
  simp only [IntOp.cmpi, IntOp.ori, BitVec.sle, BitVec.slt, a, b]
  by_cases p : st = 0 <;> by_cases q : 128 ≤ j <;> simp [p, q]

/-- The whole mask of a first block's half on words. -/
theorem mask_word (st i : ℕ) (j : Fin 256) (hs : st < 2 ^ 31) (hi : i < 128) :
    IntOp.andi
      (IntOp.andi (IntOp.cmpi .sge (IntOp.subi (IntOp.addi (BitVec.ofNat 32 i) 128#32) (BitVec.ofNat 32 j.val)) 0#32)
        (IntOp.cmpi .sle (IntOp.subi (IntOp.addi (BitVec.ofNat 32 i) 128#32) (BitVec.ofNat 32 j.val)) 128#32))
      (IntOp.ori (IntOp.cmpi .sgt (BitVec.ofNat 32 st) 0#32) (IntOp.cmpi .sge (BitVec.ofNat 32 j.val) 128#32))
      = BitVec.ofBool (decide (band (st = 0) i j)) := by
  rw [band_word i j hi j.isLt, first_word st j hs j.isLt]
  unfold band
  by_cases p : i ≤ j.val <;> by_cases q : j.val ≤ i + 128 <;> by_cases r : st = 0 <;> by_cases r' : 128 ≤ j.val <;> simp [p, q, r, r', IntOp.andi]

end Cert.Attn
-- ==== Proof.Spec.lean ====
module
public import proofs.«01_k».proof.Proof.Softmax

/-!
# Dilated sliding-window attention over a whole array

The mathematics of one head group: positions with the same residue modulo the dilation `d` form a
subsequence, in which each query sees itself and the 128 positions before it. The array holds, per batch
and position, the queries (0), keys (1) and values (2) of eight heads of 64 entries.
-/

@[expose] public section
noncomputable section
open Idealize.ShloMosaic

namespace Cert.Attn

/-- The shape of the queries, keys and values of one head group. -/
abbrev QKV : Shape := ⟨5, ![4, 4096, 3, 8, 64]⟩

/-- The position of the `j`-th of the 256 keys that query `t` may meet: the subsequence of `t` modulo `d`, from
    128 places before the query's block of 128. -/
def keyPos (d t : ℕ) (j : Fin 256) : Fin 4096 := ⟨((t / d / 128 * 128 + j.val - 128) * d + t % d) % 4096, Nat.mod_lt _ (by decide)⟩

/-- The scores of the query at batch `b`, position `t` and head `h`. -/
def attScore (d : ℕ) (X : QKV.Idx → EReal) (b : Fin 4) (t : Fin 4096) (h : Fin 8) : Fin 256 → EReal :=
  score (band (t.val / d / 128 = 0) (t.val / d % 128)) (fun x => X (ix5 b t 0 h x)) (fun j x => X (ix5 b (keyPos d t.val j) 1 h x))

/-- The attention's output. -/
def attOut (d : ℕ) (X : QKV.Idx → EReal) (b : Fin 4) (t : Fin 4096) (h : Fin 8) (e : Fin 64) : EReal :=
  val (attScore d X b t h) (fun j => X (ix5 b (keyPos d t.val j) 2 h e))

/-- The attention's log-sum-exp. -/
def attLse (d : ℕ) (X : QKV.Idx → EReal) (b : Fin 4) (t : Fin 4096) (h : Fin 8) : EReal := lse (attScore d X b t h)

/-- The entry of the output that the attention puts at batch `b`, row `u` and column `v`: column `v` of
    row `u` is head `v / 64 % 8` of residue `v / 512`, position `4 u + v / 512`. -/
def outEntry (X : QKV.Idx → EReal) (b : Fin 4) (u : Fin 1024) (v : Fin 2048) : EReal :=
  attOut 4 X b ⟨u.val * 4 + v.val / 512, by omega⟩ ⟨v.val / 64 % 8, by omega⟩ ⟨v.val % 64, by omega⟩

/-- The entry of the log-sum-exp at batch `b`, row `u` and column `v`. -/
def lseEntry (X : QKV.Idx → EReal) (b : Fin 4) (u : Fin 1024) (v : Fin 2048) : EReal :=
  attLse 4 X b ⟨u.val * 4 + v.val / 512, by omega⟩ ⟨v.val / 64 % 8, by omega⟩

end Cert.Attn
-- ==== Proof.Head.lean ====
module
public import proofs.«01_k».proof.Proof.Softmax
public import proofs.«01_k».proof.Proof.Gen.KernelIdeal.Frame

/-!
# What one head's store holds

A block of 128 query rows meets 256 key rows, head by head: head `h` is the 64 columns that begin at
column `o = 64 h`. The two terms below are what the kernel stores for one head, with the column `o` a variable.
-/

@[expose] public section
set_option maxRecDepth 16384
noncomputable section
open Idealize.ShloMosaic Idealize.ShloMosaic.TcCoe Idealize.SL.Sem

namespace Cert.Attn
open Cert.KernelIdeal Cert.KernelIdeal.Gen

/-- The masked scores of the head at column `o`. -/
def headScore (o : ℕ) (hq : S128x512.Slices ![0, o] S128x64) (hk : S256x512.Slices ![0, o] S256x64)
    (m : IVec S128x256 1) (q : FVec Ideal S128x512 .bf16) (k : FVec Ideal S256x512 .bf16) : FVec Ideal S128x256 .f32 :=
  select m (mulf (matmul dot_S128x64_S256x64_S128x256_1_1_0_0_n_n none (extractStridedSlice S128x64 ![0, o] q hq) (extractStridedSlice S256x64 ![0, o] k hk) (constant S128x256 .f32 0x00000000#32)) (broadcast S128x256 (Scalar.ofBits .f32 0x3E000000#32))) (broadcast S128x256 (Named.named κ "mask" 0xF149F2CA#32))

/-- The row maxima, as a column. -/
def headTop (s : FVec Ideal S128x256 .f32) : FVec Ideal S128x1 .f32 :=
  shapeCast S128x1 (multiReduction .maximumf [1] S128 s 0xFF800000#32 reduces_S128x256_S128 (.inl rfl) rfl) shapeCasts_S128_S128x1

/-- The exponential weights. -/
def headWeight (s : FVec Ideal S128x256 .f32) : FVec Ideal S128x256 .f32 :=
  exp (subf s (broadcastTo S128x256 (headTop s) broadcasts_S128x1_S128x256))

/-- The weights' row sums, as a column. -/
def headDen (s : FVec Ideal S128x256 .f32) : FVec Ideal S128x1 .f32 :=
  shapeCast S128x1 (multiReduction .add [1] S128 (headWeight s) 0x00000000#32 reduces_S128x256_S128 (.inl rfl) rfl) shapeCasts_S128_S128x1

/-- The head's stored output. -/
def headOut (o : ℕ) (hk : S256x512.Slices ![0, o] S256x64) (s : FVec Ideal S128x256 .f32) (v : FVec Ideal S256x512 .bf16) : FVec Ideal S1x128x64 .f32 :=
  shapeCast S1x128x64 (divf (matmul dot_S128x256_S256x64_S128x64_1_0_0_1_n_n none (truncf .bf16 (headWeight s) bitsLt_bf16_f32) (extractStridedSlice S256x64 ![0, o] v hk) (constant S128x64 .f32 0x00000000#32)) (broadcastTo S128x64 (headDen s) broadcasts_S128x1_S128x64)) shapeCasts_S128x64_S1x128x64

/-- The head's stored log-sum-exp, repeated over the head's 64 columns. -/
def headLse (s : FVec Ideal S128x256 .f32) : FVec Ideal S1x128x64 .f32 :=
  shapeCast S1x128x64 (broadcastTo S128x64 (shapeCast S128x1 (addf (headTop s) (log (headDen s))) shapeCasts_S128x1_S128x1) broadcasts_S128x1_S128x64) shapeCasts_S128x64_S1x128x64

/-- The named mask constant is minus infinity. -/
theorem mask_value : (Named.named (F := Idealize.ShloMosaic.Ideal) (φ := .f32) κ "mask" 0xF149F2CA#32) = (⊥ : EReal) := rfl

/-- One score, at a query row and a key row. -/
theorem headScore_at (o : ℕ) (ho : o < 449) (hq) (hk) (m) (q) (k) (ok : Fin 256 → Prop) [∀ j, Decidable (ok j)] (i : Fin 128)
    (hm : ∀ j, m (ix2 i j) = BitVec.ofBool (decide (ok j))) (j : Fin 256) :
    headScore o hq hk m q k (ix2 i j) = score ok (fun x => q (ix2 i ⟨o + x.val, by omega⟩)) (fun j x => k (ix2 j ⟨o + x.val, by omega⟩)) j := by
  pointwise [headScore]
  rw [hm j]
  unfold score
  by_cases h : ok j
  · simp [h, Scalar.select]
  · simp only [h, decide_false, if_false]
    exact mask_value

/-- The stored output of a head, at a row and a column of the head. -/
theorem headOut_at (o : ℕ) (ho : o < 449) (hk) (s) (v) (i : Fin 128) (e : Fin 64) :
    headOut o hk s v (ix3 0 i e) = val (fun j => s (ix2 i j)) (fun j => v (ix2 j ⟨o + e.val, by omega⟩)) := by
  pointwise [headOut, headWeight, headDen, headTop]
  rw [neg_inf]; rfl

/-- The stored log-sum-exp of a head, at a row. -/
theorem headLse_at (s) (i : Fin 128) (e : Fin 64) :
    headLse s (ix3 0 i e) = lse (fun j => s (ix2 i j)) := by
  pointwise [headLse, headWeight, headDen, headTop]
  rw [neg_inf]; rfl

/-! ## One block of 256 query rows

Of the block's own 256 rows (`x0` queries, `x2` keys, `x4` values) the query rows of the first half see
the 128 rows before the block (`x1`, `x3`) and the first half's rows, the query rows of the second half
the block's own rows. -/

/-- Row `j` of the 256 rows that query row `R` of the block meets. -/
def keyRow (xp : Vec Ideal S1x128x512 .f32) (xc : Vec Ideal S1x256x512 .f32) (R j : Fin 256) (c : Fin 512) : EReal :=
  if R.val < 128 then (if h : j.val < 128 then xp (ix3 0 ⟨j.val, h⟩ c) else xc (ix3 0 ⟨j.val - 128, by omega⟩ c)) else xc (ix3 0 j c)

/-- The scores of query row `R` for the head that column `C` belongs to; `st` is the block's number in
    its sequence. -/
def blockScore (st : ℕ) (x0 : Vec Ideal S1x256x512 .f32) (x1 : Vec Ideal S1x128x512 .f32) (x2 : Vec Ideal S1x256x512 .f32)
    (R : Fin 256) (C : Fin 512) : Fin 256 → EReal :=
  score (band (R.val < 128 ∧ st = 0) (R.val % 128)) (fun x => x0 (ix3 0 R ⟨C.val / 64 * 64 + x.val, by omega⟩))
    (fun j x => keyRow x1 x2 R j ⟨C.val / 64 * 64 + x.val, by omega⟩)

/-- The block's output at row `R` and column `C`. -/
def blockOut (st : ℕ) (x0 : Vec Ideal S1x256x512 .f32) (x1 : Vec Ideal S1x128x512 .f32) (x2 : Vec Ideal S1x256x512 .f32)
    (x3 : Vec Ideal S1x128x512 .f32) (x4 : Vec Ideal S1x256x512 .f32) (R : Fin 256) (C : Fin 512) : EReal :=
  val (blockScore st x0 x1 x2 R C) (fun j => keyRow x3 x4 R j C)

/-- The block's log-sum-exp at row `R` and column `C`. -/
def blockLse (st : ℕ) (x0 : Vec Ideal S1x256x512 .f32) (x1 : Vec Ideal S1x128x512 .f32) (x2 : Vec Ideal S1x256x512 .f32)
    (R : Fin 256) (C : Fin 512) : EReal :=
  lse (blockScore st x0 x1 x2 R C)

section
variable {st : ℕ} {x0 : Vec Ideal S1x256x512 .f32} {x1 : Vec Ideal S1x128x512 .f32} {x2 : Vec Ideal S1x256x512 .f32}
  {x3 : Vec Ideal S1x128x512 .f32} {x4 : Vec Ideal S1x256x512 .f32} {R : Fin 256} {i : Fin 128}
  {m : IVec S128x256 1} {q : FVec Ideal S128x512 .bf16} {k v : FVec Ideal S256x512 .bf16}

/-- The head's scores are the block's scores, given that the mask, the queries and the keys are the
    block's at the row. -/
theorem headScore_block (hm : ∀ j, m (ix2 i j) = BitVec.ofBool (decide (band (R.val < 128 ∧ st = 0) (R.val % 128) j)))
    (hq : ∀ c, q (ix2 i c) = x0 (ix3 0 R c)) (hk : ∀ j c, k (ix2 j c) = keyRow x1 x2 R j c)
    (o h : ℕ) (ho : o = h * 64) (hh : h < 8) (hs hs') (e : Fin 64) (C : Fin 512) (hC : C.val = o + e.val) :
    (fun j => headScore o hs hs' m q k (ix2 i j)) = blockScore st x0 x1 x2 R C := by
  have e1 : C.val / 64 * 64 = o := by omega
  funext j
  rw [headScore_at o (by omega) hs hs' m q k _ i hm j]
  unfold blockScore
  simp only [hq, hk, e1]

/-- The head's stored output is the block's output. -/
theorem headOut_block (hm : ∀ j, m (ix2 i j) = BitVec.ofBool (decide (band (R.val < 128 ∧ st = 0) (R.val % 128) j)))
    (hq : ∀ c, q (ix2 i c) = x0 (ix3 0 R c)) (hk : ∀ j c, k (ix2 j c) = keyRow x1 x2 R j c)
    (hv : ∀ j c, v (ix2 j c) = keyRow x3 x4 R j c)
    (o h : ℕ) (ho : o = h * 64) (hh : h < 8) (hs hs') (e : Fin 64) (C : Fin 512) (hC : C.val = o + e.val) :
    headOut o hs' (headScore o hs hs' m q k) v (ix3 0 i e) = blockOut st x0 x1 x2 x3 x4 R C := by
  rw [headOut_at o (by omega), headScore_block hm hq hk o h ho hh hs hs' e C hC]
  unfold blockOut
  congr 1
  funext j
  rw [hv]
  congr 1
  exact Fin.ext hC.symm

/-- The head's stored log-sum-exp is the block's. -/
theorem headLse_block (hm : ∀ j, m (ix2 i j) = BitVec.ofBool (decide (band (R.val < 128 ∧ st = 0) (R.val % 128) j)))
    (hq : ∀ c, q (ix2 i c) = x0 (ix3 0 R c)) (hk : ∀ j c, k (ix2 j c) = keyRow x1 x2 R j c)
    (o h : ℕ) (ho : o = h * 64) (hh : h < 8) (hs hs') (e : Fin 64) (C : Fin 512) (hC : C.val = o + e.val) :
    headLse (headScore o hs hs' m q k) (ix3 0 i e) = blockLse st x0 x1 x2 R C := by
  rw [headLse_at, headScore_block hm hq hk o h ho hh hs hs' e C hC]
  rfl
end

end Cert.Attn
-- ==== Proof.Block.lean ====
module
public import proofs.«01_k».proof.Proof.Head

/-!
# What one grid point of the kernel stores

The sixteen stores of a point (eight heads, two halves of 128 rows) are together the block's output,
and the sixteen beside them the block's log-sum-exp.
-/

@[expose] public section
set_option maxRecDepth 16384
noncomputable section
open Idealize.ShloMosaic Idealize.ShloMosaic.TcCoe Idealize.SL.Sem

namespace Cert.KernelIdeal.Block
open Cert.KernelIdeal Cert.KernelIdeal.Gen Cert.Attn

variable (i : grid0.Coords) (x0 : Vec Ideal S1x256x512 .f32) (x1 : Vec Ideal S1x128x512 .f32) (x2 : Vec Ideal S1x256x512 .f32)
  (x3 : Vec Ideal S1x128x512 .f32) (x4 : Vec Ideal S1x256x512 .f32)

/-- The queries of the first half. -/
theorem q_lo (r : Fin 128) (R : Fin 256) (hR : R.val = r.val) (c : Fin 512) : k0_pay120 i x0 x1 x2 x3 x4 (ix2 r c) = x0 (ix3 0 R c) := by
  pointwise [k0_pay120, k0_pay4]
  exact congrArg (fun R => x0 (ix3 0 R c)) (Fin.ext hR.symm)

/-- The queries of the second half. -/
theorem q_hi (r : Fin 128) (R : Fin 256) (hR : R.val = 128 + r.val) (c : Fin 512) : k0_pay129 i x0 x1 x2 x3 x4 (ix2 r c) = x0 (ix3 0 R c) := by
  pointwise [k0_pay129, k0_pay61]
  exact congrArg (fun R => x0 (ix3 0 R c)) (Fin.ext hR.symm)

/-- The keys that the first half meets. -/
theorem k_lo (R : Fin 256) (hR : R.val < 128) (j : Fin 256) (c : Fin 512) : k0_pay121 i x0 x1 x2 x3 x4 (ix2 j c) = keyRow x1 x2 R j c := by
  pointwise [k0_pay121, k0_pay5]
  exact (if_pos hR).symm

/-- The values that the first half meets. -/
theorem v_lo (R : Fin 256) (hR : R.val < 128) (j : Fin 256) (c : Fin 512) : k0_pay122 i x0 x1 x2 x3 x4 (ix2 j c) = keyRow x3 x4 R j c := by
  pointwise [k0_pay122, k0_pay6]
  exact (if_pos hR).symm

/-- The keys that the second half meets. -/
theorem k_hi (R : Fin 256) (hR : ¬ R.val < 128) (j : Fin 256) (c : Fin 512) : k0_pay132 i x0 x1 x2 x3 x4 (ix2 j c) = keyRow x1 x2 R j c := by
  pointwise [k0_pay132, k0_pay131, k0_pay64, k0_pay63]
  refine Eq.trans ?_ (if_neg hR).symm
  split
  · rfl
  · exact congrArg (fun j => x2 (ix3 0 j c)) (Fin.ext (by dsimp only; omega))

/-- The values that the second half meets. -/
theorem v_hi (R : Fin 256) (hR : ¬ R.val < 128) (j : Fin 256) (c : Fin 512) : k0_pay133 i x0 x1 x2 x3 x4 (ix2 j c) = keyRow x3 x4 R j c := by
  pointwise [k0_pay133, k0_pay130, k0_pay62, k0_pay65]
  refine Eq.trans ?_ (if_neg hR).symm
  split
  · rfl
  · exact congrArg (fun j => x4 (ix3 0 j c)) (Fin.ext (by dsimp only; omega))

/-- The mask of the first half. -/
theorem m_lo (r : Fin 128) (R : Fin 256) (hR : R.val = r.val) (j : Fin 256) :
    k0_pay119 i x0 x1 x2 x3 x4 (ix2 r j) = BitVec.ofBool (decide (band (R.val < 128 ∧ (i 2).val = 0) (R.val % 128) j)) := by
  have e : R.val % 128 = r.val := by omega
  have h : R.val < 128 := by omega
  have hs : (i 2).val < 2 ^ 31 := lt_trans (i 2).isLt (by decide)
  pointwise [k0_pay119, k0_pay3, k0_pay2]
  refine (mask_word (i 2).val r.val j hs r.isLt).trans ?_
  simp only [e, h, true_and]

/-- The mask of the second half. -/
theorem m_hi (r : Fin 128) (R : Fin 256) (hR : R.val = 128 + r.val) (j : Fin 256) :
    k0_pay118 i x0 x1 x2 x3 x4 (ix2 r j) = BitVec.ofBool (decide (band (R.val < 128 ∧ (i 2).val = 0) (R.val % 128) j)) := by
  have e : R.val % 128 = r.val := by omega
  have h : ¬ R.val < 128 := by omega
  pointwise [k0_pay118, k0_pay2]
  refine (band_word r.val j.val r.isLt j.isLt).trans ?_
  unfold band
  simp only [e, h, false_and, false_imp_iff, and_true]

variable (y : S1x256x512.Idx) (z : S1x128x64.Idx)

/-- A head's stored output in the first half is the block's. -/
theorem out_lo (o h : ℕ) (h1 : (y 1).val = (z 1).val) (h2 : (y 2).val = o + (z 2).val) (ho : o = h * 64 := by rfl) (hh : h < 8 := by decide)
    (hs : S128x512.Slices ![0, o] S128x64 := by decide) (hs' : S256x512.Slices ![0, o] S256x64 := by decide) :
    headOut o hs' (headScore o hs hs' (k0_pay119 i x0 x1 x2 x3 x4) (k0_pay120 i x0 x1 x2 x3 x4) (k0_pay121 i x0 x1 x2 x3 x4)) (k0_pay122 i x0 x1 x2 x3 x4) z
      = blockOut (i 2).val x0 x1 x2 x3 x4 (y 1) (y 2) := by
  idx_vars z
  idx_vars y
  have hR : y1.val < 128 := lt_of_eq_of_lt h1 z1.isLt
  obtain rfl : z0 = 0 := Subsingleton.elim _ _
  exact headOut_block (m_lo i x0 x1 x2 x3 x4 z1 y1 h1) (q_lo i x0 x1 x2 x3 x4 z1 y1 h1) (k_lo i x0 x1 x2 x3 x4 y1 hR) (v_lo i x0 x1 x2 x3 x4 y1 hR) o h ho hh hs hs' z2 y2 h2

/-- A head's stored output in the second half is the block's. -/
theorem out_hi (o h : ℕ) (h1 : (y 1).val = 128 + (z 1).val) (h2 : (y 2).val = o + (z 2).val) (ho : o = h * 64 := by rfl) (hh : h < 8 := by decide)
    (hs : S128x512.Slices ![0, o] S128x64 := by decide) (hs' : S256x512.Slices ![0, o] S256x64 := by decide) :
    headOut o hs' (headScore o hs hs' (k0_pay118 i x0 x1 x2 x3 x4) (k0_pay129 i x0 x1 x2 x3 x4) (k0_pay132 i x0 x1 x2 x3 x4)) (k0_pay133 i x0 x1 x2 x3 x4) z
      = blockOut (i 2).val x0 x1 x2 x3 x4 (y 1) (y 2) := by
  idx_vars z
  idx_vars y
  have hR : ¬ y1.val < 128 := fun h' => absurd (h1 ▸ h' : 128 + z1.val < 128) (by omega)
  obtain rfl : z0 = 0 := Subsingleton.elim _ _
  exact headOut_block (m_hi i x0 x1 x2 x3 x4 z1 y1 h1) (q_hi i x0 x1 x2 x3 x4 z1 y1 h1) (k_hi i x0 x1 x2 x3 x4 y1 hR) (v_hi i x0 x1 x2 x3 x4 y1 hR) o h ho hh hs hs' z2 y2 h2

/-- A head's stored log-sum-exp in the first half is the block's. -/
theorem lse_lo (o h : ℕ) (h1 : (y 1).val = (z 1).val) (h2 : (y 2).val = o + (z 2).val) (ho : o = h * 64 := by rfl) (hh : h < 8 := by decide)
    (hs : S128x512.Slices ![0, o] S128x64 := by decide) (hs' : S256x512.Slices ![0, o] S256x64 := by decide) :
    headLse (headScore o hs hs' (k0_pay119 i x0 x1 x2 x3 x4) (k0_pay120 i x0 x1 x2 x3 x4) (k0_pay121 i x0 x1 x2 x3 x4)) z
      = blockLse (i 2).val x0 x1 x2 (y 1) (y 2) := by
  idx_vars z
  idx_vars y
  have hR : y1.val < 128 := lt_of_eq_of_lt h1 z1.isLt
  obtain rfl : z0 = 0 := Subsingleton.elim _ _
  exact headLse_block (m_lo i x0 x1 x2 x3 x4 z1 y1 h1) (q_lo i x0 x1 x2 x3 x4 z1 y1 h1) (k_lo i x0 x1 x2 x3 x4 y1 hR) o h ho hh hs hs' z2 y2 h2

/-- A head's stored log-sum-exp in the second half is the block's. -/
theorem lse_hi (o h : ℕ) (h1 : (y 1).val = 128 + (z 1).val) (h2 : (y 2).val = o + (z 2).val) (ho : o = h * 64 := by rfl) (hh : h < 8 := by decide)
    (hs : S128x512.Slices ![0, o] S128x64 := by decide) (hs' : S256x512.Slices ![0, o] S256x64 := by decide) :
    headLse (headScore o hs hs' (k0_pay118 i x0 x1 x2 x3 x4) (k0_pay129 i x0 x1 x2 x3 x4) (k0_pay132 i x0 x1 x2 x3 x4)) z
      = blockLse (i 2).val x0 x1 x2 (y 1) (y 2) := by
  idx_vars z
  idx_vars y
  have hR : ¬ y1.val < 128 := fun h' => absurd (h1 ▸ h' : 128 + z1.val < 128) (by omega)
  obtain rfl : z0 = 0 := Subsingleton.elim _ _
  exact headLse_block (m_hi i x0 x1 x2 x3 x4 z1 y1 h1) (q_hi i x0 x1 x2 x3 x4 z1 y1 h1) (k_hi i x0 x1 x2 x3 x4 y1 hR) o h ho hh hs hs' z2 y2 h2

/-- The fifth head's scores in the first half, which the kernel names. -/
theorem score_256 : k0_pay126 i x0 x1 x2 x3 x4 = headScore 256 (by decide) (by decide) (k0_pay119 i x0 x1 x2 x3 x4) (k0_pay120 i x0 x1 x2 x3 x4) (k0_pay121 i x0 x1 x2 x3 x4) := rfl

/-- Their row maxima, repeated along the row. -/
theorem top_256 : k0_pay127 i x0 x1 x2 x3 x4 = broadcastTo S128x256 (headTop (k0_pay126 i x0 x1 x2 x3 x4)) broadcasts_S128x1_S128x256 := rfl

/-- The output block of a point is the block's output. -/
theorem stored_out : out0_5 i x0 x1 x2 x3 x4 y = blockOut (i 2).val x0 x1 x2 x3 x4 (y 1) (y 2) := by
  unfold out0_5
  canon_tiles z h
  · exact out_hi i x0 x1 x2 x3 x4 y z 448 7 h1 h2
  · exact out_hi i x0 x1 x2 x3 x4 y z 384 6 h1 h2
  · exact out_hi i x0 x1 x2 x3 x4 y z 320 5 h1 h2
  · exact out_hi i x0 x1 x2 x3 x4 y z 256 4 h1 h2
  · exact out_hi i x0 x1 x2 x3 x4 y z 192 3 h1 h2
  · exact out_hi i x0 x1 x2 x3 x4 y z 128 2 h1 h2
  · exact out_hi i x0 x1 x2 x3 x4 y z 64 1 h1 h2
  · exact out_hi i x0 x1 x2 x3 x4 y z 0 0 h1 (h2.trans (Nat.zero_add _).symm)
  · exact out_lo i x0 x1 x2 x3 x4 y z 448 7 h1 h2
  · exact out_lo i x0 x1 x2 x3 x4 y z 384 6 h1 h2
  · exact out_lo i x0 x1 x2 x3 x4 y z 320 5 h1 h2
  · rw [top_256 i x0 x1 x2 x3 x4, score_256 i x0 x1 x2 x3 x4]
    exact out_lo i x0 x1 x2 x3 x4 y z 256 4 h1 h2
  · exact out_lo i x0 x1 x2 x3 x4 y z 192 3 h1 h2
  · exact out_lo i x0 x1 x2 x3 x4 y z 128 2 h1 h2
  · exact out_lo i x0 x1 x2 x3 x4 y z 64 1 h1 h2
  · exact out_lo i x0 x1 x2 x3 x4 y z 0 0 h1 (h2.trans (Nat.zero_add _).symm)

/-- The log-sum-exp block of a point is the block's log-sum-exp. -/
theorem stored_lse : out0_6 i x0 x1 x2 x3 x4 y = blockLse (i 2).val x0 x1 x2 (y 1) (y 2) := by
  unfold out0_6
  canon_tiles z h
  · exact lse_hi i x0 x1 x2 x3 x4 y z 448 7 h1 h2
  · exact lse_hi i x0 x1 x2 x3 x4 y z 384 6 h1 h2
  · exact lse_hi i x0 x1 x2 x3 x4 y z 320 5 h1 h2
  · exact lse_hi i x0 x1 x2 x3 x4 y z 256 4 h1 h2
  · exact lse_hi i x0 x1 x2 x3 x4 y z 192 3 h1 h2
  · exact lse_hi i x0 x1 x2 x3 x4 y z 128 2 h1 h2
  · exact lse_hi i x0 x1 x2 x3 x4 y z 64 1 h1 h2
  · exact lse_hi i x0 x1 x2 x3 x4 y z 0 0 h1 (h2.trans (Nat.zero_add _).symm)
  · exact lse_lo i x0 x1 x2 x3 x4 y z 448 7 h1 h2
  · exact lse_lo i x0 x1 x2 x3 x4 y z 384 6 h1 h2
  · exact lse_lo i x0 x1 x2 x3 x4 y z 320 5 h1 h2
  · rw [top_256 i x0 x1 x2 x3 x4, score_256 i x0 x1 x2 x3 x4]
    exact lse_lo i x0 x1 x2 x3 x4 y z 256 4 h1 h2
  · exact lse_lo i x0 x1 x2 x3 x4 y z 192 3 h1 h2
  · exact lse_lo i x0 x1 x2 x3 x4 y z 128 2 h1 h2
  · exact lse_lo i x0 x1 x2 x3 x4 y z 64 1 h1 h2
  · exact lse_lo i x0 x1 x2 x3 x4 y z 0 0 h1 (h2.trans (Nat.zero_add _).symm)

end Cert.KernelIdeal.Block
-- ==== Proof.Array.lean ====
module
public import proofs.«01_k».proof.Proof.Spec
public import proofs.«01_k».proof.Proof.Block
public import proofs.«01_k».proof.Proof.Gen.KernelIdeal.Value

/-!
# What the kernel's result arrays hold

Each entry of the two result arrays, as the attention's output and log-sum-exp.
-/

@[expose] public section
set_option maxRecDepth 16384
noncomputable section
open Idealize.ShloMosaic Idealize.ShloMosaic.TcCoe Idealize.SL.Sem Idealize.ShloMosaic.StableHlo

namespace Cert.KernelIdeal.Array
open Cert.KernelIdeal Cert.KernelIdeal.Gen Cert.Attn

/-- Where the windows stand at a point: batch, residue and step. -/
theorem idx : ∀ t : Fin cfg0.N,
    win0_0.index t = ![(grid0.coords t 0).val, (grid0.coords t 2).val, (grid0.coords t 1).val * 3] ∧
    win0_1.index t = ![(grid0.coords t 0).val, (grid0.coords t 2).val * 2 - 1, (grid0.coords t 1).val * 3 + 1] ∧
    win0_2.index t = ![(grid0.coords t 0).val, (grid0.coords t 2).val, (grid0.coords t 1).val * 3 + 1] ∧
    win0_3.index t = ![(grid0.coords t 0).val, (grid0.coords t 2).val * 2 - 1, (grid0.coords t 1).val * 3 + 2] ∧
    win0_4.index t = ![(grid0.coords t 0).val, (grid0.coords t 2).val, (grid0.coords t 1).val * 3 + 2] ∧
    win0_5.index t = ![(grid0.coords t 0).val, (grid0.coords t 2).val, (grid0.coords t 1).val] ∧
    win0_6.index t = ![(grid0.coords t 0).val, (grid0.coords t 2).val, (grid0.coords t 1).val] :=
  (by decide +kernel : ∀ t : Fin grid0.N, _)

variable (m : (ℓ : Loc nD τ sig) → Buf (Elt Ideal) ℓ) (c : Dev nD) (t : Fin cfg0.N)

/-- The argument's contents. -/
abbrev arg : FVec Ideal S4x4096x3x8x64 .f32 := m ((c.tc : Thread nD τ).loc main_arg0)

/-- A point's batch. -/
abbrev bat : Fin 4 := grid0.coords t 0
/-- A point's residue. -/
abbrev res : Fin 4 := grid0.coords t 1
/-- A point's step in the residue's sequence. -/
abbrev stp : Fin 4 := grid0.coords t 2

/-- The position of row `R` of a point's block. -/
def pos (R : Fin 256) : Fin 4096 := ⟨((stp t).val * 256 + R.val) * 4 + (res t).val, by omega⟩

/-- The position of row `j` of the block of 128 rows before a point's block. -/
def prevPos (j : Fin 128) : Fin 4096 := ⟨(((stp t).val * 2 - 1) * 128 + j.val) * 4 + (res t).val, by omega⟩

/-- The coordinates of a point, by their names. -/
theorem coord_vals : (grid0.coords t 0).val = (bat t).val ∧ (grid0.coords t 1).val = (res t).val ∧ (res t).val < 4 ∧
    (grid0.coords t 2).val = (stp t).val ∧ (stp t).val < 4 := ⟨rfl, rfl, (res t).isLt, rfl, (stp t).isLt⟩

theorem read0 (R : Fin 256) (C : Fin 512) : iblk m c 0 t (ix3 0 R C) = arg m c (ix5 (bat t) (pos t R) 0 ⟨C.val / 64, by omega⟩ ⟨C.val % 64, by omega⟩) := by
  unfold pos
  blk_point [iblk, V, idx t]
  all_goals
    have := coord_vals t
    omega

theorem read1 (R : Fin 128) (C : Fin 512) : iblk m c 1 t (ix3 0 R C) = arg m c (ix5 (bat t) (prevPos t R) 1 ⟨C.val / 64, by omega⟩ ⟨C.val % 64, by omega⟩) := by
  unfold prevPos
  blk_point [iblk, V, idx t]
  all_goals
    have := coord_vals t
    omega

theorem read2 (R : Fin 256) (C : Fin 512) : iblk m c 2 t (ix3 0 R C) = arg m c (ix5 (bat t) (pos t R) 1 ⟨C.val / 64, by omega⟩ ⟨C.val % 64, by omega⟩) := by
  unfold pos
  blk_point [iblk, V, idx t]
  all_goals
    have := coord_vals t
    omega

theorem read3 (R : Fin 128) (C : Fin 512) : iblk m c 3 t (ix3 0 R C) = arg m c (ix5 (bat t) (prevPos t R) 2 ⟨C.val / 64, by omega⟩ ⟨C.val % 64, by omega⟩) := by
  unfold prevPos
  blk_point [iblk, V, idx t]
  all_goals
    have := coord_vals t
    omega

theorem read4 (R : Fin 256) (C : Fin 512) : iblk m c 4 t (ix3 0 R C) = arg m c (ix5 (bat t) (pos t R) 2 ⟨C.val / 64, by omega⟩ ⟨C.val % 64, by omega⟩) := by
  unfold pos
  blk_point [iblk, V, idx t]
  all_goals
    have := coord_vals t
    omega

/-- The key rows of a point's query row are the key positions' entries, where the mask keeps them. -/
theorem keyRow_at (w : Fin 3) (xp : Vec Ideal S1x128x512 .f32) (xc : Vec Ideal S1x256x512 .f32) (X : FVec Ideal S4x4096x3x8x64 .f32)
    (hp : ∀ R C, xp (ix3 0 R C) = X (ix5 (bat t) (prevPos t R) w ⟨C.val / 64, by omega⟩ ⟨C.val % 64, by omega⟩))
    (hc : ∀ R C, xc (ix3 0 R C) = X (ix5 (bat t) (pos t R) w ⟨C.val / 64, by omega⟩ ⟨C.val % 64, by omega⟩))
    (R j : Fin 256) (hj : R.val < 128 ∧ (stp t).val = 0 → 128 ≤ j.val) (C : Fin 512) :
    keyRow xp xc R j C = X (ix5 (bat t) (keyPos 4 (pos t R).val j) w ⟨C.val / 64, by omega⟩ ⟨C.val % 64, by omega⟩) := by
  unfold keyRow
  have hs := (stp t).isLt
  have hr := (res t).isLt
  split_ifs with h1 h2
  · rw [hp]
    congr 2; apply Fin.ext; simp only [keyPos, pos, prevPos]; omega
  · rw [hc]
    congr 2; apply Fin.ext; simp only [keyPos, pos]; omega
  · rw [hc]
    congr 2; apply Fin.ext; simp only [keyPos, pos]; omega

/-- The scores of a point's query row are the attention's. -/
theorem score_at (R : Fin 256) (C : Fin 512) (h : Fin 8) (hC : h.val = C.val / 64) :
    blockScore (stp t).val (iblk m c 0 t) (iblk m c 1 t) (iblk m c 2 t) R C = attScore 4 (arg m c) (bat t) (pos t R) h := by
  have hs := (stp t).isLt
  have hr := (res t).isLt
  unfold blockScore attScore
  refine score_congr (fun j => ?_) (fun x => ?_) fun j hj x => ?_
  · rw [show (pos t R).val / 4 % 128 = R.val % 128 by simp only [pos]; omega]
    have e : (R.val < 128 ∧ (stp t).val = 0) ↔ (pos t R).val / 4 / 128 = 0 := by simp only [pos]; omega
    unfold band; rw [e]
  · rw [read0]
    congr 2 <;> apply Fin.ext <;> simp only <;> omega
  · have hj2 : R.val < 128 ∧ (stp t).val = 0 → 128 ≤ j.val := fun e => hj.2.2 (by simp only [pos]; omega)
    rw [keyRow_at t 1 _ _ _ (read1 m c t) (read2 m c t) R j hj2]
    congr 2 <;> apply Fin.ext <;> simp only <;> omega

theorem point5 (R : Fin 256) (C : Fin 512) (h : Fin 8) (e : Fin 64) (hC : h.val = C.val / 64) (he : e.val = C.val % 64) :
    blockOut (stp t).val (iblk m c 0 t) (iblk m c 1 t) (iblk m c 2 t) (iblk m c 3 t) (iblk m c 4 t) R C = attOut 4 (arg m c) (bat t) (pos t R) h e := by
  unfold blockOut attOut
  rw [score_at m c t R C h hC]
  refine val_congr fun j hj => ?_
  have hj2 : R.val < 128 ∧ (stp t).val = 0 → 128 ≤ j.val := fun e => hj.2.2 (by simp only [pos]; omega)
  rw [keyRow_at t 2 _ _ _ (read3 m c t) (read4 m c t) R j hj2]
  congr 2 <;> apply Fin.ext <;> simp only <;> omega

theorem point6 (R : Fin 256) (C : Fin 512) (h : Fin 8) (hC : h.val = C.val / 64) :
    blockLse (stp t).val (iblk m c 0 t) (iblk m c 1 t) (iblk m c 2 t) R C = attLse 4 (arg m c) (bat t) (pos t R) h := by
  unfold blockLse attLse
  rw [score_at m c t R C h hC]

/-- The entry at a point's row `R` and column `C` of its block. -/
theorem outEntry_at (X : FVec Ideal S4x4096x3x8x64 .f32) (b : Fin 4) (u : Fin 1024) (v : Fin 2048) (R : Fin 256) (C : Fin 512)
    (hb : b.val = (bat t).val) (hu : u.val = (stp t).val * 256 + R.val) (hv : v.val = (res t).val * 512 + C.val) :
    attOut 4 X (bat t) (pos t R) ⟨C.val / 64, by omega⟩ ⟨C.val % 64, by omega⟩ = outEntry X b u v := by
  unfold outEntry
  obtain rfl : b = bat t := Fin.ext hb
  congr 1 <;> apply Fin.ext
  · simp only [pos]; omega
  · simp only; omega
  · simp only; omega

theorem lseEntry_at (X : FVec Ideal S4x4096x3x8x64 .f32) (b : Fin 4) (u : Fin 1024) (v : Fin 2048) (R : Fin 256) (C : Fin 512)
    (hb : b.val = (bat t).val) (hu : u.val = (stp t).val * 256 + R.val) (hv : v.val = (res t).val * 512 + C.val) :
    attLse 4 X (bat t) (pos t R) ⟨C.val / 64, by omega⟩ = lseEntry X b u v := by
  unfold lseEntry
  obtain rfl : b = bat t := Fin.ext hb
  congr 1 <;> apply Fin.ext
  · simp only [pos]; omega
  · simp only; omega

/-- The output array holds the attention's output. -/
theorem final5 : (dats m 0 c).arrAt 5 cfg0.N = fun i : S4x1024x2048.Idx => outEntry (arg m c) (i 0) (i 1) (i 2) := by
  refine (dats m 0 c).arrAt_eq_of_covers 5 _ (by decide +kernel) fun t _ y => ?_
  have hi := (idx t).2.2.2.2.2.1
  rw [after0_5, Block.stored_out]
  idx_vars y
  refine (point5 m c t y1 y2 _ _ rfl rfl).trans (outEntry_at t _ _ _ _ y1 y2 ?_ ?_ ?_)
  · blk_simp [hi]
  · blk_simp [hi]
  · blk_simp [hi]

/-- The log-sum-exp array holds the attention's log-sum-exp. -/
theorem final6 : (dats m 0 c).arrAt 6 cfg0.N = fun i : S4x1024x2048.Idx => lseEntry (arg m c) (i 0) (i 1) (i 2) := by
  refine (dats m 0 c).arrAt_eq_of_covers 6 _ (by decide +kernel) fun t _ y => ?_
  have hi := (idx t).2.2.2.2.2.2
  rw [after0_6, Block.stored_lse]
  idx_vars y
  refine (point6 m c t y1 y2 _ rfl).trans (lseEntry_at t _ _ _ _ y1 y2 ?_ ?_ ?_)
  · blk_simp [hi]
  · blk_simp [hi]
  · blk_simp [hi]

end Cert.KernelIdeal.Array
-- ==== Proof.Ref.lean ====
module
public import proofs.«01_k».proof.Proof.Spec
public import proofs.«01_k».proof.Proof.Gen.ReferenceIdeal.Run

/-!
# What the reference computes

The stages of the reference, each read at an index, and its two results as the attention's output and
log-sum-exp.
-/

@[expose] public section
set_option maxRecDepth 16384
noncomputable section
open Idealize.ShloMosaic Idealize.ShloMosaic.TcCoe Idealize.SL.Sem Idealize.ShloMosaic.StableHlo

namespace Cert.ReferenceIdeal.Stage
open Cert.ReferenceIdeal Cert.ReferenceIdeal.Gen Cert.Attn

/-- Queries (`w = 0`), keys (1) or values (2), as blocks of 128 rows of each residue's subsequence. -/
def sub (w : ℕ) (hw : S4x4096x3x8x64.Slices ![0, 0, w, 0, 0] S4x4096x1x8x64) (X : FVec Ideal S4x4096x3x8x64 .f32) : FVec Ideal S4x4x8x128x8x64 .f32 :=
  shapeCast _ (transpose S4x4x1024x8x64 [0, 2, 1, 3, 4] (shapeCast _ (shapeCast _ (extractStridedSlice S4x4096x1x8x64 ![0, 0, w, 0, 0] X hw) shapeCasts_S4x4096x1x8x64_S4x4096x8x64) shapeCasts_S4x4096x8x64_S4x1024x4x8x64) transposes_S4x1024x4x8x64_S4x4x1024x8x64_0_2_1_3_4) shapeCasts_S4x4x1024x8x64_S4x4x8x128x8x64

/-- Each block of rows behind the block before it, the first one behind zeros. -/
def withPrev (Y : FVec Ideal S4x4x8x128x8x64 .f32) : FVec Ideal S4x4x8x256x8x64 .f32 :=
  concatenate S4x4x8x256x8x64 3 [⟨S4x4x8x128x8x64, (extractStridedSlice S4x4x8x128x8x64 ![0, 0, 0, 0, 0, 0] (pad S4x4x9x128x8x64 ![0, 0, 1, 0, 0, 0] ![0, 0, 0, 0, 0, 0] ![0, 0, 0, 0, 0, 0] Y (sitofp .f32 (constantI S_ 32 0#32)) pads_S4x4x8x128x8x64_S4x4x9x128x8x64_000_000_100_000_000_000 h_S_) slices_S4x4x9x128x8x64_S4x4x8x128x8x64_0_0_0_0_0_0)⟩, ⟨S4x4x8x128x8x64, Y⟩] concatenates_S4x4x8x128x8x64_S4x4x8x128x8x64_S4x4x8x256x8x64_d3

/-- The mask: the band, and no key before the first block. -/
def mask : IVec S8x128x256 1 :=
  andi (broadcastInDim S8x128x256 ![0, 1, 2] bcast_S1x128x256_S8x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S8x128x256 ![0, 1, 2] bcast_S8x1x256_S8x128x256_0_1_2 (ori (broadcastInDim S8x1x256 ![0, 1, 2] bcast_S8x1x1_S8x1x256_0_1_2 (broadcastInDim S8x1x1 ![0] bcast_S8_S8x1x1_0 (cmpi .sgt (iotaInDim S8 32 0) (broadcastInDim S8 ![] bcast_S_S8 (constantI S_ 32 0#32))))) (broadcastInDim S8x1x256 ![0, 1, 2] bcast_S1x1x256_S8x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))

/-- The masked scores of queries `Q` and keys `K`. -/
def scores (Q : FVec Ideal S4x4x8x128x8x64 .f32) (K : FVec Ideal S4x4x8x256x8x64 .f32) : FVec Ideal S4x4x8x8x128x256 .f32 :=
  select (broadcastInDim S4x4x8x8x128x256 ![0, 1, 2, 3, 4, 5] bcast_S1x1x8x1x128x256_S4x4x8x8x128x256_0_1_2_3_4_5 (broadcastInDim S1x1x8x1x128x256 ![2, 4, 5] bcast_S8x128x256_S1x1x8x1x128x256_2_4_5 mask)) (mulf (Host.dotGeneral dot_S4x4x8x128x8x64_S4x4x8x256x8x64_S4x4x8x8x128x256_5_5_3_3_0124_0124 none Q K) (broadcastInDim S4x4x8x8x128x256 ![] bcast_S_S4x4x8x8x128x256 (constant S_ .f32 0x3E000000#32))) (broadcastInDim S4x4x8x8x128x256 ![] bcast_S_S4x4x8x8x128x256 (id (constant S_ .f32 0xFF800000#32)))

/-- The row maxima. -/
def tops (s : FVec Ideal S4x4x8x8x128x256 .f32) : FVec Ideal S4x4x8x8x128x1 .f32 :=
  broadcastInDim S4x4x8x8x128x1 ![0, 1, 2, 3, 4] bcast_S4x4x8x8x128_S4x4x8x8x128x1_0_1_2_3_4 (Host.reduce FloatOps.maximumf s (constant S_ .f32 0xFF800000#32) reducesTo_S4x4x8x8x128x256_S4x4x8x8x128_d5 h_S_)

/-- The exponential weights. -/
def weights (s : FVec Ideal S4x4x8x8x128x256 .f32) : FVec Ideal S4x4x8x8x128x256 .f32 :=
  Host.exp (subf s (broadcastInDim S4x4x8x8x128x256 ![0, 1, 2, 3, 4, 5] bcast_S4x4x8x8x128x1_S4x4x8x8x128x256_0_1_2_3_4_5 (tops s)))

/-- The weights' row sums. -/
def dens (s : FVec Ideal S4x4x8x8x128x256 .f32) : FVec Ideal S4x4x8x8x128x1 .f32 :=
  broadcastInDim S4x4x8x8x128x1 ![0, 1, 2, 3, 4] bcast_S4x4x8x8x128_S4x4x8x8x128x1_0_1_2_3_4 (Host.reduceAdd (weights s) (constant S_ .f32 0x00000000#32) reducesTo_S4x4x8x8x128x256_S4x4x8x8x128_d5 h_S_)

/-- A column without its last axis of size one, heads last. -/
def headsLast (x : FVec Ideal S4x4x8x8x128x1 .f32) : FVec Ideal S4x4x8x128x8 .f32 :=
  transpose S4x4x8x128x8 [0, 1, 2, 4, 3] (shapeCast _ x shapeCasts_S4x4x8x8x128x1_S4x4x8x8x128) transposes_S4x4x8x8x128_S4x4x8x128x8_0_1_2_4_3

/-- The attended values, block by block. -/
def outs (s : FVec Ideal S4x4x8x8x128x256 .f32) (V : FVec Ideal S4x4x8x256x8x64 .f32) : FVec Ideal S4x4x8x128x8x64 .f32 :=
  Host.divf (transpose S4x4x8x128x8x64 [0, 1, 2, 5, 3, 4] (Host.dotGeneral dot_S4x4x8x256x8x64_S4x4x8x8x128x256_S4x4x8x8x64x128_3_5_5_4_0124_0123 none V (weights s)) transposes_S4x4x8x8x64x128_S4x4x8x128x8x64_0_1_2_5_3_4) (broadcastInDim S4x4x8x128x8x64 ![0, 1, 2, 3, 4, 5] bcast_S4x4x8x128x8x1_S4x4x8x128x8x64_0_1_2_3_4_5 (broadcastInDim S4x4x8x128x8x1 ![0, 1, 2, 3, 4] bcast_S4x4x8x128x8_S4x4x8x128x8x1_0_1_2_3_4 (headsLast (dens s))))

/-- The log-sum-exps, block by block. -/
def lses (s : FVec Ideal S4x4x8x8x128x256 .f32) : FVec Ideal S4x4x8x128x8 .f32 :=
  headsLast (addf (tops s) (Host.log (dens s)))

/-- The scores from the argument. -/
def scoresOf (X : FVec Ideal S4x4096x3x8x64 .f32) : FVec Ideal S4x4x8x8x128x256 .f32 :=
  scores (sub 0 slices_S4x4096x3x8x64_S4x4096x1x8x64_0_0_0_0_0 X) (withPrev (sub 1 slices_S4x4096x3x8x64_S4x4096x1x8x64_0_0_1_0_0 X))

/-- The first result, from the argument. -/
def result0 (X : FVec Ideal S4x4096x3x8x64 .f32) : FVec Ideal S4x1024x2048 .f32 :=
  shapeCast _ (shapeCast _ (transpose S4x1024x4x8x64 [0, 2, 1, 3, 4] (shapeCast _ (outs (scoresOf X) (withPrev (sub 2 slices_S4x4096x3x8x64_S4x4096x1x8x64_0_0_2_0_0 X))) shapeCasts_S4x4x8x128x8x64_S4x4x1024x8x64) transposes_S4x4x1024x8x64_S4x1024x4x8x64_0_2_1_3_4) shapeCasts_S4x1024x4x8x64_S4x4096x8x64) shapeCasts_S4x4096x8x64_S4x1024x2048

/-- The second result, from the argument. -/
def result1 (X : FVec Ideal S4x4096x3x8x64 .f32) : FVec Ideal S4x1024x2048 .f32 :=
  shapeCast _ (broadcastInDim S4x4096x8x64 ![0, 1, 2, 3] bcast_S4x4096x8x1_S4x4096x8x64_0_1_2_3 (broadcastInDim S4x4096x8x1 ![0, 1, 2] bcast_S4x4096x8_S4x4096x8x1_0_1_2 (shapeCast _ (transpose S4x1024x4x8 [0, 2, 1, 3] (shapeCast _ (lses (scoresOf X)) shapeCasts_S4x4x8x128x8_S4x4x1024x8) transposes_S4x4x1024x8_S4x1024x4x8_0_2_1_3) shapeCasts_S4x1024x4x8_S4x4096x8))) shapeCasts_S4x4096x8x64_S4x1024x2048

theorem res0 (m : (ℓ : Loc nD τ sig) → Buf (Elt Ideal) ℓ) (c : Dev nD) : Value.res_out0 m c = result0 (m ((c.tc : Thread nD τ).loc main_arg0)) := rfl
theorem res1 (m : (ℓ : Loc nD τ sig) → Buf (Elt Ideal) ℓ) (c : Dev nD) : Value.res_out1 m c = result1 (m ((c.tc : Thread nD τ).loc main_arg0)) := rfl

/-- A row's queries, keys or values: block `n`, row `i` of residue `r` is position `(128 n + i) 4 + r`. -/
theorem sub_at (w : ℕ) (hw3 : w < 3) (hw) (X) (b r : Fin 4) (n : Fin 8) (i : Fin 128) (h : Fin 8) (e : Fin 64) :
    sub w hw X (ix6 b r n i h e) = X (ix5 b ⟨(n.val * 128 + i.val) * 4 + r.val, by omega⟩ ⟨w, hw3⟩ h e) := by
  pointwise [sub]

theorem withPrev_at (Y) (b r : Fin 4) (n : Fin 8) (j : Fin 256) (h : Fin 8) (e : Fin 64) (hj : n.val = 0 → 128 ≤ j.val) :
    withPrev Y (ix6 b r n j h e) = Y (ix6 b r ⟨(n.val * 128 + j.val - 128) / 128, by omega⟩ ⟨(n.val * 128 + j.val - 128) % 128, by omega⟩ h e) := by
  pointwise [withPrev]
  by_cases h1 : j.val < 128
  · rw [dif_pos h1, dif_pos ⟨⟨by omega, by omega⟩, h1⟩]
    congr 2 <;> apply Fin.ext <;> simp only <;> omega
  · rw [dif_neg h1]
    congr 2 <;> apply Fin.ext <;> simp only <;> omega

theorem mask_at (n : Fin 8) (i : Fin 128) (j : Fin 256) : mask (ix3 n i j) = BitVec.ofBool (decide (band (n.val = 0) i.val j)) := by
  pointwise [mask]
  exact mask_word n.val i.val j (by omega) i.isLt

theorem scores_at (Q K) (b r : Fin 4) (n h : Fin 8) (i : Fin 128) (j : Fin 256) :
    scores Q K (ix6 b r n h i j) = score (band (n.val = 0) i.val) (fun x => Q (ix6 b r n i h x)) (fun j x => K (ix6 b r n j h x)) j := by
  pointwise [scores]
  rw [mask_at]
  unfold score
  by_cases hb : band (n.val = 0) i.val j
  · rw [if_pos hb, decide_eq_true hb]; rfl
  · rw [if_neg hb, decide_eq_false hb]; exact Cert.Attn.neg_inf

/-- The last axis put back behind five others. -/
theorem lift_at (b r : Fin 4) (n h : Fin 8) (i : Fin 128) (k : Fin 256) (hr : S4x4x8x8x128x256.Reduces [5] S4x4x8x8x128) :
    hr.lift (ix5 b r n h i) k = ix6 b r n h i k := by
  funext a
  apply Fin.ext
  refine (hr.lift_val _ _ _).trans ?_
  match a with
  | ⟨0, _⟩ => rfl
  | ⟨1, _⟩ => rfl
  | ⟨2, _⟩ => rfl
  | ⟨3, _⟩ => rfl
  | ⟨4, _⟩ => rfl
  | ⟨5, _⟩ => rfl

theorem reduces : S4x4x8x8x128x256.Reduces [5] S4x4x8x8x128 := by decide +kernel

theorem tops_at (s) (b r : Fin 4) (n h : Fin 8) (i : Fin 128) (z : Fin 1) :
    tops s (ix6 b r n h i z) = top (fun j => s (ix6 b r n h i j)) := by
  pointwise [tops]
  refine (reduces.fold_filter_drop_single max _ s (ix5 b r n h i)).trans ?_
  refine (congrArg (fun z => Finset.fold max z (s ∘ reduces.lift (ix5 b r n h i)) Finset.univ) Cert.Attn.neg_inf).trans ?_
  exact congrArg (fun f => Finset.fold max ⊥ f Finset.univ) (funext fun k => congrArg s (lift_at b r n h i k reduces))

theorem weights_at (s) (b r : Fin 4) (n h : Fin 8) (i : Fin 128) (j : Fin 256) :
    weights s (ix6 b r n h i j) = weight (fun j => s (ix6 b r n h i j)) j := by
  pointwise [weights]
  rw [tops_at]; rfl

theorem dens_at (s) (b r : Fin 4) (n h : Fin 8) (i : Fin 128) (z : Fin 1) :
    dens s (ix6 b r n h i z) = den (fun j => s (ix6 b r n h i j)) := by
  pointwise [dens]
  refine (Ideal.hostReduceAdd_single _ reduces _ _ _).trans ?_
  rw [zero_add]
  exact Finset.sum_congr rfl fun k _ => (congrArg (weights s) (lift_at b r n h i k reduces)).trans (weights_at s b r n h i k)

theorem column_at (x : FVec Ideal S4x4x8x8x128x1 .f32) (b r : Fin 4) (n h : Fin 8) (i : Fin 128) :
    shapeCast S4x4x8x8x128 x shapeCasts_S4x4x8x8x128x1_S4x4x8x8x128 (ix5 b r n h i) = x (ix6 b r n h i 0) := by
  pointwise

theorem swap_at (x : FVec Ideal S4x4x8x8x128 .f32) (b r : Fin 4) (n h : Fin 8) (i : Fin 128) :
    transpose S4x4x8x128x8 [0, 1, 2, 4, 3] x transposes_S4x4x8x8x128_S4x4x8x128x8_0_1_2_4_3 (ix5 b r n i h) = x (ix5 b r n h i) := by
  pointwise

theorem headsLast_at (x) (b r : Fin 4) (n h : Fin 8) (i : Fin 128) : headsLast x (ix5 b r n i h) = x (ix6 b r n h i 0) :=
  (swap_at _ b r n h i).trans (column_at x b r n h i)

theorem outs_at (s V) (b r : Fin 4) (n h : Fin 8) (i : Fin 128) (e : Fin 64) :
    outs s V (ix6 b r n i h e) = val (fun j => s (ix6 b r n h i j)) (fun j => V (ix6 b r n j h e)) := by
  pointwise [outs]
  simp only [weights_at, headsLast_at, dens_at]
  exact congrArg (Ideal.div · _) (Finset.sum_congr rfl fun j _ => mul_comm _ _)

theorem add_log_at {σ : Shape} (x y : FVec Ideal σ .f32) (i : σ.Idx) : addf x (Host.log y) i = x i + Ideal.log (y i) := rfl

theorem lses_at (s) (b r : Fin 4) (n h : Fin 8) (i : Fin 128) :
    lses s (ix5 b r n i h) = lse (fun j => s (ix6 b r n h i j)) := by
  unfold lses
  rw [headsLast_at, add_log_at, tops_at, dens_at]
  rfl

theorem scoresOf_at (X) (b r : Fin 4) (n h : Fin 8) (i : Fin 128) (t : Fin 4096) (ht : t.val = (n.val * 128 + i.val) * 4 + r.val) :
    (fun j => scoresOf X (ix6 b r n h i j)) = attScore 4 X b t h := by
  funext j
  unfold scoresOf
  rw [scores_at]
  refine congrFun (score_congr (fun j => ?_) (fun x => ?_) fun j hj x => ?_) j
  · rw [show t.val / 4 / 128 = n.val by omega, show t.val / 4 % 128 = i.val by omega]
  · rw [sub_at 0 (by decide)]
    congr 2; apply Fin.ext; simp only; omega
  · have := hj.2.2
    rw [withPrev_at _ _ _ _ _ _ _ (by omega), sub_at 1 (by decide)]
    congr 2; apply Fin.ext; simp only [keyPos]; omega

theorem outs_att (X) (b r : Fin 4) (n h : Fin 8) (i : Fin 128) (e : Fin 64) (t : Fin 4096) (ht : t.val = (n.val * 128 + i.val) * 4 + r.val) :
    outs (scoresOf X) (withPrev (sub 2 slices_S4x4096x3x8x64_S4x4096x1x8x64_0_0_2_0_0 X)) (ix6 b r n i h e) = attOut 4 X b t h e := by
  rw [outs_at, scoresOf_at X b r n h i t ht]
  refine val_congr fun j hj => ?_
  have := hj.2.2
  rw [withPrev_at _ _ _ _ _ _ _ (by omega), sub_at 2 (by decide)]
  congr 2; apply Fin.ext; simp only [keyPos]; omega

theorem result0_at (X) (b : Fin 4) (u : Fin 1024) (c : Fin 2048) :
    result0 X (ix3 b u c) = outEntry X b u c := by
  pointwise [result0]
  rw [outs_att X _ _ _ _ _ _ ⟨u.val * 4 + c.val / 512, by omega⟩ (by simp only; omega)]
  rfl

theorem result1_at (X) (b : Fin 4) (u : Fin 1024) (c : Fin 2048) :
    result1 X (ix3 b u c) = lseEntry X b u c := by
  pointwise [result1]
  rw [lses_at, scoresOf_at X _ _ _ _ _ ⟨u.val * 4 + c.val / 512, by omega⟩ (by simp only; omega)]
  rfl

end Cert.ReferenceIdeal.Stage
-- ==== Proof.InProj.lean ====
module
public import Idealize.ShloMosaic.Lib.Pipeline.ValueKit

/-!
# The layer's input projection

The tokens' rows against the columns of the input weights. The layer takes three ranges of its columns,
each by a call of its own.
-/

@[expose] public section
noncomputable section
open Idealize.ShloMosaic

namespace Cert.Proj

/-- Token `i`'s row (batch `i / 4096`, position `i % 4096`) against column `j` of the weights. -/
def inEntry (X : FVec Ideal ⟨3, ![4, 4096, 2048]⟩ .f32) (W : FVec Ideal ⟨2, ![2048, 15296]⟩ .f32) (i : Fin 16384) (j : Fin 15296) : EReal :=
  ∑ k : Fin 2048, X (ix3 ⟨i.val / 4096, by omega⟩ ⟨i.val % 4096, by omega⟩ k) * W (ix2 k j)

end Cert.Proj
-- ==== Proof.RkvArray.lean ====
module
public import proofs.«01_k».proof.Proof.InProj
public import proofs.«01_k».proof.Proof.Gen.RkvIdeal.Value
public import proofs.«01_k».proof.Proof.Gen.RkvRefIdeal.Run

/-!
# The receptance, key and value projection

Column `c` of the projection is head-minor: part `c / 2048`, then the place in the head, then the head.
-/

@[expose] public section
set_option maxRecDepth 16384
noncomputable section
open Idealize.ShloMosaic Idealize.ShloMosaic.TcCoe Idealize.SL.Sem Idealize.ShloMosaic.StableHlo

namespace Cert.RkvIdeal.Array
open Cert.RkvIdeal Cert.RkvIdeal.Gen

/-- The weight column that the projection's column `c` takes. -/
def weightCol (c : ℕ) : ℕ := c / 2048 * 2048 + c % 32 * 64 + c / 32 % 64

/-- It is a column of the weights. -/
theorem weightCol_lt (c : Fin 6144) : weightCol c.val < 15296 := by
  unfold weightCol; omega

/-- Entry `(i, c)` of the projection: token `i`'s row against its weight column. -/
def entry (X : FVec Ideal S4x4096x2048 .f32) (W : FVec Ideal S2048x15296 .f32) (i : Fin 16384) (c : Fin 6144) : EReal :=
  Cert.Proj.inEntry X W i ⟨weightCol c.val, weightCol_lt c⟩

/-- Where the windows stand at a point. -/
theorem idx : ∀ t : Fin cfg0.N,
    win0_0.index t = ![(grid0.coords t 1).val, 0] ∧
    win0_1.index t = ![0, (grid0.coords t 0).val] ∧
    win0_2.index t = ![(grid0.coords t 1).val, (grid0.coords t 0).val] :=
  (by decide +kernel : ∀ t : Fin grid0.N, _)

variable (m : (ℓ : Loc nD τ sig) → Buf (Elt Ideal) ℓ) (c : Dev nD) (t : Fin cfg0.N)

/-- The tokens. -/
abbrev tokens : FVec Ideal S4x4096x2048 .f32 := m ((c.tc : Thread nD τ).loc main_arg0)
/-- The weights. -/
abbrev weights : FVec Ideal S2048x15296 .f32 := m ((c.tc : Thread nD τ).loc main_arg1)

/-- A point's tile of columns. -/
abbrev col : Fin 6 := grid0.coords t 0
/-- A point's tile of rows. -/
abbrev row : Fin 16 := grid0.coords t 1

/-- The coordinates of a point, by their names. -/
theorem coord_vals : (grid0.coords t 0).val = (col t).val ∧ (col t).val < 6 ∧
    (grid0.coords t 1).val = (row t).val ∧ (row t).val < 16 := ⟨rfl, (col t).isLt, rfl, (row t).isLt⟩

/-- A point's block of token rows. -/
theorem read0 (R : Fin 1024) (k : Fin 2048) : iblk m c 0 t (ix2 R k) = tokens m c (ix3 ⟨((row t).val * 1024 + R.val) / 4096, by omega⟩ ⟨((row t).val * 1024 + R.val) % 4096, by omega⟩ k) := by
  blk_point [iblk, V, idx t]
  all_goals
    have := coord_vals t
    omega

/-- A point's block of weight columns. -/
theorem read1 (k : Fin 2048) (C : Fin 1024) : iblk m c 1 t (ix2 k C) = weights m c (ix2 k ⟨weightCol ((col t).val * 1024 + C.val), weightCol_lt ⟨(col t).val * 1024 + C.val, by omega⟩⟩) := by
  unfold weightCol
  blk_point [iblk, V, idx t]
  all_goals
    have := coord_vals t
    omega

/-- The stored tile, entry by entry. -/
theorem stored (x : Vec Ideal S1024x2048 .bf16) (w : Vec Ideal S2048x1024 .f32) (R C : Fin 1024) :
    out0_2 x w (ix2 R C) = ∑ k : Fin 2048, x (ix2 R k) * w (ix2 k C) := by
  unfold out0_2
  canon_tiles z h
  pointwise [k0_pay1]
  rw [show R = z 0 from Fin.ext h0, show C = z 1 from Fin.ext h1]

/-- Entry `(R, C)` of the tile in row tile `a` and column tile `b`. -/
def tileEntry (X : FVec Ideal S4x4096x2048 .f32) (W : FVec Ideal S2048x15296 .f32) (a : Fin 16) (b : Fin 6) (R C : Fin 1024) : EReal :=
  entry X W ⟨a.val * 1024 + R.val, by omega⟩ ⟨b.val * 1024 + C.val, by omega⟩

/-- A tile's entry is the array's, at the tile's place. -/
theorem entry_at (X : FVec Ideal S4x4096x2048 .f32) (W : FVec Ideal S2048x15296 .f32) (a : Fin 16) (b : Fin 6) (i : Fin 16384) (j : Fin 6144) (R C : Fin 1024)
    (hi : i.val = a.val * 1024 + R.val) (hj : j.val = b.val * 1024 + C.val) : tileEntry X W a b R C = entry X W i j := by
  simp only [tileEntry, ← hi, ← hj]

/-- A point's stored tile, from the arguments. -/
theorem point (y : S1024x1024.Idx) :
    out0_2 (iblk m c 0 t) (iblk m c 1 t) y = tileEntry (tokens m c) (weights m c) (row t) (col t) (y 0) (y 1) := by
  idx_vars y
  exact (stored _ _ y0 y1).trans (Finset.sum_congr rfl fun k _ => congrArg₂ (fun a b : EReal => a * b) (read0 m c t y0 k) (read1 m c t k y1))

/-- The result array holds the projection. -/
theorem final : (dats m 0 c).arrAt 2 cfg0.N = fun i : S16384x6144.Idx => entry (tokens m c) (weights m c) (i 0) (i 1) := by
  refine (dats m 0 c).arrAt_eq_of_covers 2 _ (by decide +kernel) fun t _ y => ?_
  have hi := (idx t).2.2
  rw [after0_2, point]
  idx_vars y
  refine entry_at _ _ _ _ _ _ y0 y1 ?_ ?_
  · blk_simp [hi]
  · blk_simp [hi]

end Cert.RkvIdeal.Array

namespace Cert.RkvRefIdeal.Stage
open Cert.RkvRefIdeal Cert.RkvRefIdeal.Gen

/-- The reference's result. -/
def result (X : FVec Ideal S4x4096x2048 .f32) (W : FVec Ideal S2048x15296 .f32) : FVec Ideal S16384x6144 .f32 :=
  shapeCast _ (transpose S16384x3x64x32 [0, 1, 3, 2] (shapeCast _ (extractStridedSlice S4x4096x6144 ![0, 0, 0] (Host.dotGeneral dot_S4x4096x2048_S2048x15296_S4x4096x15296_2_0_01_1_n_n none X W) slices_S4x4096x15296_S4x4096x6144_0_0_0) shapeCasts_S4x4096x6144_S16384x3x32x64) transposes_S16384x3x32x64_S16384x3x64x32_0_1_3_2) shapeCasts_S16384x3x64x32_S16384x6144

/-- The reference's result is the projection, entry by entry. -/
theorem result_at (X W) (i : Fin 16384) (j : Fin 6144) : result X W (ix2 i j) = Cert.RkvIdeal.Array.entry X W i j := by
  pointwise [result]
  rfl

/-- The reference's result is the projection. -/
theorem result_eq (X W) : result X W = fun i : S16384x6144.Idx => Cert.RkvIdeal.Array.entry X W (i 0) (i 1) := by
  funext i
  exact (congrArg _ (ix2_eta i).symm).trans (result_at X W (i 0) (i 1))

end Cert.RkvRefIdeal.Stage
-- ==== Proof.LoraArray.lean ====
module
public import proofs.«01_k».proof.Proof.InProj
public import proofs.«01_k».proof.Proof.Gen.LoraIdeal.Value
public import proofs.«01_k».proof.Proof.Gen.LoraRefIdeal.Run

/-!
# The projection onto the low-rank inputs

Its columns are the input weights' columns from 6144.
-/

@[expose] public section
set_option maxRecDepth 16384
noncomputable section
open Idealize.ShloMosaic Idealize.ShloMosaic.TcCoe Idealize.SL.Sem Idealize.ShloMosaic.StableHlo

namespace Cert.LoraIdeal.Array
open Cert.LoraIdeal Cert.LoraIdeal.Gen

/-- The weight column that the projection's column `c` takes. -/
def weightCol (c : ℕ) : ℕ := 6144 + c

/-- It is a column of the weights. -/
theorem weightCol_lt (c : Fin 448) : weightCol c.val < 15296 := by
  unfold weightCol; omega

/-- Entry `(i, c)` of the projection: token `i`'s row against its weight column. -/
def entry (X : FVec Ideal S4x4096x2048 .f32) (W : FVec Ideal S2048x15296 .f32) (i : Fin 16384) (c : Fin 448) : EReal :=
  Cert.Proj.inEntry X W i ⟨weightCol c.val, weightCol_lt c⟩

/-- Where the windows stand at a point. -/
theorem idx : ∀ t : Fin cfg0.N,
    win0_0.index t = ![(grid0.coords t 1).val, 0] ∧
    win0_1.index t = ![0, (grid0.coords t 0).val] ∧
    win0_2.index t = ![(grid0.coords t 1).val, (grid0.coords t 0).val] :=
  (by decide +kernel : ∀ t : Fin grid0.N, _)

variable (m : (ℓ : Loc nD τ sig) → Buf (Elt Ideal) ℓ) (c : Dev nD) (t : Fin cfg0.N)

/-- The tokens. -/
abbrev tokens : FVec Ideal S4x4096x2048 .f32 := m ((c.tc : Thread nD τ).loc main_arg0)
/-- The weights. -/
abbrev weights : FVec Ideal S2048x15296 .f32 := m ((c.tc : Thread nD τ).loc main_arg1)

/-- A point's tile of columns. -/
abbrev col : Fin 1 := grid0.coords t 0
/-- A point's tile of rows. -/
abbrev row : Fin 16 := grid0.coords t 1

/-- The coordinates of a point, by their names. -/
theorem coord_vals : (grid0.coords t 0).val = (col t).val ∧ (col t).val < 1 ∧
    (grid0.coords t 1).val = (row t).val ∧ (row t).val < 16 := ⟨rfl, (col t).isLt, rfl, (row t).isLt⟩

/-- A point's block of token rows. -/
theorem read0 (R : Fin 1024) (k : Fin 2048) : iblk m c 0 t (ix2 R k) = tokens m c (ix3 ⟨((row t).val * 1024 + R.val) / 4096, by omega⟩ ⟨((row t).val * 1024 + R.val) % 4096, by omega⟩ k) := by
  blk_point [iblk, V, idx t]
  all_goals
    have := coord_vals t
    omega

/-- A point's block of weight columns. -/
theorem read1 (k : Fin 2048) (C : Fin 448) : iblk m c 1 t (ix2 k C) = weights m c (ix2 k ⟨weightCol ((col t).val * 448 + C.val), weightCol_lt ⟨(col t).val * 448 + C.val, by omega⟩⟩) := by
  unfold weightCol
  blk_point [iblk, V, idx t]
  all_goals
    have := coord_vals t
    omega

/-- The stored tile, entry by entry. -/
theorem stored (x : Vec Ideal S1024x2048 .bf16) (w : Vec Ideal S2048x448 .f32) (R : Fin 1024) (C : Fin 448) :
    out0_2 x w (ix2 R C) = ∑ k : Fin 2048, x (ix2 R k) * w (ix2 k C) := by
  unfold out0_2
  canon_tiles z h
  pointwise [k0_pay1]
  rw [show R = z 0 from Fin.ext h0, show C = z 1 from Fin.ext h1]

/-- Entry `(R, C)` of the tile in row tile `a` and column tile `b`. -/
def tileEntry (X : FVec Ideal S4x4096x2048 .f32) (W : FVec Ideal S2048x15296 .f32) (a : Fin 16) (b : Fin 1) (R : Fin 1024) (C : Fin 448) : EReal :=
  entry X W ⟨a.val * 1024 + R.val, by omega⟩ ⟨b.val * 448 + C.val, by omega⟩

/-- A tile's entry is the array's, at the tile's place. -/
theorem entry_at (X : FVec Ideal S4x4096x2048 .f32) (W : FVec Ideal S2048x15296 .f32) (a : Fin 16) (b : Fin 1) (i : Fin 16384) (j : Fin 448) (R : Fin 1024) (C : Fin 448)
    (hi : i.val = a.val * 1024 + R.val) (hj : j.val = b.val * 448 + C.val) : tileEntry X W a b R C = entry X W i j := by
  simp only [tileEntry, ← hi, ← hj]

/-- A point's stored tile, from the arguments. -/
theorem point (y : S1024x448.Idx) :
    out0_2 (iblk m c 0 t) (iblk m c 1 t) y = tileEntry (tokens m c) (weights m c) (row t) (col t) (y 0) (y 1) := by
  idx_vars y
  exact (stored _ _ y0 y1).trans (Finset.sum_congr rfl fun k _ => congrArg₂ (fun a b : EReal => a * b) (read0 m c t y0 k) (read1 m c t k y1))

/-- The result array holds the projection. -/
theorem final : (dats m 0 c).arrAt 2 cfg0.N = fun i : S16384x448.Idx => entry (tokens m c) (weights m c) (i 0) (i 1) := by
  refine (dats m 0 c).arrAt_eq_of_covers 2 _ (by decide +kernel) fun t _ y => ?_
  have hi := (idx t).2.2
  rw [after0_2, point]
  idx_vars y
  refine entry_at _ _ _ _ _ _ y0 y1 ?_ ?_
  · blk_simp [hi]
  · blk_simp [hi]

end Cert.LoraIdeal.Array

namespace Cert.LoraRefIdeal.Stage
open Cert.LoraRefIdeal Cert.LoraRefIdeal.Gen

/-- The reference's result. -/
def result (X : FVec Ideal S4x4096x2048 .f32) (W : FVec Ideal S2048x15296 .f32) : FVec Ideal S16384x448 .f32 :=
  shapeCast _ (extractStridedSlice S4x4096x448 ![0, 0, 6144] (Host.dotGeneral dot_S4x4096x2048_S2048x15296_S4x4096x15296_2_0_01_1_n_n none X W) slices_S4x4096x15296_S4x4096x448_0_0_6144) shapeCasts_S4x4096x448_S16384x448

/-- The reference's result is the projection, entry by entry. -/
theorem result_at (X W) (i : Fin 16384) (j : Fin 448) : result X W (ix2 i j) = Cert.LoraIdeal.Array.entry X W i j := by
  pointwise [result]
  rfl

/-- The reference's result is the projection. -/
theorem result_eq (X W) : result X W = fun i : S16384x448.Idx => Cert.LoraIdeal.Array.entry X W (i 0) (i 1) := by
  funext i
  exact (congrArg _ (ix2_eta i).symm).trans (result_at X W (i 0) (i 1))

end Cert.LoraRefIdeal.Stage
-- ==== Proof.GateArray.lean ====
module
public import proofs.«01_k».proof.Proof.InProj
public import proofs.«01_k».proof.Proof.Gen.GateIdeal.Value
public import proofs.«01_k».proof.Proof.Gen.GateRefIdeal.Run

/-!
# The projection onto the merge gates

Its columns are the input weights' columns from 11200.
-/

@[expose] public section
set_option maxRecDepth 16384
noncomputable section
open Idealize.ShloMosaic Idealize.ShloMosaic.TcCoe Idealize.SL.Sem Idealize.ShloMosaic.StableHlo

namespace Cert.GateIdeal.Array
open Cert.GateIdeal Cert.GateIdeal.Gen

/-- The weight column that the projection's column `c` takes. -/
def weightCol (c : ℕ) : ℕ := 11200 + c

/-- It is a column of the weights. -/
theorem weightCol_lt (c : Fin 4096) : weightCol c.val < 15296 := by
  unfold weightCol; omega

/-- Entry `(i, c)` of the projection: token `i`'s row against its weight column. -/
def entry (X : FVec Ideal S4x4096x2048 .f32) (W : FVec Ideal S2048x15296 .f32) (i : Fin 16384) (c : Fin 4096) : EReal :=
  Cert.Proj.inEntry X W i ⟨weightCol c.val, weightCol_lt c⟩

/-- Where the windows stand at a point. -/
theorem idx : ∀ t : Fin cfg0.N,
    win0_0.index t = ![(grid0.coords t 1).val, 0] ∧
    win0_1.index t = ![0, (grid0.coords t 0).val] ∧
    win0_2.index t = ![(grid0.coords t 1).val, (grid0.coords t 0).val] :=
  (by decide +kernel : ∀ t : Fin grid0.N, _)

variable (m : (ℓ : Loc nD τ sig) → Buf (Elt Ideal) ℓ) (c : Dev nD) (t : Fin cfg0.N)

/-- The tokens. -/
abbrev tokens : FVec Ideal S4x4096x2048 .f32 := m ((c.tc : Thread nD τ).loc main_arg0)
/-- The weights. -/
abbrev weights : FVec Ideal S2048x15296 .f32 := m ((c.tc : Thread nD τ).loc main_arg1)

/-- A point's tile of columns. -/
abbrev col : Fin 4 := grid0.coords t 0
/-- A point's tile of rows. -/
abbrev row : Fin 16 := grid0.coords t 1

/-- The coordinates of a point, by their names. -/
theorem coord_vals : (grid0.coords t 0).val = (col t).val ∧ (col t).val < 4 ∧
    (grid0.coords t 1).val = (row t).val ∧ (row t).val < 16 := ⟨rfl, (col t).isLt, rfl, (row t).isLt⟩

/-- A point's block of token rows. -/
theorem read0 (R : Fin 1024) (k : Fin 2048) : iblk m c 0 t (ix2 R k) = tokens m c (ix3 ⟨((row t).val * 1024 + R.val) / 4096, by omega⟩ ⟨((row t).val * 1024 + R.val) % 4096, by omega⟩ k) := by
  blk_point [iblk, V, idx t]
  all_goals
    have := coord_vals t
    omega

/-- A point's block of weight columns. -/
theorem read1 (k : Fin 2048) (C : Fin 1024) : iblk m c 1 t (ix2 k C) = weights m c (ix2 k ⟨weightCol ((col t).val * 1024 + C.val), weightCol_lt ⟨(col t).val * 1024 + C.val, by omega⟩⟩) := by
  unfold weightCol
  blk_point [iblk, V, idx t]
  all_goals
    have := coord_vals t
    omega

/-- The stored tile, entry by entry. -/
theorem stored (x : Vec Ideal S1024x2048 .bf16) (w : Vec Ideal S2048x1024 .f32) (R : Fin 1024) (C : Fin 1024) :
    out0_2 x w (ix2 R C) = ∑ k : Fin 2048, x (ix2 R k) * w (ix2 k C) := by
  unfold out0_2
  canon_tiles z h
  pointwise [k0_pay1]
  rw [show R = z 0 from Fin.ext h0, show C = z 1 from Fin.ext h1]

/-- Entry `(R, C)` of the tile in row tile `a` and column tile `b`. -/
def tileEntry (X : FVec Ideal S4x4096x2048 .f32) (W : FVec Ideal S2048x15296 .f32) (a : Fin 16) (b : Fin 4) (R : Fin 1024) (C : Fin 1024) : EReal :=
  entry X W ⟨a.val * 1024 + R.val, by omega⟩ ⟨b.val * 1024 + C.val, by omega⟩

/-- A tile's entry is the array's, at the tile's place. -/
theorem entry_at (X : FVec Ideal S4x4096x2048 .f32) (W : FVec Ideal S2048x15296 .f32) (a : Fin 16) (b : Fin 4) (i : Fin 16384) (j : Fin 4096) (R : Fin 1024) (C : Fin 1024)
    (hi : i.val = a.val * 1024 + R.val) (hj : j.val = b.val * 1024 + C.val) : tileEntry X W a b R C = entry X W i j := by
  simp only [tileEntry, ← hi, ← hj]

/-- A point's stored tile, from the arguments. -/
theorem point (y : S1024x1024.Idx) :
    out0_2 (iblk m c 0 t) (iblk m c 1 t) y = tileEntry (tokens m c) (weights m c) (row t) (col t) (y 0) (y 1) := by
  idx_vars y
  exact (stored _ _ y0 y1).trans (Finset.sum_congr rfl fun k _ => congrArg₂ (fun a b : EReal => a * b) (read0 m c t y0 k) (read1 m c t k y1))

/-- The result array holds the projection. -/
theorem final : (dats m 0 c).arrAt 2 cfg0.N = fun i : S16384x4096.Idx => entry (tokens m c) (weights m c) (i 0) (i 1) := by
  refine (dats m 0 c).arrAt_eq_of_covers 2 _ (by decide +kernel) fun t _ y => ?_
  have hi := (idx t).2.2
  rw [after0_2, point]
  idx_vars y
  refine entry_at _ _ _ _ _ _ y0 y1 ?_ ?_
  · blk_simp [hi]
  · blk_simp [hi]

end Cert.GateIdeal.Array

namespace Cert.GateRefIdeal.Stage
open Cert.GateRefIdeal Cert.GateRefIdeal.Gen

/-- The reference's result. -/
def result (X : FVec Ideal S4x4096x2048 .f32) (W : FVec Ideal S2048x15296 .f32) : FVec Ideal S16384x4096 .f32 :=
  shapeCast _ (extractStridedSlice S4x4096x4096 ![0, 0, 11200] (Host.dotGeneral dot_S4x4096x2048_S2048x15296_S4x4096x15296_2_0_01_1_n_n none X W) slices_S4x4096x15296_S4x4096x4096_0_0_11200) shapeCasts_S4x4096x4096_S16384x4096

/-- The reference's result is the projection, entry by entry. -/
theorem result_at (X W) (i : Fin 16384) (j : Fin 4096) : result X W (ix2 i j) = Cert.GateIdeal.Array.entry X W i j := by
  pointwise [result]
  rfl

/-- The reference's result is the projection. -/
theorem result_eq (X W) : result X W = fun i : S16384x4096.Idx => Cert.GateIdeal.Array.entry X W (i 0) (i 1) := by
  funext i
  exact (congrArg _ (ix2_eta i).symm).trans (result_at X W (i 0) (i 1))

end Cert.GateRefIdeal.Stage
-- ==== Proof.CaQArray.lean ====
module
public import Idealize.ShloMosaic.Lib.Pipeline.ValueKit
public import proofs.«01_k».proof.Proof.Gen.CaQIdeal.Value
public import proofs.«01_k».proof.Proof.Gen.CaQRefIdeal.Run

/-!
# The queries of the memory attention

The tokens' rows against the query weights.
-/

@[expose] public section
set_option maxRecDepth 16384
noncomputable section
open Idealize.ShloMosaic Idealize.ShloMosaic.TcCoe Idealize.SL.Sem Idealize.ShloMosaic.StableHlo

namespace Cert.CaQIdeal.Array
open Cert.CaQIdeal Cert.CaQIdeal.Gen

/-- Entry `(i, c)` of the projection: token `i`'s row against weight column `c`. -/
def entry (X : FVec Ideal S16384x2048 .f32) (W : FVec Ideal S2048x2048 .f32) (i : Fin 16384) (c : Fin 2048) : EReal :=
  ∑ k : Fin 2048, X (ix2 i k) * W (ix2 k c)

/-- Where the windows stand at a point. -/
theorem idx : ∀ t : Fin cfg0.N,
    win0_0.index t = ![(grid0.coords t 1).val, 0] ∧
    win0_1.index t = ![0, (grid0.coords t 0).val] ∧
    win0_2.index t = ![(grid0.coords t 1).val, (grid0.coords t 0).val] :=
  (by decide +kernel : ∀ t : Fin grid0.N, _)

variable (m : (ℓ : Loc nD τ sig) → Buf (Elt Ideal) ℓ) (c : Dev nD) (t : Fin cfg0.N)

/-- The tokens. -/
abbrev tokens : FVec Ideal S16384x2048 .f32 := m ((c.tc : Thread nD τ).loc main_arg0)
/-- The weights. -/
abbrev weights : FVec Ideal S2048x2048 .f32 := m ((c.tc : Thread nD τ).loc main_arg1)

/-- A point's tile of columns. -/
abbrev col : Fin 2 := grid0.coords t 0
/-- A point's tile of rows. -/
abbrev row : Fin 16 := grid0.coords t 1

/-- The coordinates of a point, by their names. -/
theorem coord_vals : (grid0.coords t 0).val = (col t).val ∧ (col t).val < 2 ∧
    (grid0.coords t 1).val = (row t).val ∧ (row t).val < 16 := ⟨rfl, (col t).isLt, rfl, (row t).isLt⟩

/-- A point's block of token rows. -/
theorem read0 (R : Fin 1024) (k : Fin 2048) : iblk m c 0 t (ix2 R k) = tokens m c (ix2 ⟨(row t).val * 1024 + R.val, by omega⟩ k) := by
  blk_point [iblk, V, idx t]
  all_goals
    have := coord_vals t
    omega

/-- A point's block of weight columns. -/
theorem read1 (k : Fin 2048) (C : Fin 1024) : iblk m c 1 t (ix2 k C) = weights m c (ix2 k ⟨(col t).val * 1024 + C.val, by omega⟩) := by
  blk_point [iblk, V, idx t]
  all_goals
    have := coord_vals t
    omega

/-- The stored tile, entry by entry. -/
theorem stored (x : Vec Ideal S1024x2048 .bf16) (w : Vec Ideal S2048x1024 .f32) (R : Fin 1024) (C : Fin 1024) :
    out0_2 x w (ix2 R C) = ∑ k : Fin 2048, x (ix2 R k) * w (ix2 k C) := by
  unfold out0_2
  canon_tiles z h
  pointwise [k0_pay1]
  rw [show R = z 0 from Fin.ext h0, show C = z 1 from Fin.ext h1]

/-- Entry `(R, C)` of the tile in row tile `a` and column tile `b`. -/
def tileEntry (X : FVec Ideal S16384x2048 .f32) (W : FVec Ideal S2048x2048 .f32) (a : Fin 16) (b : Fin 2) (R : Fin 1024) (C : Fin 1024) : EReal :=
  entry X W ⟨a.val * 1024 + R.val, by omega⟩ ⟨b.val * 1024 + C.val, by omega⟩

/-- A tile's entry is the array's, at the tile's place. -/
theorem entry_at (X : FVec Ideal S16384x2048 .f32) (W : FVec Ideal S2048x2048 .f32) (a : Fin 16) (b : Fin 2) (i : Fin 16384) (j : Fin 2048) (R : Fin 1024) (C : Fin 1024)
    (hi : i.val = a.val * 1024 + R.val) (hj : j.val = b.val * 1024 + C.val) : tileEntry X W a b R C = entry X W i j := by
  simp only [tileEntry, ← hi, ← hj]

/-- A point's stored tile, from the arguments. -/
theorem point (y : S1024x1024.Idx) :
    out0_2 (iblk m c 0 t) (iblk m c 1 t) y = tileEntry (tokens m c) (weights m c) (row t) (col t) (y 0) (y 1) := by
  idx_vars y
  exact (stored _ _ y0 y1).trans (Finset.sum_congr rfl fun k _ => congrArg₂ (fun a b : EReal => a * b) (read0 m c t y0 k) (read1 m c t k y1))

/-- The result array holds the projection. -/
theorem final : (dats m 0 c).arrAt 2 cfg0.N = fun i : S16384x2048.Idx => entry (tokens m c) (weights m c) (i 0) (i 1) := by
  refine (dats m 0 c).arrAt_eq_of_covers 2 _ (by decide +kernel) fun t _ y => ?_
  have hi := (idx t).2.2
  rw [after0_2, point]
  idx_vars y
  refine entry_at _ _ _ _ _ _ y0 y1 ?_ ?_
  · blk_simp [hi]
  · blk_simp [hi]

end Cert.CaQIdeal.Array

namespace Cert.CaQRefIdeal.Stage
open Cert.CaQRefIdeal Cert.CaQRefIdeal.Gen

/-- The reference's result. -/
def result (X : FVec Ideal S16384x2048 .f32) (W : FVec Ideal S2048x2048 .f32) : FVec Ideal S16384x2048 .f32 :=
  Host.dotGeneral dot_S16384x2048_S2048x2048_S16384x2048_1_0_0_1_n_n none X W

/-- The reference's result is the projection, entry by entry. -/
theorem result_at (X W) (i : Fin 16384) (j : Fin 2048) : result X W (ix2 i j) = Cert.CaQIdeal.Array.entry X W i j := by
  pointwise [result]
  rfl

/-- The reference's result is the projection. -/
theorem result_eq (X W) : result X W = fun i : S16384x2048.Idx => Cert.CaQIdeal.Array.entry X W (i 0) (i 1) := by
  funext i
  exact (congrArg _ (ix2_eta i).symm).trans (result_at X W (i 0) (i 1))

end Cert.CaQRefIdeal.Stage
-- ==== Proof.CaKvArray.lean ====
module
public import Idealize.ShloMosaic.Lib.Pipeline.ValueKit
public import proofs.«01_k».proof.Proof.Gen.CaKvIdeal.Value
public import proofs.«01_k».proof.Proof.Gen.CaKvRefIdeal.Run

/-!
# The keys and values of the memory attention

The memory's rows against the key and value weights. Row `i` is batch `i / 256`, slot `i % 256`.
-/

@[expose] public section
set_option maxRecDepth 16384
noncomputable section
open Idealize.ShloMosaic Idealize.ShloMosaic.TcCoe Idealize.SL.Sem Idealize.ShloMosaic.StableHlo

namespace Cert.CaKvIdeal.Array
open Cert.CaKvIdeal Cert.CaKvIdeal.Gen

/-- Entry `(i, c)` of the projection: memory row `i`'s row against weight column `c`. -/
def entry (X : FVec Ideal S4x256x2048 .f32) (W : FVec Ideal S2048x4096 .f32) (i : Fin 1024) (c : Fin 4096) : EReal :=
  ∑ k : Fin 2048, X (ix3 ⟨i.val / 256, by omega⟩ ⟨i.val % 256, by omega⟩ k) * W (ix2 k c)

/-- Where the windows stand at a point. -/
theorem idx : ∀ t : Fin cfg0.N,
    win0_0.index t = ![(grid0.coords t 1).val, 0] ∧
    win0_1.index t = ![0, (grid0.coords t 0).val] ∧
    win0_2.index t = ![(grid0.coords t 1).val, (grid0.coords t 0).val] :=
  (by decide +kernel : ∀ t : Fin grid0.N, _)

variable (m : (ℓ : Loc nD τ sig) → Buf (Elt Ideal) ℓ) (c : Dev nD) (t : Fin cfg0.N)

/-- The memory. -/
abbrev memory : FVec Ideal S4x256x2048 .f32 := m ((c.tc : Thread nD τ).loc main_arg0)
/-- The weights. -/
abbrev weights : FVec Ideal S2048x4096 .f32 := m ((c.tc : Thread nD τ).loc main_arg1)

/-- A point's tile of columns. -/
abbrev col : Fin 4 := grid0.coords t 0
/-- A point's tile of rows. -/
abbrev row : Fin 2 := grid0.coords t 1

/-- The coordinates of a point, by their names. -/
theorem coord_vals : (grid0.coords t 0).val = (col t).val ∧ (col t).val < 4 ∧
    (grid0.coords t 1).val = (row t).val ∧ (row t).val < 2 := ⟨rfl, (col t).isLt, rfl, (row t).isLt⟩

/-- A point's block of memory rows. -/
theorem read0 (R : Fin 512) (k : Fin 2048) : iblk m c 0 t (ix2 R k) = memory m c (ix3 ⟨((row t).val * 512 + R.val) / 256, by omega⟩ ⟨((row t).val * 512 + R.val) % 256, by omega⟩ k) := by
  blk_point [iblk, V, idx t]
  all_goals
    have := coord_vals t
    omega

/-- A point's block of weight columns. -/
theorem read1 (k : Fin 2048) (C : Fin 1024) : iblk m c 1 t (ix2 k C) = weights m c (ix2 k ⟨(col t).val * 1024 + C.val, by omega⟩) := by
  blk_point [iblk, V, idx t]
  all_goals
    have := coord_vals t
    omega

/-- The stored tile, entry by entry. -/
theorem stored (x : Vec Ideal S512x2048 .f32) (w : Vec Ideal S2048x1024 .f32) (R : Fin 512) (C : Fin 1024) :
    out0_2 x w (ix2 R C) = ∑ k : Fin 2048, x (ix2 R k) * w (ix2 k C) := by
  unfold out0_2
  canon_tiles z h
  pointwise [k0_pay1]
  rw [show R = z 0 from Fin.ext h0, show C = z 1 from Fin.ext h1]

/-- Entry `(R, C)` of the tile in row tile `a` and column tile `b`. -/
def tileEntry (X : FVec Ideal S4x256x2048 .f32) (W : FVec Ideal S2048x4096 .f32) (a : Fin 2) (b : Fin 4) (R : Fin 512) (C : Fin 1024) : EReal :=
  entry X W ⟨a.val * 512 + R.val, by omega⟩ ⟨b.val * 1024 + C.val, by omega⟩

/-- A tile's entry is the array's, at the tile's place. -/
theorem entry_at (X : FVec Ideal S4x256x2048 .f32) (W : FVec Ideal S2048x4096 .f32) (a : Fin 2) (b : Fin 4) (i : Fin 1024) (j : Fin 4096) (R : Fin 512) (C : Fin 1024)
    (hi : i.val = a.val * 512 + R.val) (hj : j.val = b.val * 1024 + C.val) : tileEntry X W a b R C = entry X W i j := by
  simp only [tileEntry, ← hi, ← hj]

/-- A point's stored tile, from the arguments. -/
theorem point (y : S512x1024.Idx) :
    out0_2 (iblk m c 0 t) (iblk m c 1 t) y = tileEntry (memory m c) (weights m c) (row t) (col t) (y 0) (y 1) := by
  idx_vars y
  exact (stored _ _ y0 y1).trans (Finset.sum_congr rfl fun k _ => congrArg₂ (fun a b : EReal => a * b) (read0 m c t y0 k) (read1 m c t k y1))

/-- The result array holds the projection. -/
theorem final : (dats m 0 c).arrAt 2 cfg0.N = fun i : S1024x4096.Idx => entry (memory m c) (weights m c) (i 0) (i 1) := by
  refine (dats m 0 c).arrAt_eq_of_covers 2 _ (by decide +kernel) fun t _ y => ?_
  have hi := (idx t).2.2
  rw [after0_2, point]
  idx_vars y
  refine entry_at _ _ _ _ _ _ y0 y1 ?_ ?_
  · blk_simp [hi]
  · blk_simp [hi]

end Cert.CaKvIdeal.Array

namespace Cert.CaKvRefIdeal.Stage
open Cert.CaKvRefIdeal Cert.CaKvRefIdeal.Gen

/-- The reference's result. -/
def result (X : FVec Ideal S4x256x2048 .f32) (W : FVec Ideal S2048x4096 .f32) : FVec Ideal S1024x4096 .f32 :=
  shapeCast _ (Host.dotGeneral dot_S4x256x2048_S2048x4096_S4x256x4096_2_0_01_1_n_n none X W) shapeCasts_S4x256x4096_S1024x4096

/-- The reference's result is the projection, entry by entry. -/
theorem result_at (X W) (i : Fin 1024) (j : Fin 4096) : result X W (ix2 i j) = Cert.CaKvIdeal.Array.entry X W i j := by
  pointwise [result]
  rfl

/-- The reference's result is the projection. -/
theorem result_eq (X W) : result X W = fun i : S1024x4096.Idx => Cert.CaKvIdeal.Array.entry X W (i 0) (i 1) := by
  funext i
  exact (congrArg _ (ix2_eta i).symm).trans (result_at X W (i 0) (i 1))

end Cert.CaKvRefIdeal.Stage
-- ==== Proof.LayerNorm.lean ====
module
public import Idealize.ShloMosaic.Lib.Pipeline.ValueKit

/-!
# A layer's residual and norm

A token's row is its product with the weights, added to the scaled residual, and normed over the row's 2048 entries.
-/

@[expose] public section
noncomputable section
open Idealize.ShloMosaic

namespace Cert.Norm

/-- The mean of a row. -/
def mean (t : Fin 2048 → EReal) : EReal :=
  Ideal.div (∑ k, t k) (Ideal.ofBits FTy.f32 0x45000000#32)

/-- A row's entry less the row's mean. -/
def centred (t : Fin 2048 → EReal) (j : Fin 2048) : EReal := t j - mean t

/-- Entry `j` of a normed row, under gain `g` and offset `b`. -/
def normed (t : Fin 2048 → EReal) (g b : EReal) (j : Fin 2048) : EReal :=
  centred t j * Ideal.rsqrt (mean (fun k => centred t k * centred t k) + Ideal.ofBits FTy.f32 0x3727C5AC#32) * g + b

/-- Entry `j` of a row before the norm: the scaled residual `u`, and the product of the row `a` with the weights. -/
def before (a u : Fin 2048 → EReal) (W : Fin 2048 → Fin 2048 → EReal) (j : Fin 2048) : EReal :=
  Ideal.ofBits FTy.f32 0x3F9837F0#32 * u j + ∑ k, a k * W k j

end Cert.Norm
-- ==== Proof.WOutArray.lean ====
module
public import proofs.«01_k».proof.Proof.LayerNorm
public import proofs.«01_k».proof.Proof.Gen.WOutIdeal.Value
public import proofs.«01_k».proof.Proof.Gen.WOutRefIdeal.Run

/-!
# The mixer's output projection, its residual and norm
-/

@[expose] public section
set_option maxRecDepth 16384
noncomputable section
open Idealize.ShloMosaic Idealize.ShloMosaic.TcCoe Idealize.SL.Sem Idealize.ShloMosaic.StableHlo

namespace Cert.WOutIdeal.Array
open Cert.WOutIdeal Cert.WOutIdeal.Gen

/-- A row of the residual stream, among the 16384 of the four sequences. -/
def residual (X : FVec Ideal S4x4096x2048 .f32) (i : Fin 16384) (k : Fin 2048) : EReal :=
  X (ix3 ⟨i.val / 4096, by omega⟩ ⟨i.val % 4096, by omega⟩ k)

/-- Entry `(i, j)` of the result: token `i`'s row through the weights, with its residual, normed. -/
def entry (A : FVec Ideal S16384x2048 .f32) (W : FVec Ideal S2048x2048 .f32) (X : FVec Ideal S4x4096x2048 .f32)
    (g b : FVec Ideal S2048 .f32) (i : Fin 16384) (j : Fin 2048) : EReal :=
  Norm.normed (Norm.before (fun k => A (ix2 i k)) (residual X i) fun k c => W (ix2 k c)) (g (ix1 j)) (b (ix1 j)) j

/-- Where the windows stand at a point. -/
theorem idx : ∀ t : Fin cfg0.N,
    win0_0.index t = ![(grid0.coords t 0).val, 0] ∧ win0_1.index t = ![0, 0] ∧
    win0_2.index t = ![(grid0.coords t 0).val, 0] ∧ win0_3.index t = ![0, 0] ∧ win0_4.index t = ![0, 0] ∧
    win0_5.index t = ![(grid0.coords t 0).val, 0] ∧ win0_6.index t = ![(grid0.coords t 0).val, 0] :=
  (by decide +kernel : ∀ t : Fin grid0.N, _)

variable (m : (ℓ : Loc nD τ sig) → Buf (Elt Ideal) ℓ) (c : Dev nD) (t : Fin cfg0.N)

/-- The rows. -/
abbrev rows : FVec Ideal S16384x2048 .f32 := m ((c.tc : Thread nD τ).loc main_arg0)
/-- The weights. -/
abbrev weights : FVec Ideal S2048x2048 .f32 := m ((c.tc : Thread nD τ).loc main_arg1)
/-- The residual stream. -/
abbrev stream : FVec Ideal S4x4096x2048 .f32 := m ((c.tc : Thread nD τ).loc main_arg2)
/-- The norm's gains. -/
abbrev gains : FVec Ideal S2048 .f32 := m ((c.tc : Thread nD τ).loc main_arg3)
/-- The norm's offsets. -/
abbrev offsets : FVec Ideal S2048 .f32 := m ((c.tc : Thread nD τ).loc main_arg4)

/-- A point's tile of rows. -/
abbrev row : Fin 32 := grid0.coords t 0

/-- The coordinate of a point, by its name. -/
theorem coord_vals : (grid0.coords t 0).val = (row t).val ∧ (row t).val < 32 := ⟨rfl, (row t).isLt⟩

/-- The array row of a tile's row. -/
abbrev at_ (a : Fin 32) (R : Fin 512) : Fin 16384 := ⟨a.val * 512 + R.val, by omega⟩

/-- A point's block of rows. -/
theorem read0 (R : Fin 512) (k : Fin 2048) : iblk m c 0 t (ix2 R k) = rows m c (ix2 (at_ (row t) R) k) := by
  blk_point [iblk, V, idx t]
  all_goals
    have := coord_vals t
    omega

/-- The whole weights, at every point. -/
theorem read1 (k C : Fin 2048) : iblk m c 1 t (ix2 k C) = weights m c (ix2 k C) := by
  blk_point [iblk, V, idx t]

/-- A point's block of the residual stream. -/
theorem read2 (R : Fin 512) (k : Fin 2048) : iblk m c 2 t (ix2 R k) = residual (stream m c) (at_ (row t) R) k := by
  unfold residual
  blk_point [iblk, V, idx t]
  all_goals
    have := coord_vals t
    omega

/-- The gains, at every point. -/
theorem read3 (C : Fin 2048) : iblk m c 3 t (ix2 0 C) = gains m c (ix1 C) := by
  blk_point [iblk, V, idx t]

/-- The offsets, at every point. -/
theorem read4 (C : Fin 2048) : iblk m c 4 t (ix2 0 C) = offsets m c (ix1 C) := by
  blk_point [iblk, V, idx t]

/-- The tile's rows, normed. -/
theorem tile_at (x : Vec Ideal S512x2048 .bf16) (w : Vec Ideal S2048x2048 .bf16) (u : Vec Ideal S512x2048 .f32)
    (g b : Vec Ideal S1x2048 .f32) (R : Fin 512) (C : Fin 2048) :
    k0_pay1 x w u g b (ix2 R C) =
      Norm.normed (Norm.before (fun k => x (ix2 R k)) (fun k => u (ix2 R k)) fun k j => w (ix2 k j)) (g (ix2 0 C)) (b (ix2 0 C)) C := by
  pointwise [k0_pay1]
  rfl

/-- The stored tile, entry by entry. -/
theorem stored (x : Vec Ideal S512x2048 .bf16) (w : Vec Ideal S2048x2048 .bf16) (u : Vec Ideal S512x2048 .f32)
    (g b : Vec Ideal S1x2048 .f32) (R : Fin 512) (C : Fin 2048) :
    out0_5 x w u g b (ix2 R C) =
      Norm.normed (Norm.before (fun k => x (ix2 R k)) (fun k => u (ix2 R k)) fun k j => w (ix2 k j)) (g (ix2 0 C)) (b (ix2 0 C)) C := by
  unfold out0_5
  canon_tiles z h
  rw [show R = z 0 from Fin.ext h0, show C = z 1 from Fin.ext h1]
  obtain ⟨a, d, rfl⟩ : ∃ a d, z = ix2 a d := ⟨z 0, z 1, (ix2_eta z).symm⟩
  refine (tile_at _ _ _ _ _ a d).trans ?_
  pointwise []

/-- The tile stored in bf16 is the same tile. -/
theorem stored_cast (x : Vec Ideal S512x2048 .bf16) (w : Vec Ideal S2048x2048 .bf16) (u : Vec Ideal S512x2048 .f32)
    (g b : Vec Ideal S1x2048 .f32) (y : S512x2048.Idx) : out0_6 x w u g b y = out0_5 x w u g b y := rfl

/-- A point's stored tile, from the arguments. -/
theorem point (y : S512x2048.Idx) :
    out0_5 (iblk m c 0 t) (iblk m c 1 t) (iblk m c 2 t) (iblk m c 3 t) (iblk m c 4 t) y
      = entry (rows m c) (weights m c) (stream m c) (gains m c) (offsets m c) (at_ (row t) (y 0)) (y 1) := by
  idx_vars y
  refine (stored _ _ _ _ _ y0 y1).trans ?_
  unfold entry
  rw [funext (read0 m c t y0), funext (read2 m c t y0), read3, read4, funext fun k => funext fun j => read1 m c t k j]

/-- The entry depends on the places alone. -/
theorem entry_at (A W X g b) (i i' : Fin 16384) (j j' : Fin 2048) (hi : i'.val = i.val) (hj : j'.val = j.val) :
    entry A W X g b i j = entry A W X g b i' j' := by
  rw [Fin.ext hi, Fin.ext hj]

/-- The result array holds the normed rows. -/
theorem final5 : (dats m 0 c).arrAt 5 cfg0.N = fun i : S16384x2048.Idx => entry (rows m c) (weights m c) (stream m c) (gains m c) (offsets m c) (i 0) (i 1) := by
  refine (dats m 0 c).arrAt_eq_of_covers 5 _ (by decide +kernel) fun t _ y => ?_
  have hi := (idx t).2.2.2.2.2.1
  rw [after0_5, point]
  idx_vars y
  refine entry_at _ _ _ _ _ _ _ _ _ ?_ ?_
  · blk_simp [hi]; rfl
  · blk_simp [hi]; rfl

/-- So does the one in bf16. -/
theorem final6 : (dats m 0 c).arrAt 6 cfg0.N = fun i : S16384x2048.Idx => entry (rows m c) (weights m c) (stream m c) (gains m c) (offsets m c) (i 0) (i 1) := by
  refine (dats m 0 c).arrAt_eq_of_covers 6 _ (by decide +kernel) fun t _ y => ?_
  have hi := (idx t).2.2.2.2.2.2
  rw [after0_6, stored_cast, point]
  idx_vars y
  refine entry_at _ _ _ _ _ _ _ _ _ ?_ ?_
  · blk_simp [hi]; rfl
  · blk_simp [hi]; rfl

end Cert.WOutIdeal.Array

namespace Cert.WOutRefIdeal.Stage
open Cert.WOutRefIdeal Cert.WOutRefIdeal.Gen

/-- The scaled residual and the projection. -/
def summed (A : FVec Ideal S16384x2048 .f32) (W : FVec Ideal S2048x2048 .f32) (X : FVec Ideal S4x4096x2048 .f32) : FVec Ideal S16384x2048 .f32 :=
  addf (mulf (broadcastInDim S16384x2048 ![] bcast_S_S16384x2048 (constant S_ .f32 0x3F9837F0#32)) (shapeCast _ X shapeCasts_S4x4096x2048_S16384x2048))
    (Host.dotGeneral dot_S16384x2048_S2048x2048_S16384x2048_1_0_0_1_n_n none A W)

/-- The rows' means. -/
def means (t : FVec Ideal S16384x2048 .f32) : FVec Ideal S16384x1 .f32 :=
  Host.divf (broadcastInDim S16384x1 ![0] bcast_S16384_S16384x1_0 (Host.reduceAdd t (constant S_ .f32 0x00000000#32) reducesTo_S16384x2048_S16384_d1 h_S_))
    (broadcastInDim S16384x1 ![] bcast_S_S16384x1 (constant S_ .f32 0x45000000#32))

/-- The rows less their means. -/
def centred (t : FVec Ideal S16384x2048 .f32) : FVec Ideal S16384x2048 .f32 :=
  subf t (broadcastInDim S16384x2048 ![0, 1] bcast_S16384x1_S16384x2048_0_1 (means t))

/-- The normed rows. -/
def normed (t : FVec Ideal S16384x2048 .f32) (g b : FVec Ideal S2048 .f32) : FVec Ideal S16384x2048 .f32 :=
  addf (mulf (mulf (centred t) (broadcastInDim S16384x2048 ![0, 1] bcast_S16384x1_S16384x2048_0_1
      (Host.rsqrt (addf (means (mulf (centred t) (centred t))) (broadcastInDim S16384x1 ![] bcast_S_S16384x1 (constant S_ .f32 0x3727C5AC#32))))))
    (broadcastInDim S16384x2048 ![0, 1] bcast_S1x2048_S16384x2048_0_1 (broadcastInDim S1x2048 ![1] bcast_S2048_S1x2048_1 g)))
    (broadcastInDim S16384x2048 ![0, 1] bcast_S1x2048_S16384x2048_0_1 (broadcastInDim S1x2048 ![1] bcast_S2048_S1x2048_1 b))

/-- A row's mean. -/
theorem means_at (t) (i : Fin 16384) : means t (ix2 i 0) = Norm.mean fun k => t (ix2 i k) := by
  pointwise [means]
  rfl

/-- A centred row. -/
theorem centred_at (t) (i : Fin 16384) (j : Fin 2048) : centred t (ix2 i j) = Norm.centred (fun k => t (ix2 i k)) j := by
  pointwise [centred]
  rw [means_at]
  rfl

/-- A normed row. -/
theorem normed_at (t g b) (i : Fin 16384) (j : Fin 2048) :
    normed t g b (ix2 i j) = Norm.normed (fun k => t (ix2 i k)) (g (ix1 j)) (b (ix1 j)) j := by
  pointwise [normed]
  rw [means_at, centred_at]
  simp only [mulf_apply, centred_at]
  rfl

/-- The row before the norm. -/
theorem summed_at (A W X) (i : Fin 16384) (j : Fin 2048) :
    summed A W X (ix2 i j) = Norm.before (fun k => A (ix2 i k)) (Cert.WOutIdeal.Array.residual X i) (fun k c => W (ix2 k c)) j := by
  pointwise [summed]
  rfl

/-- The reference's result. -/
theorem result_eq (A W X g b) : normed (summed A W X) g b = fun i : S16384x2048.Idx => Cert.WOutIdeal.Array.entry A W X g b (i 0) (i 1) := by
  funext i
  refine (congrArg _ (ix2_eta i).symm).trans ((normed_at _ _ _ (i 0) (i 1)).trans ?_)
  rw [funext (summed_at A W X (i 0))]
  rfl

end Cert.WOutRefIdeal.Stage
-- ==== Proof.CaOArray.lean ====
module
public import proofs.«01_k».proof.Proof.WOutArray
public import proofs.«01_k».proof.Proof.Gen.CaOIdeal.Value
public import proofs.«01_k».proof.Proof.Gen.CaORefIdeal.Run

/-!
# The memory attention's output projection, its residual and norm

The norm is the mixer's; the residual stream is taken as rows.
-/

@[expose] public section
set_option maxRecDepth 16384
noncomputable section
open Idealize.ShloMosaic Idealize.ShloMosaic.TcCoe Idealize.SL.Sem Idealize.ShloMosaic.StableHlo

namespace Cert.CaOIdeal.Array
open Cert.CaOIdeal Cert.CaOIdeal.Gen

/-- A row of the residual stream. -/
def residual (X : FVec Ideal S16384x2048 .f32) (i : Fin 16384) (k : Fin 2048) : EReal :=
  X (ix2 i k)

/-- Entry `(i, j)` of the result: token `i`'s row through the weights, with its residual, normed. -/
def entry (A : FVec Ideal S16384x2048 .f32) (W : FVec Ideal S2048x2048 .f32) (X : FVec Ideal S16384x2048 .f32)
    (g b : FVec Ideal S2048 .f32) (i : Fin 16384) (j : Fin 2048) : EReal :=
  Norm.normed (Norm.before (fun k => A (ix2 i k)) (residual X i) fun k c => W (ix2 k c)) (g (ix1 j)) (b (ix1 j)) j

/-- Where the windows stand at a point. -/
theorem idx : ∀ t : Fin cfg0.N,
    win0_0.index t = ![(grid0.coords t 0).val, 0] ∧ win0_1.index t = ![0, 0] ∧
    win0_2.index t = ![(grid0.coords t 0).val, 0] ∧ win0_3.index t = ![0, 0] ∧ win0_4.index t = ![0, 0] ∧
    win0_5.index t = ![(grid0.coords t 0).val, 0] ∧ win0_6.index t = ![(grid0.coords t 0).val, 0] :=
  (by decide +kernel : ∀ t : Fin grid0.N, _)

variable (m : (ℓ : Loc nD τ sig) → Buf (Elt Ideal) ℓ) (c : Dev nD) (t : Fin cfg0.N)

/-- The rows. -/
abbrev rows : FVec Ideal S16384x2048 .f32 := m ((c.tc : Thread nD τ).loc main_arg0)
/-- The weights. -/
abbrev weights : FVec Ideal S2048x2048 .f32 := m ((c.tc : Thread nD τ).loc main_arg1)
/-- The residual stream. -/
abbrev stream : FVec Ideal S16384x2048 .f32 := m ((c.tc : Thread nD τ).loc main_arg2)
/-- The norm's gains. -/
abbrev gains : FVec Ideal S2048 .f32 := m ((c.tc : Thread nD τ).loc main_arg3)
/-- The norm's offsets. -/
abbrev offsets : FVec Ideal S2048 .f32 := m ((c.tc : Thread nD τ).loc main_arg4)

/-- A point's tile of rows. -/
abbrev row : Fin 32 := grid0.coords t 0

/-- The coordinate of a point, by its name. -/
theorem coord_vals : (grid0.coords t 0).val = (row t).val ∧ (row t).val < 32 := ⟨rfl, (row t).isLt⟩

/-- The array row of a tile's row. -/
abbrev at_ (a : Fin 32) (R : Fin 512) : Fin 16384 := ⟨a.val * 512 + R.val, by omega⟩

/-- A point's block of rows. -/
theorem read0 (R : Fin 512) (k : Fin 2048) : iblk m c 0 t (ix2 R k) = rows m c (ix2 (at_ (row t) R) k) := by
  blk_point [iblk, V, idx t]
  all_goals
    have := coord_vals t
    omega

/-- The whole weights, at every point. -/
theorem read1 (k C : Fin 2048) : iblk m c 1 t (ix2 k C) = weights m c (ix2 k C) := by
  blk_point [iblk, V, idx t]

/-- A point's block of the residual stream. -/
theorem read2 (R : Fin 512) (k : Fin 2048) : iblk m c 2 t (ix2 R k) = residual (stream m c) (at_ (row t) R) k := by
  unfold residual
  blk_point [iblk, V, idx t]
  all_goals
    have := coord_vals t
    omega

/-- The gains, at every point. -/
theorem read3 (C : Fin 2048) : iblk m c 3 t (ix2 0 C) = gains m c (ix1 C) := by
  blk_point [iblk, V, idx t]

/-- The offsets, at every point. -/
theorem read4 (C : Fin 2048) : iblk m c 4 t (ix2 0 C) = offsets m c (ix1 C) := by
  blk_point [iblk, V, idx t]

/-- The tile's rows, normed. -/
theorem tile_at (x : Vec Ideal S512x2048 .bf16) (w : Vec Ideal S2048x2048 .bf16) (u : Vec Ideal S512x2048 .f32)
    (g b : Vec Ideal S1x2048 .f32) (R : Fin 512) (C : Fin 2048) :
    k0_pay1 x w u g b (ix2 R C) =
      Norm.normed (Norm.before (fun k => x (ix2 R k)) (fun k => u (ix2 R k)) fun k j => w (ix2 k j)) (g (ix2 0 C)) (b (ix2 0 C)) C := by
  pointwise [k0_pay1]
  rfl

/-- The stored tile, entry by entry. -/
theorem stored (x : Vec Ideal S512x2048 .bf16) (w : Vec Ideal S2048x2048 .bf16) (u : Vec Ideal S512x2048 .f32)
    (g b : Vec Ideal S1x2048 .f32) (R : Fin 512) (C : Fin 2048) :
    out0_5 x w u g b (ix2 R C) =
      Norm.normed (Norm.before (fun k => x (ix2 R k)) (fun k => u (ix2 R k)) fun k j => w (ix2 k j)) (g (ix2 0 C)) (b (ix2 0 C)) C := by
  unfold out0_5
  canon_tiles z h
  rw [show R = z 0 from Fin.ext h0, show C = z 1 from Fin.ext h1]
  obtain ⟨a, d, rfl⟩ : ∃ a d, z = ix2 a d := ⟨z 0, z 1, (ix2_eta z).symm⟩
  refine (tile_at _ _ _ _ _ a d).trans ?_
  pointwise []

/-- The tile stored in bf16 is the same tile. -/
theorem stored_cast (x : Vec Ideal S512x2048 .bf16) (w : Vec Ideal S2048x2048 .bf16) (u : Vec Ideal S512x2048 .f32)
    (g b : Vec Ideal S1x2048 .f32) (y : S512x2048.Idx) : out0_6 x w u g b y = out0_5 x w u g b y := rfl

/-- A point's stored tile, from the arguments. -/
theorem point (y : S512x2048.Idx) :
    out0_5 (iblk m c 0 t) (iblk m c 1 t) (iblk m c 2 t) (iblk m c 3 t) (iblk m c 4 t) y
      = entry (rows m c) (weights m c) (stream m c) (gains m c) (offsets m c) (at_ (row t) (y 0)) (y 1) := by
  idx_vars y
  refine (stored _ _ _ _ _ y0 y1).trans ?_
  unfold entry
  rw [funext (read0 m c t y0), funext (read2 m c t y0), read3, read4, funext fun k => funext fun j => read1 m c t k j]

/-- The entry depends on the places alone. -/
theorem entry_at (A W X g b) (i i' : Fin 16384) (j j' : Fin 2048) (hi : i'.val = i.val) (hj : j'.val = j.val) :
    entry A W X g b i j = entry A W X g b i' j' := by
  rw [Fin.ext hi, Fin.ext hj]

/-- The result array holds the normed rows. -/
theorem final5 : (dats m 0 c).arrAt 5 cfg0.N = fun i : S16384x2048.Idx => entry (rows m c) (weights m c) (stream m c) (gains m c) (offsets m c) (i 0) (i 1) := by
  refine (dats m 0 c).arrAt_eq_of_covers 5 _ (by decide +kernel) fun t _ y => ?_
  have hi := (idx t).2.2.2.2.2.1
  rw [after0_5, point]
  idx_vars y
  refine entry_at _ _ _ _ _ _ _ _ _ ?_ ?_
  · blk_simp [hi]; rfl
  · blk_simp [hi]; rfl

/-- So does the one in bf16. -/
theorem final6 : (dats m 0 c).arrAt 6 cfg0.N = fun i : S16384x2048.Idx => entry (rows m c) (weights m c) (stream m c) (gains m c) (offsets m c) (i 0) (i 1) := by
  refine (dats m 0 c).arrAt_eq_of_covers 6 _ (by decide +kernel) fun t _ y => ?_
  have hi := (idx t).2.2.2.2.2.2
  rw [after0_6, stored_cast, point]
  idx_vars y
  refine entry_at _ _ _ _ _ _ _ _ _ ?_ ?_
  · blk_simp [hi]; rfl
  · blk_simp [hi]; rfl

end Cert.CaOIdeal.Array

namespace Cert.CaORefIdeal.Stage
open Cert.CaORefIdeal Cert.CaORefIdeal.Gen

/-- The scaled residual and the projection. -/
def summed (A : FVec Ideal S16384x2048 .f32) (W : FVec Ideal S2048x2048 .f32) (X : FVec Ideal S16384x2048 .f32) : FVec Ideal S16384x2048 .f32 :=
  addf (mulf (broadcastInDim S16384x2048 ![] bcast_S_S16384x2048 (constant S_ .f32 0x3F9837F0#32)) X)
    (Host.dotGeneral dot_S16384x2048_S2048x2048_S16384x2048_1_0_0_1_n_n none A W)

/-- The row before the norm. -/
theorem summed_at (A W X) (i : Fin 16384) (j : Fin 2048) :
    summed A W X (ix2 i j) = Norm.before (fun k => A (ix2 i k)) (Cert.CaOIdeal.Array.residual X i) (fun k c => W (ix2 k c)) j := by
  pointwise [summed]
  rfl

/-- The reference's result: the norm is the mixer's. -/
theorem result_eq (A W X g b) : WOutRefIdeal.Stage.normed (summed A W X) g b = fun i : S16384x2048.Idx => Cert.CaOIdeal.Array.entry A W X g b (i 0) (i 1) := by
  funext i
  refine (congrArg _ (ix2_eta i).symm).trans ((WOutRefIdeal.Stage.normed_at _ _ _ (i 0) (i 1)).trans ?_)
  rw [funext (summed_at A W X (i 0))]
  rfl

end Cert.CaORefIdeal.Stage
-- ==== Proof.QkvTile.lean ====
module
public import Idealize.ShloMosaic.Lib.Pipeline.ValueKit
public import Idealize.ShloMosaic.Lib.KernelVsHost
public import proofs.«01_k».proof.Proof.Gen.QkvIdeal.Value

/-!
# The tiles of the attention's queries, keys and values

A grid point projects 256 tokens to 4608 columns, 36 chunks of 128 lanes. The first 24 chunks (queries and keys) are rotated; every chunk
is stored once per residue of the row modulo its group's dilation.
-/

@[expose] public section
set_option maxRecDepth 16384
noncomputable section
open Idealize.ShloMosaic Idealize.ShloMosaic.TcCoe Idealize.SL.Sem Idealize.ShloMosaic.StableHlo

namespace Cert.QkvIdeal.Tile
open Cert.QkvIdeal Cert.QkvIdeal.Gen

variable (A : FVec Ideal S256x4608 .f32) (C S : FVec Ideal S256x128 .f32)

/-- The lane that a lane is paired with: the one half a head further, cyclically. -/
def partner (l : Fin 128) : Fin 128 := if l.val % 64 < 32 then ⟨(l.val + 32) % 128, by omega⟩ else ⟨(l.val + 96) % 128, by omega⟩

/-- Lane `l` of chunk `n`, as a column. -/
abbrev column (n : Fin 36) (l : Fin 128) : Fin 4608 := ⟨n.val * 128 + l.val, by omega⟩

/-- What chunk `n` holds at a row and a lane: the projection, rotated for the queries and keys. -/
def chunk (n : Fin 36) (R : Fin 256) (l : Fin 128) : EReal :=
  if n.val < 24 then A (ix2 R (column n l)) * C (ix2 R l) + A (ix2 R (column n (partner l))) * S (ix2 R l)
  else A (ix2 R (column n l))

/-- Whether a lane is in the first half of its head. -/
theorem mask_at (R : Fin 256) : ∀ l : Fin 128, k0_pay8 (ix2 R l) = if l.val % 64 < 32 then 1 else 0 := by
  intro l
  pointwise [k0_pay8]
  revert l
  decide +kernel

/-- A chunk, rotated. -/
def turned (t : FVec Ideal S256x128 .f32) : FVec Ideal S256x128 .f32 :=
  addf (mulf t C) (mulf (select k0_pay8 (dynamicRotate 1 96#32 none t rotates_S256x128_d1) (dynamicRotate 1 32#32 none t rotates_S256x128_d1)) S)

/-- A rotated chunk as it is stored. -/
theorem turned_piece (n : Fin 36) (b : ℕ) (hb : b = n.val * 128) (hn : n.val < 24) (h h') (R : Fin 256) (l : Fin 128) :
    shapeCast S1x256x128 (turned C S (extractStridedSlice S256x128 ![0, b] A h)) h' (ix3 0 R l) = chunk A C S n R l := by
  subst hb
  unfold chunk partner
  rw [if_pos hn]
  pointwise [turned]
  rw [mask_at]
  split_ifs with hl
  · rfl
  · refine congrArg (fun k => _ + A (ix2 R k) * _) (Fin.ext ?_)
    show n.val * 128 + (l.val + 128 - 32) % 128 = n.val * 128 + (l.val + 96) % 128
    omega

/-- A chunk that is not rotated, as it is stored. -/
theorem plain_piece (n : Fin 36) (b : ℕ) (hb : b = n.val * 128) (hn : ¬ n.val < 24) (h h') (R : Fin 256) (l : Fin 128) :
    shapeCast S1x256x128 (extractStridedSlice S256x128 ![0, b] A h) h' (ix3 0 R l) = chunk A C S n R l := by
  subst hb
  unfold chunk
  rw [if_neg hn]
  pointwise []

/-- What a group's result holds at a place, for dilation `d` and group `g`, from the chunks of `N` rows. -/
def place {N : ℕ} (d g : ℕ) (hg : g < 3) (G : Fin 36 → Fin N → Fin 128 → EReal) (r u : ℕ) (h : r * d + u / 1536 < N) : EReal :=
  G ⟨u % 1536 / 512 * 12 + g * 4 + u % 512 / 128, by omega⟩ ⟨r * d + u / 1536, h⟩ ⟨u % 128, by omega⟩

/-- A tile of a group that is stored as it comes. -/
theorem whole_tile (G : Fin 36 → Fin 256 → Fin 128 → EReal) (off : ℕ) (pay : Vec Ideal S1x256x128 .f32)
    (hn : off / 512 * 12 + off % 512 / 128 < 36)
    (hp : ∀ R l, pay (ix3 0 R l) = G ⟨off / 512 * 12 + off % 512 / 128, hn⟩ R l) (y : S1x256x1536.Idx)
    (ho : off % 128 = 0) (h) :
    View.TileAt y ![0, 0, off] ![1, 256, 128] pay (place 1 0 (by omega) G (y 1).val (y 2).val h) := by
  intro x hx
  have h1 : (y 1).val = 0 + (x 1).val := hx 1
  have h2 : (y 2).val = off + (x 2).val := hx 2
  have y2 : (y 2).val < 1536 := (y 2).isLt
  have x2 : (x 2).val < 128 := (x 2).isLt
  obtain ⟨a, b, e, rfl⟩ : ∃ a b e, x = ix3 a b e := ⟨x 0, x 1, x 2, (ix3_eta x).symm⟩
  obtain rfl : a = 0 := Subsingleton.elim _ _
  refine (hp b e).trans ?_
  unfold place
  change (y 1).val = 0 + b.val at h1
  change (y 2).val = off + e.val at h2
  change e.val < 128 at x2
  congr 1
  · exact Fin.ext (by show off / 512 * 12 + off % 512 / 128 = (y 2).val % 1536 / 512 * 12 + 0 * 4 + (y 2).val % 512 / 128; omega)
  · exact Fin.ext (by show b.val = (y 1).val * 1 + (y 2).val / 1536; omega)
  · exact Fin.ext (by show e.val = (y 2).val % 128; omega)

/-- A read of every `d`-th row of the slab written last is that slab's rows. -/
theorem slab_at {κ : Kind} {sp : Space} (v : View sig κ sp S24x256x128 .f32) {k : ℕ} (s r d : ℕ)
    (pay : Vec Ideal S1x256x128 .f32) (inb) (L : List (View.Piece (Elt Ideal) S24x256x128 .f32)) (inb')
    (a : Fin k) (l : Fin 128) (ha : r + d * a.val < 256) :
    v.readCov ((⟨Rect.unit ![s, 0, 0] ![1, 256, 128] inb, pay⟩ : View.Piece (Elt Ideal) S24x256x128 .f32) :: L)
        { off := ![s, r, 0], size := ![1, k, 128], stride := ![1, d, 1], inb := inb' } (ix3 0 a l : (⟨3, ![1, k, 128]⟩ : Shape).Idx)
      = pay (ix3 0 ⟨r + d * a.val, ha⟩ l) := by
  rw [View.readCov_eq_canon']
  refine (congrArg _ ?_).trans (View.canon_cons_emb (Rect.unit ![s, 0, 0] ![1, 256, 128] inb) pay L (ix3 0 ⟨r + d * a.val, ha⟩ l))
  funext b
  refine Fin.ext ?_
  fin_cases b
  · rfl
  · show r + d * a.val = 0 + 1 * (r + d * a.val)
    omega
  · rfl

/-- A tile of the second group: a chunk's rows of one residue modulo 4. -/
theorem tile4 (G : Fin 36 → Fin 256 → Fin 128 → EReal) (off s r : ℕ) (pay : Vec Ideal S1x256x128 .f32)
    (hn : off % 1536 / 512 * 12 + 4 + off % 512 / 128 < 36)
    (hp : ∀ R l, pay (ix3 0 R l) = G ⟨off % 1536 / 512 * 12 + 4 + off % 512 / 128, hn⟩ R l) {κ : Kind} {sp : Space} (v : View sig κ sp S24x256x128 .f32) (inb)
    (L : List (View.Piece (Elt Ideal) S24x256x128 .f32)) (inb') (h1) (h2) (y : S1x64x6144.Idx)
    (hr : r = off / 1536) (ho : off % 128 = 0) (h) :
    View.TileAt y ![0, 0, off] ![1, 64, 128] (shapeCast S1x64x128 (shapeCast S64x128 (v.readCov
        ((⟨Rect.unit ![s, 0, 0] ![1, 256, 128] inb, pay⟩ : View.Piece (Elt Ideal) S24x256x128 .f32) :: L)
        { off := ![s, r, 0], size := ![1, 64, 128], stride := ![1, 4, 1], inb := inb' }) h1) h2)
      (place 4 1 (by omega) G (y 1).val (y 2).val h) := by
  intro x hx
  have h1 : (y 1).val = 0 + (x 1).val := hx 1
  have h2 : (y 2).val = off + (x 2).val := hx 2
  have y2 : (y 2).val < 6144 := (y 2).isLt
  have x2 : (x 2).val < 128 := (x 2).isLt
  have x1 : (x 1).val < 64 := (x 1).isLt
  obtain ⟨a, b, e, rfl⟩ : ∃ a b e, x = ix3 a b e := ⟨x 0, x 1, x 2, (ix3_eta x).symm⟩
  obtain rfl : a = 0 := Subsingleton.elim _ _
  change (y 1).val = 0 + b.val at h1
  change (y 2).val = off + e.val at h2
  change e.val < 128 at x2
  change b.val < 64 at x1
  pointwise []
  refine (slab_at v s r 4 pay inb L inb' b e (by omega)).trans ((hp _ e).trans ?_)
  unfold place
  congr 1
  · exact Fin.ext (by show off % 1536 / 512 * 12 + 4 + off % 512 / 128 = (y 2).val % 1536 / 512 * 12 + 1 * 4 + (y 2).val % 512 / 128; omega)
  · exact Fin.ext (by show r + 4 * b.val = (y 1).val * 4 + (y 2).val / 1536; omega)
  · exact Fin.ext (by show e.val = (y 2).val % 128; omega)

/-- A tile of the third group: a chunk's rows of one residue modulo 16. -/
theorem tile16 (G : Fin 36 → Fin 256 → Fin 128 → EReal) (off s r : ℕ) (pay : Vec Ideal S1x256x128 .f32)
    (hn : off % 1536 / 512 * 12 + 8 + off % 512 / 128 < 36)
    (hp : ∀ R l, pay (ix3 0 R l) = G ⟨off % 1536 / 512 * 12 + 8 + off % 512 / 128, hn⟩ R l) {κ : Kind} {sp : Space} (v : View sig κ sp S24x256x128 .f32) (inb)
    (L : List (View.Piece (Elt Ideal) S24x256x128 .f32)) (inb') (h1) (h2) (y : S1x16x24576.Idx)
    (hr : r = off / 1536) (ho : off % 128 = 0) (h) :
    View.TileAt y ![0, 0, off] ![1, 16, 128] (shapeCast S1x16x128 (shapeCast S16x128 (v.readCov
        ((⟨Rect.unit ![s, 0, 0] ![1, 256, 128] inb, pay⟩ : View.Piece (Elt Ideal) S24x256x128 .f32) :: L)
        { off := ![s, r, 0], size := ![1, 16, 128], stride := ![1, 16, 1], inb := inb' }) h1) h2)
      (place 16 2 (by omega) G (y 1).val (y 2).val h) := by
  intro x hx
  have h1 : (y 1).val = 0 + (x 1).val := hx 1
  have h2 : (y 2).val = off + (x 2).val := hx 2
  have y2 : (y 2).val < 24576 := (y 2).isLt
  have x2 : (x 2).val < 128 := (x 2).isLt
  have x1 : (x 1).val < 16 := (x 1).isLt
  obtain ⟨a, b, e, rfl⟩ : ∃ a b e, x = ix3 a b e := ⟨x 0, x 1, x 2, (ix3_eta x).symm⟩
  obtain rfl : a = 0 := Subsingleton.elim _ _
  change (y 1).val = 0 + b.val at h1
  change (y 2).val = off + e.val at h2
  change e.val < 128 at x2
  change b.val < 16 at x1
  pointwise []
  refine (slab_at v s r 16 pay inb L inb' b e (by omega)).trans ((hp _ e).trans ?_)
  unfold place
  congr 1
  · exact Fin.ext (by show off % 1536 / 512 * 12 + 8 + off % 512 / 128 = (y 2).val % 1536 / 512 * 12 + 2 * 4 + (y 2).val % 512 / 128; omega)
  · exact Fin.ext (by show r + 16 * b.val = (y 1).val * 16 + (y 2).val / 1536; omega)
  · exact Fin.ext (by show e.val = (y 2).val % 128; omega)

end Cert.QkvIdeal.Tile
-- ==== Proof.QkvStore.lean ====
module
public import proofs.«01_k».proof.Proof.QkvTile

/-!
# What a point stores of each head group
-/

@[expose] public section
set_option maxRecDepth 16384
noncomputable section
open Idealize.ShloMosaic Idealize.ShloMosaic.TcCoe Idealize.SL.Sem Idealize.ShloMosaic.StableHlo

namespace Cert.QkvIdeal.Store
open Cert.QkvIdeal Cert.QkvIdeal.Gen
variable (m : (ℓ : Loc nD τ sig) → Buf (Elt Ideal) ℓ) (c : Dev nD) (t : Fin cfg0.N)

/-- The chunks of a point. -/
abbrev chunks : Fin 36 → Fin 256 → Fin 128 → EReal :=
  Tile.chunk (k0_pay5 (iblk m c 0 t) (iblk m c 1 t)) (k0_pay6 (iblk m c 2 t)) (k0_pay7 (iblk m c 3 t))

/-- A place of the first group's tile is in a row of the point. -/
theorem in4 (y : S1x256x1536.Idx) : (y 1).val * 1 + (y 2).val / 1536 < 256 := by
  have h1 : (y 1).val < 256 := (y 1).isLt
  have h2 : (y 2).val < 1536 := (y 2).isLt
  omega

/-- A place of the second group's tile is in a row of the point. -/
theorem in5 (y : S1x64x6144.Idx) : (y 1).val * 4 + (y 2).val / 1536 < 256 := by
  have h1 : (y 1).val < 64 := (y 1).isLt
  have h2 : (y 2).val < 6144 := (y 2).isLt
  omega

set_option maxHeartbeats 2000000 in
/-- What a point leaves of the first group. -/
theorem tile4 : (dats m 0 c).after 4 t = fun y : S1x256x1536.Idx => Tile.place 1 0 (by omega) (chunks m c t) (y 1).val (y 2).val (in4 y) := by
  rw [after0_4]
  frame_out
  funext y
  refine View.canon_eq_of_allAt _ y _ ?_ ?_
  · refine View.cover_of_tiled_head _ _ _ ?_ y
    rfl
  iterate 4
    refine View.allAt_cons_unit _ _ _ _ _ (Tile.whole_tile _ _ _ ?_ (fun R l => ?_) y ?_ (in4 y)) ?_
    · decide
    · refine Tile.plain_piece _ _ _ _ _ ?_ ?_ _ _ R l
      · rfl
      · decide
    · decide
  iterate 8
    refine View.allAt_cons_unit _ _ _ _ _ (Tile.whole_tile _ _ _ ?_ (fun R l => ?_) y ?_ (in4 y)) ?_
    · decide
    · refine Tile.turned_piece _ _ _ _ _ ?_ ?_ _ _ R l
      · rfl
      · decide
    · decide
  exact View.allAt_nil _ _

/-- A place of the third group's tile is in a row of the point. -/
theorem in6 (y : S1x16x24576.Idx) : (y 1).val * 16 + (y 2).val / 1536 < 256 := by
  have h1 : (y 1).val < 16 := (y 1).isLt
  have h2 : (y 2).val < 24576 := (y 2).isLt
  omega

set_option maxHeartbeats 4000000 in
/-- What a point leaves of the second group. -/
theorem tile5 : (dats m 0 c).after 5 t = fun y : S1x64x6144.Idx => Tile.place 4 1 (by omega) (chunks m c t) (y 1).val (y 2).val (in5 y) := by
  rw [after0_5]
  frame_out
  dsimp only [k0_pay33, k0_pay34, k0_pay39, k0_pay40, k0_pay126, k0_pay127, k0_pay136, k0_pay137, k0_pay142, k0_pay143, k0_pay225,
    k0_pay226, k0_pay237, k0_pay238, k0_pay243, k0_pay244]
  funext y
  refine View.canon_eq_of_allAt _ y _ ?_ ?_
  · refine View.cover_of_tiled_head _ _ _ ?_ y
    rfl
  iterate 16
    refine View.allAt_cons_unit _ _ _ _ _ (Tile.tile4 _ _ _ _ _ ?_ (fun R l => ?_) _ _ _ _ _ _ y ?_ ?_ (in5 y)) ?_
    · decide
    · refine Tile.plain_piece _ _ _ _ _ ?_ ?_ _ _ R l
      · rfl
      · decide
    · rfl
    · decide
  iterate 32
    refine View.allAt_cons_unit _ _ _ _ _ (Tile.tile4 _ _ _ _ _ ?_ (fun R l => ?_) _ _ _ _ _ _ y ?_ ?_ (in5 y)) ?_
    · decide
    · refine Tile.turned_piece _ _ _ _ _ ?_ ?_ ?_ _ R l
      · rfl
      · decide
      all_goals decide
    · rfl
    · decide
  exact View.allAt_nil _ _

set_option maxHeartbeats 4000000 in
/-- What a point leaves of the third group. -/
theorem tile6 : (dats m 0 c).after 6 t = fun y : S1x16x24576.Idx => Tile.place 16 2 (by omega) (chunks m c t) (y 1).val (y 2).val (in6 y) := by
  rw [after0_6]
  frame_out
  dsimp only [k0_pay1, k0_pay59, k0_pay60, k0_pay65, k0_pay66, k0_pay71, k0_pay72, k0_pay77, k0_pay78, k0_pay83, k0_pay84, k0_pay89,
    k0_pay90, k0_pay95, k0_pay96, k0_pay168, k0_pay169, k0_pay174, k0_pay175, k0_pay180, k0_pay181, k0_pay186, k0_pay187, k0_pay192,
    k0_pay193, k0_pay198, k0_pay199, k0_pay265, k0_pay266, k0_pay271, k0_pay272, k0_pay277, k0_pay278, k0_pay283, k0_pay284,
    k0_pay289, k0_pay290, k0_pay295, k0_pay296, k0_pay301, k0_pay302, k0_pay318]
  funext y
  refine View.canon_eq_of_allAt _ y _ ?_ ?_
  · refine View.cover_of_tiled_head _ _ _ ?_ y
    rfl
  iterate 64
    refine View.allAt_cons_unit _ _ _ _ _ (Tile.tile16 _ _ _ _ _ ?_ (fun R l => ?_) _ _ _ _ _ _ y ?_ ?_ (in6 y)) ?_
    · decide
    · refine Tile.plain_piece _ _ _ _ _ ?_ ?_ _ _ R l
      · rfl
      · decide
    · rfl
    · decide
  iterate 128
    refine View.allAt_cons_unit _ _ _ _ _ (Tile.tile16 _ _ _ _ _ ?_ (fun R l => ?_) _ _ _ _ _ _ y ?_ ?_ (in6 y)) ?_
    · decide
    · refine Tile.turned_piece _ _ _ _ _ ?_ ?_ _ _ R l
      · rfl
      · decide
    · rfl
    · decide
  exact View.allAt_nil _ _
end Cert.QkvIdeal.Store
-- ==== Proof.QkvArray.lean ====
module
public import proofs.«01_k».proof.Proof.QkvStore

/-!
# The attention's queries, keys and values, all rows
-/

@[expose] public section
set_option maxRecDepth 16384
noncomputable section
open Idealize.ShloMosaic Idealize.ShloMosaic.TcCoe Idealize.SL.Sem Idealize.ShloMosaic.StableHlo

namespace Cert.QkvIdeal.Array
open Cert.QkvIdeal Cert.QkvIdeal.Gen

/-- The rotary angles: a place times its pair's inverse frequency. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

/-- The cosines of the angles. -/
def cosines : FVec Ideal S4096x32 .f32 := Host.cos angles
/-- The sines of the angles. -/
def sines : FVec Ideal S4096x32 .f32 := Host.sin angles

/-- A token's projection to one of the attention's columns. -/
def proj (X : FVec Ideal S4x4096x2048 .f32) (W : FVec Ideal S2048x15296 .f32) (b : Fin 4) (i : Fin 4096) (n : Fin 4608) : EReal :=
  ∑ k : Fin 2048, X (ix3 b i k) * W (ix2 k ⟨6592 + n.val, by omega⟩)

/-- The pair of a lane. -/
abbrev pair (l : Fin 128) : Fin 32 := ⟨l.val % 32, by omega⟩

/-- The signed sine of a lane. -/
def signed (i : Fin 4096) (l : Fin 128) : EReal := if l.val % 64 < 32 then - sines (ix2 i (pair l)) else sines (ix2 i (pair l))

/-- A token's chunk: the projection, rotated for the queries and keys. -/
def entry (X : FVec Ideal S4x4096x2048 .f32) (W : FVec Ideal S2048x15296 .f32) (b : Fin 4) (n : Fin 36) (i : Fin 4096) (l : Fin 128) : EReal :=
  if n.val < 24 then proj X W b i (Tile.column n l) * cosines (ix2 i (pair l)) + proj X W b i (Tile.column n (Tile.partner l)) * signed i l
  else proj X W b i (Tile.column n l)

/-- Where the windows stand at a point. -/
theorem idx : ∀ t : Fin cfg0.N,
    win0_0.index t = ![(grid0.coords t 0).val, (grid0.coords t 1).val, 0] ∧ win0_1.index t = ![0, 0] ∧
    win0_2.index t = ![(grid0.coords t 1).val, 0] ∧ win0_3.index t = ![(grid0.coords t 1).val, 0] ∧
    win0_4.index t = ![(grid0.coords t 0).val, (grid0.coords t 1).val, 0] ∧
    win0_5.index t = ![(grid0.coords t 0).val, (grid0.coords t 1).val, 0] ∧
    win0_6.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)

/-- The tokens. -/
abbrev tokens : FVec Ideal S4x4096x2048 .f32 := m ((c.tc : Thread nD τ).loc main_arg0)
/-- The weights. -/
abbrev weights : FVec Ideal S2048x15296 .f32 := m ((c.tc : Thread nD τ).loc main_arg1)

/-- A point's sequence. -/
abbrev seq : Fin 4 := grid0.coords t 0
/-- A point's tile of tokens. -/
abbrev row : Fin 16 := grid0.coords t 1

/-- The coordinates of a point, by their names. -/
theorem coord_vals : (grid0.coords t 0).val = (seq t).val ∧ (seq t).val < 4 ∧ (grid0.coords t 1).val = (row t).val ∧ (row t).val < 16 :=
  ⟨rfl, (seq t).isLt, rfl, (row t).isLt⟩

/-- The token of a tile's row. -/
abbrev at_ (a : Fin 16) (R : Fin 256) : Fin 4096 := ⟨a.val * 256 + R.val, by omega⟩

/-- A point's block of tokens. -/
theorem read0 (R : Fin 256) (k : Fin 2048) : iblk m c 0 t (ix3 0 R k) = tokens m c (ix3 (seq t) (at_ (row t) R) k) := by
  blk_point [iblk, V, idx t]
  all_goals
    have := coord_vals t
    omega

/-- The attention's columns of the weights, at every point. -/
theorem read1 (k : Fin 2048) (C : Fin 4608) : iblk m c 1 t (ix2 k C) = weights m c (ix2 k ⟨6592 + C.val, by omega⟩) := by
  blk_point [iblk, V, idx t]

/-- The table of cosines: a head's 32 pairs, four times. -/
def cosTable : FVec Ideal S4096x128 .f32 :=
  concatenate S4096x128 1 [⟨S4096x32, cosines⟩, ⟨S4096x32, cosines⟩, ⟨S4096x32, cosines⟩, ⟨S4096x32, cosines⟩]
    concatenates_S4096x32_S4096x32_S4096x32_S4096x32_S4096x128_d1

/-- The table of sines, signed by the half of the head. -/
def sinTable : FVec Ideal S4096x128 .f32 :=
  concatenate S4096x128 1 [⟨S4096x32, Host.negf sines⟩, ⟨S4096x32, sines⟩, ⟨S4096x32, Host.negf sines⟩, ⟨S4096x32, sines⟩]
    concatenates_S4096x32_S4096x32_S4096x32_S4096x32_S4096x128_d1

/-- The third window's array is the table of cosines. -/
theorem held2 : V m c main_v16 = cosTable := by
  unfold_abbrev_sides
  after_results
  rfl

/-- The fourth window's array is the table of signed sines. -/
theorem held3 : V m c main_v19 = sinTable := by
  unfold_abbrev_sides
  after_results
  rfl

/-- The table of cosines at a lane. -/
theorem cosTable_at (i : Fin 4096) (l : Fin 128) : cosTable (ix2 i l) = cosines (ix2 i (pair l)) := by
  pointwise [cosTable]
  split_ifs <;> exact congrArg (fun k => cosines (ix2 i k)) (Fin.ext (by dsimp only <;> omega))

/-- The table of signed sines at a lane. -/
theorem sinTable_at (i : Fin 4096) (l : Fin 128) : sinTable (ix2 i l) = signed i l := by
  unfold signed
  by_cases hl : l.val % 64 < 32
  · rw [if_pos hl]
    pointwise [sinTable]
    split_ifs <;> first
      | exact congrArg (fun k => - sines (ix2 i k)) (Fin.ext (by dsimp only <;> omega))
      | (exfalso; omega)
  · rw [if_neg hl]
    pointwise [sinTable]
    split_ifs <;> first
      | exact congrArg (fun k => sines (ix2 i k)) (Fin.ext (by dsimp only <;> omega))
      | (exfalso; omega)

/-- A point's rows of a table in window 2. -/
theorem window2 (T : FVec Ideal S4096x128 .f32) (R : Fin 256) (l : Fin 128) :
    ((cfg0.win 2).blk t).view.read (Elt Ideal) T (ix2 R l) = T (ix2 (at_ (row t) R) l) := by
  blk_point [idx t]
  all_goals
    have := coord_vals t
    omega

/-- A point's rows of a table in window 3. -/
theorem window3 (T : FVec Ideal S4096x128 .f32) (R : Fin 256) (l : Fin 128) :
    ((cfg0.win 3).blk t).view.read (Elt Ideal) T (ix2 R l) = T (ix2 (at_ (row t) R) l) := by
  blk_point [idx t]
  all_goals
    have := coord_vals t
    omega

/-- A point's block of cosines. -/
theorem read2 (R : Fin 256) (l : Fin 128) : iblk m c 2 t (ix2 R l) = cosines (ix2 (at_ (row t) R) (pair l)) := by
  rw [← cosTable_at]
  unfold iblk
  rw [show V m c (Pipeline.arrRef spec0 2) = cosTable from held2 m c]
  exact window2 t cosTable R l

/-- A point's block of signed sines. -/
theorem read3 (R : Fin 256) (l : Fin 128) : iblk m c 3 t (ix2 R l) = signed (at_ (row t) R) l := by
  rw [← sinTable_at]
  unfold iblk
  rw [show V m c (Pipeline.arrRef spec0 3) = sinTable from held3 m c]
  exact window3 t sinTable R l

/-- The projection of a point's rows. -/
theorem tile_at (x : Vec Ideal S1x256x2048 .bf16) (w : Vec Ideal S2048x4608 .bf16) (R : Fin 256) (C : Fin 4608) :
    k0_pay5 x w (ix2 R C) = ∑ k : Fin 2048, x (ix3 0 R k) * w (ix2 k C) := by
  pointwise [k0_pay5]

/-- A point's chunks are its rows' chunks. -/
theorem chunks_at (n : Fin 36) (R : Fin 256) (l : Fin 128) :
    Store.chunks m c t n R l = entry (tokens m c) (weights m c) (seq t) n (at_ (row t) R) l := by
  have p : ∀ C, k0_pay5 (iblk m c 0 t) (iblk m c 1 t) (ix2 R C) = proj (tokens m c) (weights m c) (seq t) (at_ (row t) R) C := fun C => by
    refine (tile_at _ _ R C).trans ?_
    unfold proj
    refine Finset.sum_congr rfl fun k _ => ?_
    rw [read0, read1]
  have c2 : k0_pay6 (iblk m c 2 t) (ix2 R l) = cosines (ix2 (at_ (row t) R) (pair l)) := by
    pointwise [k0_pay6]
    exact read2 m c t R l
  have c3 : k0_pay7 (iblk m c 3 t) (ix2 R l) = signed (at_ (row t) R) l := by
    pointwise [k0_pay7]
    exact read3 m c t R l
  unfold Store.chunks Tile.chunk entry
  rw [p, p, c2, c3]

/-- A tile's entry is the array's, at the tile's place. -/
theorem shift (d g : ℕ) (hg : g < 3) (b : Fin 4) (r r' u u' : ℕ) (h : r * d + u / 1536 < 256) (h' : r' * d + u' / 1536 < 4096)
    (hb : b.val = (seq t).val) (hr : r' * d = (row t).val * 256 + r * d) (hu : u' = u) :
    Tile.place d g hg (Store.chunks m c t) r u h = Tile.place d g hg (entry (tokens m c) (weights m c) b) r' u' h' := by
  subst hu
  obtain rfl : b = seq t := Fin.ext hb
  unfold Tile.place
  rw [chunks_at]
  refine congrArg (fun k => entry _ _ _ _ k _) (Fin.ext ?_)
  show (row t).val * 256 + (r * d + u' / 1536) = r' * d + u' / 1536
  omega

/-- The array of group 0: every token. -/
def result0 (X : FVec Ideal S4x4096x2048 .f32) (W : FVec Ideal S2048x15296 .f32) : FVec Ideal S4x4096x1536 .f32 := fun i =>
  Tile.place 1 0 (by decide) (entry X W (i 0)) (i 1).val (i 2).val
    (by have h1 : (i 1).val < 4096 := (i 1).isLt; have h2 : (i 2).val < 1536 := (i 2).isLt; omega)

/-- The array of group 1: 4 tokens to a row. -/
def result1 (X : FVec Ideal S4x4096x2048 .f32) (W : FVec Ideal S2048x15296 .f32) : FVec Ideal S4x1024x6144 .f32 := fun i =>
  Tile.place 4 1 (by decide) (entry X W (i 0)) (i 1).val (i 2).val
    (by have h1 : (i 1).val < 1024 := (i 1).isLt; have h2 : (i 2).val < 6144 := (i 2).isLt; omega)

/-- The array of group 2: 16 tokens to a row. -/
def result2 (X : FVec Ideal S4x4096x2048 .f32) (W : FVec Ideal S2048x15296 .f32) : FVec Ideal S4x256x24576 .f32 := fun i =>
  Tile.place 16 2 (by decide) (entry X W (i 0)) (i 1).val (i 2).val
    (by have h1 : (i 1).val < 256 := (i 1).isLt; have h2 : (i 2).val < 24576 := (i 2).isLt; omega)

/-- Window 4's array holds group 0. -/
theorem final4 : (dats m 0 c).arrAt 4 cfg0.N = result0 (tokens m c) (weights m c) := by
  refine (dats m 0 c).arrAt_eq_of_covers 4 _ (by decide +kernel) fun t _ y => ?_
  have hi := (idx t).2.2.2.2.1
  rw [Store.tile4]
  idx_vars y
  refine shift m c t 1 0 _ _ _ _ _ _ _ _ ?_ ?_ ?_
  · blk_simp [hi]
  · blk_simp [hi]
  · blk_simp [hi]

/-- Window 5's array holds group 1. -/
theorem final5 : (dats m 0 c).arrAt 5 cfg0.N = result1 (tokens m c) (weights m c) := by
  refine (dats m 0 c).arrAt_eq_of_covers 5 _ (by decide +kernel) fun t _ y => ?_
  have hi := (idx t).2.2.2.2.2.1
  rw [Store.tile5]
  idx_vars y
  refine shift m c t 4 1 _ _ _ _ _ _ _ _ ?_ ?_ ?_
  · blk_simp [hi]
  · blk_simp [hi]
    have := coord_vals t
    omega
  · blk_simp [hi]

/-- Window 6's array holds group 2. -/
theorem final6 : (dats m 0 c).arrAt 6 cfg0.N = result2 (tokens m c) (weights m c) := by
  refine (dats m 0 c).arrAt_eq_of_covers 6 _ (by decide +kernel) fun t _ y => ?_
  have hi := (idx t).2.2.2.2.2.2
  rw [Store.tile6]
  idx_vars y
  refine shift m c t 16 2 _ _ _ _ _ _ _ _ ?_ ?_ ?_
  · blk_simp [hi]
  · blk_simp [hi]
    have := coord_vals t
    omega
  · blk_simp [hi]

end Cert.QkvIdeal.Array
-- ==== Proof.QkvRef.lean ====
module
public import proofs.«01_k».proof.Proof.QkvArray
public import proofs.«01_k».proof.Proof.Gen.QkvRefIdeal.Run

/-!
# The reference's queries, keys and values
-/

@[expose] public section
set_option maxRecDepth 16384
noncomputable section
open Idealize.ShloMosaic Idealize.ShloMosaic.TcCoe Idealize.SL.Sem Idealize.ShloMosaic.StableHlo

namespace Cert.QkvRefIdeal.Stage
open Cert.QkvRefIdeal Cert.QkvRefIdeal.Gen
open Cert.QkvIdeal.Array (proj entry cosines sines pair signed)

/-- The projection, by part, group, head and lane. -/
def product (X : FVec Ideal S4x4096x2048 .f32) (W : FVec Ideal S2048x15296 .f32) : FVec Ideal S4x4096x3x3x8x64 .f32 :=
  shapeCast _ (extractStridedSlice S4x4096x4608 ![0, 0, 6592] (Host.dotGeneral dot_S4x4096x2048_S2048x15296_S4x4096x15296_2_0_01_1_n_n none X W)
    slices_S4x4096x15296_S4x4096x4608_0_0_6592) shapeCasts_S4x4096x4608_S4x4096x3x3x8x64

/-- The projection at an entry. -/
theorem product_at (X W) (b : Fin 4) (i : Fin 4096) (p g : Fin 3) (h : Fin 8) (e : Fin 64) :
    product X W (ix6 b i p g h e) = proj X W b i ⟨p.val * 1536 + g.val * 512 + h.val * 64 + e.val, by omega⟩ := by
  unfold proj
  pointwise [product]

/-- One part of the projection. -/
def part (p : ℕ) (T : FVec Ideal S4x4096x3x3x8x64 .f32) (s : Shape.Slices S4x4096x3x3x8x64 ![0, 0, p, 0, 0, 0] S4x4096x1x3x8x64) : FVec Ideal S4x4096x3x8x64 .f32 :=
  shapeCast _ (extractStridedSlice S4x4096x1x3x8x64 ![0, 0, p, 0, 0, 0] T s) shapeCasts_S4x4096x1x3x8x64_S4x4096x3x8x64

/-- A part at an entry. -/
theorem part_at (p : Fin 3) (T) (s) (b : Fin 4) (i : Fin 4096) (g : Fin 3) (h : Fin 8) (e : Fin 64) :
    part p.val T s (ix5 b i g h e) = T (ix6 b i p g h e) := by
  pointwise [part]

/-- The rotation of a part. -/
def rotary (C S : FVec Ideal S4096x32 .f32) (t : FVec Ideal S4x4096x3x8x64 .f32) : FVec Ideal S4x4096x3x8x64 .f32 :=
  concatenate S4x4096x3x8x64 4
    [⟨S4x4096x3x8x32, subf
      (mulf (extractStridedSlice S4x4096x3x8x32 ![0, 0, 0, 0, 0] t slices_S4x4096x3x8x64_S4x4096x3x8x32_0_0_0_0_0)
        (broadcastInDim S4x4096x3x8x32 ![0, 1, 2, 3, 4] bcast_S1x4096x1x1x32_S4x4096x3x8x32_0_1_2_3_4 (shapeCast _ C shapeCasts_S4096x32_S1x4096x1x1x32)))
      (mulf (extractStridedSlice S4x4096x3x8x32 ![0, 0, 0, 0, 32] t slices_S4x4096x3x8x64_S4x4096x3x8x32_0_0_0_0_32)
        (broadcastInDim S4x4096x3x8x32 ![0, 1, 2, 3, 4] bcast_S1x4096x1x1x32_S4x4096x3x8x32_0_1_2_3_4 (shapeCast _ S shapeCasts_S4096x32_S1x4096x1x1x32)))⟩,
     ⟨S4x4096x3x8x32, addf
      (mulf (extractStridedSlice S4x4096x3x8x32 ![0, 0, 0, 0, 32] t slices_S4x4096x3x8x64_S4x4096x3x8x32_0_0_0_0_32)
        (broadcastInDim S4x4096x3x8x32 ![0, 1, 2, 3, 4] bcast_S1x4096x1x1x32_S4x4096x3x8x32_0_1_2_3_4 (shapeCast _ C shapeCasts_S4096x32_S1x4096x1x1x32)))
      (mulf (extractStridedSlice S4x4096x3x8x32 ![0, 0, 0, 0, 0] t slices_S4x4096x3x8x64_S4x4096x3x8x32_0_0_0_0_0)
        (broadcastInDim S4x4096x3x8x32 ![0, 1, 2, 3, 4] bcast_S1x4096x1x1x32_S4x4096x3x8x32_0_1_2_3_4 (shapeCast _ S shapeCasts_S4096x32_S1x4096x1x1x32)))⟩]
    concatenates_S4x4096x3x8x32_S4x4096x3x8x32_S4x4096x3x8x64_d4

/-- The rotation in the first half of a head. -/
theorem rotary_low (C S t) (b : Fin 4) (i : Fin 4096) (g : Fin 3) (h : Fin 8) (k : Fin 32) :
    rotary C S t (ix5 b i g h ⟨k.val, by omega⟩) =
      t (ix5 b i g h ⟨k.val, by omega⟩) * C (ix2 i k) - t (ix5 b i g h ⟨32 + k.val, by omega⟩) * S (ix2 i k) := by
  pointwise [rotary]

/-- The rotation in the second half of a head. -/
theorem rotary_high (C S t) (b : Fin 4) (i : Fin 4096) (g : Fin 3) (h : Fin 8) (k : Fin 32) :
    rotary C S t (ix5 b i g h ⟨32 + k.val, by omega⟩) =
      t (ix5 b i g h ⟨32 + k.val, by omega⟩) * C (ix2 i k) + t (ix5 b i g h ⟨k.val, by omega⟩) * S (ix2 i k) := by
  pointwise [rotary]

/-- The three parts, side by side. -/
def stacked (Q K V : FVec Ideal S4x4096x3x8x64 .f32) : FVec Ideal S4x4096x3x3x8x64 .f32 :=
  concatenate S4x4096x3x3x8x64 2
    [⟨S4x4096x1x3x8x64, broadcastInDim S4x4096x1x3x8x64 ![0, 1, 3, 4, 5] bcast_S4x4096x3x8x64_S4x4096x1x3x8x64_0_1_3_4_5 Q⟩,
     ⟨S4x4096x1x3x8x64, broadcastInDim S4x4096x1x3x8x64 ![0, 1, 3, 4, 5] bcast_S4x4096x3x8x64_S4x4096x1x3x8x64_0_1_3_4_5 K⟩,
     ⟨S4x4096x1x3x8x64, broadcastInDim S4x4096x1x3x8x64 ![0, 1, 3, 4, 5] bcast_S4x4096x3x8x64_S4x4096x1x3x8x64_0_1_3_4_5 V⟩]
    concatenates_S4x4096x1x3x8x64_S4x4096x1x3x8x64_S4x4096x1x3x8x64_S4x4096x3x3x8x64_d2

/-- The parts, entry by entry. -/
theorem stacked_at (Q K V) (b : Fin 4) (i : Fin 4096) (p g : Fin 3) (h : Fin 8) (e : Fin 64) :
    stacked Q K V (ix6 b i p g h e) = if p.val = 0 then Q (ix5 b i g h e) else if p.val = 1 then K (ix5 b i g h e) else V (ix5 b i g h e) := by
  pointwise [stacked]
  split_ifs <;> first
    | rfl
    | (exfalso; omega)

/-- The reference's attention chunks, by part, group, head and lane. -/
def all (X : FVec Ideal S4x4096x2048 .f32) (W : FVec Ideal S2048x15296 .f32) : FVec Ideal S4x4096x3x3x8x64 .f32 :=
  stacked (rotary cosines sines (part 0 (product X W) slices_S4x4096x3x3x8x64_S4x4096x1x3x8x64_0_0_0_0_0_0))
    (rotary cosines sines (part 1 (product X W) slices_S4x4096x3x3x8x64_S4x4096x1x3x8x64_0_0_1_0_0_0))
    (part 2 (product X W) slices_S4x4096x3x3x8x64_S4x4096x1x3x8x64_0_0_2_0_0_0)

/-- A rotated part is the rotated chunk. -/
theorem rotary_at (X W) (p : Fin 3) (hp : p.val < 2) (s) (b : Fin 4) (i : Fin 4096) (g : Fin 3) (h : Fin 8) (e : Fin 64) :
    rotary cosines sines (part p.val (product X W) s) (ix5 b i g h e) =
      entry X W b ⟨p.val * 12 + g.val * 4 + h.val / 2, by omega⟩ i ⟨h.val % 2 * 64 + e.val, by omega⟩ := by
  have same : ∀ n n' : Fin 4608, n.val = n'.val → proj X W b i n = proj X W b i n' := fun n n' q => congrArg _ (Fin.ext q)
  have lane : ∀ k k' : Fin 32, k.val = k'.val → ix2 i k = ix2 i k' := fun k k' q => congrArg _ (Fin.ext q)
  unfold entry signed Cert.QkvIdeal.Tile.partner
  rw [if_pos (show p.val * 12 + g.val * 4 + h.val / 2 < 24 by omega)]
  by_cases he : e.val < 32
  · have hl : (h.val % 2 * 64 + e.val) % 64 < 32 := by omega
    rw [if_pos hl, if_pos hl]
    refine (rotary_low cosines sines _ b i g h ⟨e.val, he⟩).trans ?_
    rw [part_at, part_at, product_at, product_at, mul_neg, ← sub_eq_add_neg]
    refine congrArg₂ (fun x y : EReal => x - y) (congrArg₂ (fun x y : EReal => x * y) (same _ _ ?_) (congrArg _ (lane _ _ ?_)))
      (congrArg₂ (fun x y : EReal => x * y) (same _ _ ?_) (congrArg _ (lane _ _ ?_)))
    all_goals dsimp only <;> omega
  · have hk : (⟨32 + (e.val - 32), by omega⟩ : Fin 64) = e := Fin.ext (by dsimp only; omega)
    have hl : ¬ (h.val % 2 * 64 + e.val) % 64 < 32 := by omega
    rw [if_neg hl, if_neg hl]
    refine (congrArg (fun q => rotary cosines sines (part p.val (product X W) s) (ix5 b i g h q)) hk.symm).trans
      ((rotary_high cosines sines _ b i g h ⟨e.val - 32, by omega⟩).trans ?_)
    rw [part_at, part_at, product_at, product_at]
    refine congrArg₂ (fun x y : EReal => x + y) (congrArg₂ (fun x y : EReal => x * y) (same _ _ ?_) (congrArg _ (lane _ _ ?_)))
      (congrArg₂ (fun x y : EReal => x * y) (same _ _ ?_) (congrArg _ (lane _ _ ?_)))
    all_goals dsimp only <;> omega

/-- The reference's chunks, entry by entry. -/
theorem all_at (X W) (b : Fin 4) (i : Fin 4096) (p g : Fin 3) (h : Fin 8) (e : Fin 64) :
    all X W (ix6 b i p g h e) = entry X W b ⟨p.val * 12 + g.val * 4 + h.val / 2, by omega⟩ i ⟨h.val % 2 * 64 + e.val, by omega⟩ := by
  unfold all
  rw [stacked_at]
  obtain rfl | rfl | rfl : p = 0 ∨ p = 1 ∨ p = 2 := by omega
  · exact rotary_at X W 0 (by decide) _ b i g h e
  · exact rotary_at X W 1 (by decide) _ b i g h e
  · refine (part_at 2 _ slices_S4x4096x3x3x8x64_S4x4096x1x3x8x64_0_0_2_0_0_0 b i g h e).trans ?_
    rw [product_at]
    unfold entry
    rw [if_neg (by show ¬ 2 * 12 + g.val * 4 + h.val / 2 < 24; omega)]
    refine congrArg _ (Fin.ext ?_)
    show 2 * 1536 + g.val * 512 + h.val * 64 + e.val = (2 * 12 + g.val * 4 + h.val / 2) * 128 + (h.val % 2 * 64 + e.val)
    omega

/-- One group's chunks. -/
def group (g : ℕ) (T : FVec Ideal S4x4096x3x3x8x64 .f32) (s : Shape.Slices S4x4096x3x3x8x64 ![0, 0, 0, g, 0, 0] S4x4096x3x1x8x64) :
    FVec Ideal S4x4096x3x8x64 .f32 :=
  shapeCast _ (extractStridedSlice S4x4096x3x1x8x64 ![0, 0, 0, g, 0, 0] T s) shapeCasts_S4x4096x3x1x8x64_S4x4096x3x8x64

/-- A group at an entry. -/
theorem group_at (g : Fin 3) (T) (s) (b : Fin 4) (i : Fin 4096) (p : Fin 3) (h : Fin 8) (e : Fin 64) :
    group g.val T s (ix5 b i p h e) = T (ix6 b i p g h e) := by
  pointwise [group]

/-- A chunk by its group's lane. -/
theorem place_at (X W) (d g : Fin 17) (hg : g.val < 3) (b : Fin 4) (r u : ℕ) (h : r * d.val + u / 1536 < 4096) (s) :
    group g.val (all X W) s (ix5 b ⟨r * d.val + u / 1536, h⟩ ⟨u % 1536 / 512, by omega⟩ ⟨u % 512 / 64, by omega⟩ ⟨u % 64, by omega⟩) =
      Cert.QkvIdeal.Tile.place d.val g.val hg (entry X W b) r u h := by
  refine (group_at ⟨g.val, hg⟩ _ s _ _ _ _ _).trans ((all_at X W _ _ _ _ _ _).trans ?_)
  unfold Cert.QkvIdeal.Tile.place
  refine congrArg₂ (fun n l => entry X W b n _ l) (Fin.ext ?_) (Fin.ext ?_)
  all_goals dsimp only <;> omega

/-- Entries at equal places are equal. -/
theorem same_place (T : FVec Ideal S4x4096x3x8x64 .f32) (b : Fin 4) (i i' : Fin 4096) (p p' : Fin 3) (h h' : Fin 8) (e : Fin 64)
    (hi : i.val = i'.val) (hp : p.val = p'.val) (hh : h.val = h'.val) : T (ix5 b i p h e) = T (ix5 b i' p' h' e) := by
  obtain rfl := Fin.ext hi
  obtain rfl := Fin.ext hp
  obtain rfl := Fin.ext hh
  rfl

/-- A group of 1 tokens to a row, entry by entry. -/
theorem flat0 (T : FVec Ideal S4x4096x3x8x64 .f32) (b : Fin 4) (r : Fin 4096) (u : Fin 1536) :
    shapeCast S4x4096x1536 T shapeCasts_S4x4096x3x8x64_S4x4096x1536 (ix3 b r u) =
      T (ix5 b ⟨r.val * 1 + u.val / 1536, by omega⟩ ⟨u.val % 1536 / 512, by omega⟩ ⟨u.val % 512 / 64, by omega⟩ ⟨u.val % 64, by omega⟩) := by
  pointwise []
  refine same_place T _ _ _ _ _ _ _ _ ?_ ?_ ?_
  all_goals dsimp only <;> omega

/-- The reference's result for group 0. -/
def result0 (X : FVec Ideal S4x4096x2048 .f32) (W : FVec Ideal S2048x15296 .f32) : FVec Ideal S4x4096x1536 .f32 :=
  shapeCast _ (group 0 (all X W) slices_S4x4096x3x3x8x64_S4x4096x3x1x8x64_0_0_0_0_0_0) shapeCasts_S4x4096x3x8x64_S4x4096x1536

/-- The reference's result for group 0 is the kernel's. -/
theorem result0_eq (X W) : result0 X W = Cert.QkvIdeal.Array.result0 X W := by
  funext i
  have h1 : (i 1).val < 4096 := (i 1).isLt
  have h2 : (i 2).val < 1536 := (i 2).isLt
  refine (congrArg _ (ix3_eta i).symm).trans ((flat0 _ (i 0) (i 1) (i 2)).trans ?_)
  exact place_at X W 1 0 (by decide) (i 0) (i 1).val (i 2).val (by show (i 1).val * 1 + _ < _; omega)
    slices_S4x4096x3x3x8x64_S4x4096x3x1x8x64_0_0_0_0_0_0

/-- A group of 4 tokens to a row, entry by entry. -/
theorem flat1 (T : FVec Ideal S4x4096x3x8x64 .f32) (b : Fin 4) (r : Fin 1024) (u : Fin 6144) :
    shapeCast S4x1024x6144 T shapeCasts_S4x4096x3x8x64_S4x1024x6144 (ix3 b r u) =
      T (ix5 b ⟨r.val * 4 + u.val / 1536, by omega⟩ ⟨u.val % 1536 / 512, by omega⟩ ⟨u.val % 512 / 64, by omega⟩ ⟨u.val % 64, by omega⟩) := by
  pointwise []
  refine same_place T _ _ _ _ _ _ _ _ ?_ ?_ ?_
  all_goals dsimp only <;> omega

/-- The reference's result for group 1. -/
def result1 (X : FVec Ideal S4x4096x2048 .f32) (W : FVec Ideal S2048x15296 .f32) : FVec Ideal S4x1024x6144 .f32 :=
  shapeCast _ (group 1 (all X W) slices_S4x4096x3x3x8x64_S4x4096x3x1x8x64_0_0_0_1_0_0) shapeCasts_S4x4096x3x8x64_S4x1024x6144

/-- The reference's result for group 1 is the kernel's. -/
theorem result1_eq (X W) : result1 X W = Cert.QkvIdeal.Array.result1 X W := by
  funext i
  have h1 : (i 1).val < 1024 := (i 1).isLt
  have h2 : (i 2).val < 6144 := (i 2).isLt
  refine (congrArg _ (ix3_eta i).symm).trans ((flat1 _ (i 0) (i 1) (i 2)).trans ?_)
  exact place_at X W 4 1 (by decide) (i 0) (i 1).val (i 2).val (by show (i 1).val * 4 + _ < _; omega)
    slices_S4x4096x3x3x8x64_S4x4096x3x1x8x64_0_0_0_1_0_0

/-- A group of 16 tokens to a row, entry by entry. -/
theorem flat2 (T : FVec Ideal S4x4096x3x8x64 .f32) (b : Fin 4) (r : Fin 256) (u : Fin 24576) :
    shapeCast S4x256x24576 T shapeCasts_S4x4096x3x8x64_S4x256x24576 (ix3 b r u) =
      T (ix5 b ⟨r.val * 16 + u.val / 1536, by omega⟩ ⟨u.val % 1536 / 512, by omega⟩ ⟨u.val % 512 / 64, by omega⟩ ⟨u.val % 64, by omega⟩) := by
  pointwise []
  refine same_place T _ _ _ _ _ _ _ _ ?_ ?_ ?_
  all_goals dsimp only <;> omega

/-- The reference's result for group 2. -/
def result2 (X : FVec Ideal S4x4096x2048 .f32) (W : FVec Ideal S2048x15296 .f32) : FVec Ideal S4x256x24576 .f32 :=
  shapeCast _ (group 2 (all X W) slices_S4x4096x3x3x8x64_S4x4096x3x1x8x64_0_0_0_2_0_0) shapeCasts_S4x4096x3x8x64_S4x256x24576

/-- The reference's result for group 2 is the kernel's. -/
theorem result2_eq (X W) : result2 X W = Cert.QkvIdeal.Array.result2 X W := by
  funext i
  have h1 : (i 1).val < 256 := (i 1).isLt
  have h2 : (i 2).val < 24576 := (i 2).isLt
  refine (congrArg _ (ix3_eta i).symm).trans ((flat2 _ (i 0) (i 1) (i 2)).trans ?_)
  exact place_at X W 16 2 (by decide) (i 0) (i 1).val (i 2).val (by show (i 1).val * 16 + _ < _; omega)
    slices_S4x4096x3x3x8x64_S4x4096x3x1x8x64_0_0_0_2_0_0

/-- The reference's run holds group 0's result. -/
theorem held0 (m : (ℓ : Loc nD τ sig) → Buf (Elt Ideal) ℓ) (c : Dev nD) :
    Value.res_out0 m c = result0 (m ((c.tc : Thread nD τ).loc main_arg0)) (m ((c.tc : Thread nD τ).loc main_arg1)) := rfl

/-- The reference's run holds group 1's result. -/
theorem held1 (m : (ℓ : Loc nD τ sig) → Buf (Elt Ideal) ℓ) (c : Dev nD) :
    Value.res_out1 m c = result1 (m ((c.tc : Thread nD τ).loc main_arg0)) (m ((c.tc : Thread nD τ).loc main_arg1)) := rfl

/-- The reference's run holds group 2's result. -/
theorem held2 (m : (ℓ : Loc nD τ sig) → Buf (Elt Ideal) ℓ) (c : Dev nD) :
    Value.res_out2 m c = result2 (m ((c.tc : Thread nD τ).loc main_arg0)) (m ((c.tc : Thread nD τ).loc main_arg1)) := rfl

end Cert.QkvRefIdeal.Stage
-- ==== Proof.HeadNorm.lean ====
module
public import Idealize.ShloMosaic.Lib.Pipeline.ValueKit

/-!
# The norm of a head

A head's 64 entries are normed, then scaled and shifted, the bonus is added, and the sum is gated.
-/

@[expose] public section
noncomputable section
open Idealize.ShloMosaic

namespace Cert.HeadNorm

/-- The mean of a head. -/
def mean (t : Fin 64 → EReal) : EReal := Ideal.div (∑ e, t e) (Ideal.ofBits FTy.f32 0x42800000#32)

/-- A head's entry less the head's mean. -/
def centred (t : Fin 64 → EReal) (e : Fin 64) : EReal := t e - mean t

/-- Entry `e` of a normed head, under gain `g`, offset `b`, bonus `u` and gate `z`. -/
def gated (t : Fin 64 → EReal) (g b u z : EReal) (e : Fin 64) : EReal :=
  (centred t e * Ideal.rsqrt (mean (fun k => centred t k * centred t k) + Ideal.ofBits FTy.f32 0x3A27C5AC#32) * g + b + u) * z

/-- A sum by 64 is the sum times a sixty-fourth. -/
theorem by_64 (x : EReal) : x * Ideal.ofBits FTy.f32 0x3C800000#32 = Ideal.div x (Ideal.ofBits FTy.f32 0x42800000#32) := by
  have h : Ideal.ofBits FTy.f32 0x42800000#32 = ((64 : ℝ) : EReal) := by
    simp [Ideal.ofBits, Ideal.ieee, -EReal.coe_mul]
    norm_num
  have k : Ideal.ofBits FTy.f32 0x3C800000#32 = ((1 / 64 : ℝ) : EReal) := by
    simp [Ideal.ofBits, Ideal.ieee, -EReal.coe_mul]
    norm_num
  rw [h, k, Ideal.div_coe (by norm_num)]

/-- Four sums met by two rotations are the sums over the four residues. -/
theorem four (a : Fin 128 → EReal) (l : Fin 128) :
    a l + a ⟨(l.val + 96) % 128, by omega⟩ + (a ⟨(l.val + 64) % 128, by omega⟩ + a ⟨((l.val + 64) % 128 + 96) % 128, by omega⟩) =
      ∑ q : Fin 4, a ⟨q.val * 32 + l.val % 32, by omega⟩ := by
  have at_ : ∀ (q : Fin 4) (n : ℕ) (hn : n < 128), n = q.val * 32 + l.val % 32 → a ⟨n, hn⟩ = a ⟨q.val * 32 + l.val % 32, by omega⟩ :=
    fun q n hn h => congrArg a (Fin.ext h)
  rw [Fin.sum_univ_four]
  obtain h | h | h | h : l.val / 32 = 0 ∨ l.val / 32 = 1 ∨ l.val / 32 = 2 ∨ l.val / 32 = 3 := by omega
  · rw [show a l = _ from at_ 0 l.val l.isLt (by show _ = 0 * 32 + _; omega), at_ 3 ((l.val + 96) % 128) _ (by show _ = 3 * 32 + _; omega),
      at_ 2 ((l.val + 64) % 128) _ (by show _ = 2 * 32 + _; omega), at_ 1 (((l.val + 64) % 128 + 96) % 128) _ (by show _ = 1 * 32 + _; omega)]
    abel
  · rw [show a l = _ from at_ 1 l.val l.isLt (by show _ = 1 * 32 + _; omega), at_ 0 ((l.val + 96) % 128) _ (by show _ = 0 * 32 + _; omega),
      at_ 3 ((l.val + 64) % 128) _ (by show _ = 3 * 32 + _; omega), at_ 2 (((l.val + 64) % 128 + 96) % 128) _ (by show _ = 2 * 32 + _; omega)]
    abel
  · rw [show a l = _ from at_ 2 l.val l.isLt (by show _ = 2 * 32 + _; omega), at_ 1 ((l.val + 96) % 128) _ (by show _ = 1 * 32 + _; omega),
      at_ 0 ((l.val + 64) % 128) _ (by show _ = 0 * 32 + _; omega), at_ 3 (((l.val + 64) % 128 + 96) % 128) _ (by show _ = 3 * 32 + _; omega)]
    abel
  · rw [show a l = _ from at_ 3 l.val l.isLt (by show _ = 3 * 32 + _; omega), at_ 2 ((l.val + 96) % 128) _ (by show _ = 2 * 32 + _; omega),
      at_ 1 ((l.val + 64) % 128) _ (by show _ = 1 * 32 + _; omega), at_ 0 (((l.val + 64) % 128 + 96) % 128) _ (by show _ = 0 * 32 + _; omega)]
    abel

/-- Sixteen chunks of four residues are a head's 64 entries. -/
theorem sixty_four (x : Fin 2048 → EReal) (h : Fin 32) :
    ∑ q : Fin 4, ∑ c : Fin 16, x ⟨c.val * 128 + (q.val * 32 + h.val), by omega⟩ = ∑ e : Fin 64, x ⟨e.val * 32 + h.val, by omega⟩ := by
  rw [Finset.sum_comm, ← Fintype.sum_prod_type']
  refine Fintype.sum_equiv (finProdFinEquiv (m := 16) (n := 4)) _ _ fun p => ?_
  refine congrArg x (Fin.ext ?_)
  show p.1.val * 128 + (p.2.val * 32 + h.val) = (p.2.val + 4 * p.1.val) * 32 + h.val
  omega

/-- The place of a head-minor column: its head's entry. -/
def turn : Fin 2048 ≃ Fin 2048 where
  toFun k := ⟨k.val % 32 * 64 + k.val / 32, by omega⟩
  invFun k := ⟨k.val % 64 * 32 + k.val / 64, by omega⟩
  left_inv k := Fin.ext (by dsimp only; omega)
  right_inv k := Fin.ext (by dsimp only; omega)

end Cert.HeadNorm
-- ==== Proof.ProjATile.lean ====
module
public import proofs.«01_k».proof.Proof.HeadNorm
public import proofs.«01_k».proof.Proof.Gen.ProjAIdeal.Value

/-!
# The tiles of the recurrence's output projection

A grid point norms the heads of 256 rows. A row's columns are head-minor: the place in the head, then the head.
-/

@[expose] public section
set_option maxRecDepth 16384
noncomputable section
open Idealize.ShloMosaic Idealize.ShloMosaic.TcCoe Idealize.SL.Sem Idealize.ShloMosaic.StableHlo

namespace Cert.ProjAIdeal.Tile
open Cert.ProjAIdeal Cert.ProjAIdeal.Gen

/-- The sum of a row's sixteen chunks. -/
def chunks (x : FVec Ideal S256x2048 .f32) : FVec Ideal S256x128 .f32 :=
  (addf (addf (addf (addf (addf (addf (addf (addf (addf (addf (addf (addf (addf (addf (addf (extractStridedSlice S256x128 ![0, 0] x slices_S256x2048_o0_0_S256x128)
    (extractStridedSlice S256x128 ![0, 128] x slices_S256x2048_o0_128_S256x128))
    (extractStridedSlice S256x128 ![0, 256] x slices_S256x2048_o0_256_S256x128))
    (extractStridedSlice S256x128 ![0, 384] x slices_S256x2048_o0_384_S256x128))
    (extractStridedSlice S256x128 ![0, 512] x slices_S256x2048_o0_512_S256x128))
    (extractStridedSlice S256x128 ![0, 640] x slices_S256x2048_o0_640_S256x128))
    (extractStridedSlice S256x128 ![0, 768] x slices_S256x2048_o0_768_S256x128))
    (extractStridedSlice S256x128 ![0, 896] x slices_S256x2048_o0_896_S256x128))
    (extractStridedSlice S256x128 ![0, 1024] x slices_S256x2048_o0_1024_S256x128))
    (extractStridedSlice S256x128 ![0, 1152] x slices_S256x2048_o0_1152_S256x128))
    (extractStridedSlice S256x128 ![0, 1280] x slices_S256x2048_o0_1280_S256x128))
    (extractStridedSlice S256x128 ![0, 1408] x slices_S256x2048_o0_1408_S256x128))
    (extractStridedSlice S256x128 ![0, 1536] x slices_S256x2048_o0_1536_S256x128))
    (extractStridedSlice S256x128 ![0, 1664] x slices_S256x2048_o0_1664_S256x128))
    (extractStridedSlice S256x128 ![0, 1792] x slices_S256x2048_o0_1792_S256x128))
    (extractStridedSlice S256x128 ![0, 1920] x slices_S256x2048_o0_1920_S256x128))

/-- The chunks' sum at a lane. -/
theorem chunks_at (x) (R : Fin 256) (l : Fin 128) : chunks x (ix2 R l) = ∑ c : Fin 16, x (ix2 R ⟨c.val * 128 + l.val, by omega⟩) := by
  pointwise [chunks]
  simp only [Fin.sum_univ_castSucc, Fin.sum_univ_zero, zero_add]
  repeat' refine congrArg₂ (fun p q : EReal => p + q) ?_ ?_
  all_goals
    refine congrArg (fun k => x (ix2 R k)) (Fin.ext ?_)
    simp only [Fin.val_castSucc, Fin.val_last] <;> omega

/-- A chunk with its two rotations added. -/
def turned (a : FVec Ideal S256x128 .f32) : FVec Ideal S256x128 .f32 :=
  addf (addf a (dynamicRotate 1 32#32 none a rotates_S256x128_d1))
    (dynamicRotate 1 64#32 none (addf a (dynamicRotate 1 32#32 none a rotates_S256x128_d1)) rotates_S256x128_d1)

/-- It holds the sums over the lanes of one head. -/
theorem turned_at (a) (R : Fin 256) (l : Fin 128) :
    turned a (ix2 R l) = ∑ q : Fin 4, a (ix2 R ⟨q.val * 32 + l.val % 32, by omega⟩) := by
  refine Eq.trans ?_ (HeadNorm.four (fun k => a (ix2 R k)) l)
  pointwise [turned]
  have at_ : ∀ n n' (h : n < 128) (h' : n' < 128), n = n' → a (ix2 R ⟨n, h⟩) = a (ix2 R ⟨n', h'⟩) :=
    fun n n' h h' e => congrArg (fun k => a (ix2 R k)) (Fin.ext e)
  rw [at_ ((l.val + 128 - 32) % 128) ((l.val + 96) % 128) _ (by omega) (by omega),
    at_ ((l.val + 128 - 64) % 128) ((l.val + 64) % 128) _ (by omega) (by omega),
    at_ (((l.val + 128 - 64) % 128 + 128 - 32) % 128) (((l.val + 64) % 128 + 96) % 128) _ (by omega) (by omega)]

/-- A chunk, side by side sixteen times. -/
def spread (t : FVec Ideal S256x128 .f32) : FVec Ideal S256x2048 .f32 :=
  concatenate S256x2048 1 [⟨S256x128, t⟩, ⟨S256x128, t⟩, ⟨S256x128, t⟩, ⟨S256x128, t⟩, ⟨S256x128, t⟩, ⟨S256x128, t⟩, ⟨S256x128, t⟩, ⟨S256x128, t⟩, ⟨S256x128, t⟩, ⟨S256x128, t⟩, ⟨S256x128, t⟩, ⟨S256x128, t⟩, ⟨S256x128, t⟩, ⟨S256x128, t⟩, ⟨S256x128, t⟩, ⟨S256x128, t⟩]
    concatenates_S256x128_S256x128_S256x128_S256x128_S256x128_S256x128_S256x128_S256x128_S256x128_S256x128_S256x128_S256x128_S256x128_S256x128_S256x128_S256x128_S256x2048_d1

/-- A spread chunk at a column. -/
theorem spread_at (t) (R : Fin 256) (j : Fin 2048) : spread t (ix2 R j) = t (ix2 R ⟨j.val % 128, by omega⟩) := by
  refine concatenate_replicate_apply (t := S256x2048) (s₁ := S256x128) 1 16 t _ rfl (ix2 R j) (ix2 R ⟨j.val % 128, by omega⟩) rfl fun b hb => ?_
  fin_cases b
  · rfl
  · exact absurd rfl hb

/-- The sums over the heads, at each head's columns. -/
def sums (x : FVec Ideal S256x2048 .f32) : FVec Ideal S256x2048 .f32 := spread (turned (chunks x))

/-- A head's sum. -/
theorem sums_at (x) (R : Fin 256) (j : Fin 2048) :
    sums x (ix2 R j) = ∑ e : Fin 64, x (ix2 R ⟨e.val * 32 + j.val % 32, by omega⟩) := by
  unfold sums
  rw [spread_at, turned_at, ← HeadNorm.sixty_four (fun k => x (ix2 R k)) ⟨j.val % 32, by omega⟩]
  refine Finset.sum_congr rfl fun q _ => ?_
  rw [chunks_at]
  refine Finset.sum_congr rfl fun c _ => congrArg (fun k => x (ix2 R k)) (Fin.ext ?_)
  show c.val * 128 + (q.val * 32 + j.val % 128 % 32) = c.val * 128 + (q.val * 32 + j.val % 32)
  omega

/-- The rows less their heads' means. -/
def centred (x : FVec Ideal S256x2048 .f32) : FVec Ideal S256x2048 .f32 :=
  subf x (mulf (sums x) (broadcast S256x2048 (Scalar.ofBits .f32 0x3C800000#32)))

/-- The first part's payload centres the rows. -/
theorem pay1 (x) : k0_pay1 x = centred x := rfl

/-- The gated rows through the weights. -/
def out (x u z : FVec Ideal S256x2048 .f32) (g b : FVec Ideal S1x2048 .f32) (w : FVec Ideal S2048x2048 .bf16) : FVec Ideal S256x2048 .f32 :=
  matmul dot_S256x2048_S2048x2048_S256x2048_1_0_0_1_n_n none
    (truncf .bf16 (mulf (addf (addf (mulf (mulf (centred x) (rsqrt (addf (mulf (sums (mulf (centred x) (centred x))) (broadcast S256x2048 (Scalar.ofBits .f32 0x3C800000#32)))
      (broadcast S256x2048 (Scalar.ofBits .f32 0x3A27C5AC#32)))))
      (broadcastTo S256x2048 (shapeCast S1x2048 g shapeCasts_S1x2048_S1x2048) broadcasts_S1x2048_S256x2048))
      (broadcastTo S256x2048 (shapeCast S1x2048 b shapeCasts_S1x2048_S1x2048) broadcasts_S1x2048_S256x2048)) u) z) bitsLt_bf16_f32)
    (shapeCast S2048x2048 w shapeCasts_S2048x2048_S2048x2048) (constant S256x2048 .f32 0x00000000#32)

/-- The stored payload is that. -/
theorem pay4 (x u z g b w) : k0_pay4 (k0_pay1 x) (k0_pay2 x) (k0_pay3 x) g b u z w = out x u z g b w := rfl

/-- A column's head in a row. -/
abbrev head (x : FVec Ideal S256x2048 .f32) (R : Fin 256) (j : Fin 2048) : Fin 64 → EReal :=
  fun e => x (ix2 R ⟨e.val * 32 + j.val % 32, by omega⟩)

/-- A centred entry. -/
theorem centred_at (x) (R : Fin 256) (j : Fin 2048) : centred x (ix2 R j) = HeadNorm.centred (head x R j) ⟨j.val / 32, by omega⟩ := by
  pointwise [centred]
  rw [sums_at, HeadNorm.by_64]
  unfold HeadNorm.centred HeadNorm.mean
  refine congrArg₂ (fun p q : EReal => p - q) (congrArg (fun k => x (ix2 R k)) (Fin.ext ?_)) rfl
  show j.val = j.val / 32 * 32 + j.val % 32
  omega

/-- A row's result. -/
theorem out_at (x u z g b w) (R : Fin 256) (j : Fin 2048) :
    out x u z g b w (ix2 R j) = ∑ k : Fin 2048,
      HeadNorm.gated (head x R k) (g (ix2 0 k)) (b (ix2 0 k)) (u (ix2 R k)) (z (ix2 R k)) ⟨k.val / 32, by omega⟩ * w (ix2 k j) := by
  have sq : ∀ k : Fin 2048, sums (mulf (centred x) (centred x)) (ix2 R k)
      = ∑ e : Fin 64, HeadNorm.centred (head x R k) e * HeadNorm.centred (head x R k) e := fun k => by
    rw [sums_at]
    refine Finset.sum_congr rfl fun e _ => ?_
    rw [mulf_apply, centred_at]
    have h1 : head x R ⟨e.val * 32 + k.val % 32, by omega⟩ = head x R k :=
      funext fun e' => congrArg (fun k => x (ix2 R k)) (Fin.ext (by show _ * 32 + (e.val * 32 + k.val % 32) % 32 = _ * 32 + k.val % 32; omega))
    rw [h1, show (⟨(e.val * 32 + k.val % 32) / 32, by omega⟩ : Fin 64) = e from Fin.ext (by dsimp only; omega)]
    rfl
  pointwise [out]
  refine Finset.sum_congr rfl fun k _ => ?_
  rw [sq, centred_at, HeadNorm.by_64]
  rfl

end Cert.ProjAIdeal.Tile
-- ==== Proof.ProjAArray.lean ====
module
public import proofs.«01_k».proof.Proof.ProjATile

/-!
# The recurrence's output projection, all rows
-/

@[expose] public section
set_option maxRecDepth 16384
noncomputable section
open Idealize.ShloMosaic Idealize.ShloMosaic.TcCoe Idealize.SL.Sem Idealize.ShloMosaic.StableHlo

namespace Cert.ProjAIdeal.Array
open Cert.ProjAIdeal Cert.ProjAIdeal.Gen
open Cert.HeadNorm (turn)

/-- A row's entry before the weights: its head normed, with gain, offset, bonus and gate. -/
def gated (Y U Z : FVec Ideal S16384x2048 .f32) (g b : FVec Ideal S2048 .f32) (i : Fin 16384) (k : Fin 2048) : EReal :=
  HeadNorm.gated (fun e => Y (ix2 i ⟨e.val * 32 + k.val / 64, by omega⟩)) (g (ix1 k)) (b (ix1 k)) (U (ix2 i (turn.symm k))) (Z (ix2 i (turn.symm k)))
    ⟨k.val % 64, by omega⟩

/-- Entry `(i, j)` of the result. -/
def entry (Y U Z : FVec Ideal S16384x2048 .f32) (g b : FVec Ideal S2048 .f32) (W : FVec Ideal S2048x2048 .f32) (i : Fin 16384) (j : Fin 2048) : EReal :=
  ∑ k : Fin 2048, gated Y U Z g b i k * W (ix2 k j)

/-- Where the windows stand at a point. -/
theorem idx : ∀ t : Fin cfg0.N,
    win0_0.index t = ![(grid0.coords t 0).val, 0] ∧ win0_1.index t = ![(grid0.coords t 0).val, 0] ∧
    win0_2.index t = ![(grid0.coords t 0).val, 0] ∧ win0_3.index t = ![0, 0] ∧ win0_4.index t = ![0, 0] ∧ win0_5.index t = ![0, 0] ∧
    win0_6.index t = ![(grid0.coords t 0).val, 0] :=
  (by decide +kernel : ∀ t : Fin grid0.N, _)

variable (m : (ℓ : Loc nD τ sig) → Buf (Elt Ideal) ℓ) (c : Dev nD) (t : Fin cfg0.N)

/-- The recurrence's rows. -/
abbrev rows : FVec Ideal S16384x2048 .f32 := m ((c.tc : Thread nD τ).loc main_arg0)
/-- The bonus rows. -/
abbrev bonus : FVec Ideal S16384x2048 .f32 := m ((c.tc : Thread nD τ).loc main_arg1)
/-- The gates. -/
abbrev gates : FVec Ideal S16384x2048 .f32 := m ((c.tc : Thread nD τ).loc main_arg2)
/-- The norm's gains. -/
abbrev gains : FVec Ideal S2048 .f32 := m ((c.tc : Thread nD τ).loc main_arg3)
/-- The norm's offsets. -/
abbrev offsets : FVec Ideal S2048 .f32 := m ((c.tc : Thread nD τ).loc main_arg4)
/-- The weights. -/
abbrev weights : FVec Ideal S2048x2048 .f32 := m ((c.tc : Thread nD τ).loc main_arg5)

/-- A point's tile of rows. -/
abbrev row : Fin 64 := grid0.coords t 0

/-- The coordinate of a point, by its name. -/
theorem coord_vals : (grid0.coords t 0).val = (row t).val ∧ (row t).val < 64 := ⟨rfl, (row t).isLt⟩

/-- The array row of a tile's row. -/
abbrev at_ (a : Fin 64) (R : Fin 256) : Fin 16384 := ⟨a.val * 256 + R.val, by omega⟩

/-- A point's block of the recurrence's rows. -/
theorem read0 (R : Fin 256) (k : Fin 2048) : iblk m c 0 t (ix2 R k) = rows m c (ix2 (at_ (row t) R) k) := by
  blk_point [iblk, V, idx t]
  all_goals
    have := coord_vals t
    omega

/-- A point's block of the bonus rows. -/
theorem read1 (R : Fin 256) (k : Fin 2048) : iblk m c 1 t (ix2 R k) = bonus m c (ix2 (at_ (row t) R) k) := by
  blk_point [iblk, V, idx t]
  all_goals
    have := coord_vals t
    omega

/-- A point's block of the gates. -/
theorem read2 (R : Fin 256) (k : Fin 2048) : iblk m c 2 t (ix2 R k) = gates m c (ix2 (at_ (row t) R) k) := by
  blk_point [iblk, V, idx t]
  all_goals
    have := coord_vals t
    omega

/-- The gains in head-minor order, at every point. -/
theorem read3 (k : Fin 2048) : iblk m c 3 t (ix2 0 k) = gains m c (ix1 (turn k)) := by
  show _ = gains m c (ix1 ⟨k.val % 32 * 64 + k.val / 32, _⟩)
  blk_point [iblk, V, idx t]

/-- The offsets in head-minor order, at every point. -/
theorem read4 (k : Fin 2048) : iblk m c 4 t (ix2 0 k) = offsets m c (ix1 (turn k)) := by
  show _ = offsets m c (ix1 ⟨k.val % 32 * 64 + k.val / 32, _⟩)
  blk_point [iblk, V, idx t]

/-- The weights, their rows in head-minor order, at every point. -/
theorem read5 (k C : Fin 2048) : iblk m c 5 t (ix2 k C) = weights m c (ix2 (turn k) C) := by
  show _ = weights m c (ix2 ⟨k.val % 32 * 64 + k.val / 32, _⟩ C)
  blk_point [iblk, V, idx t]

/-- The stored tile, entry by entry. -/
theorem stored (x u z : Vec Ideal S256x2048 .f32) (g b : Vec Ideal S1x2048 .f32) (w : Vec Ideal S2048x2048 .bf16) (R : Fin 256) (C : Fin 2048) :
    out0_6 x u z g b w (ix2 R C) = Tile.out x u z g b w (ix2 R C) := by
  unfold out0_6
  canon_tiles q h
  rw [show R = q 0 from Fin.ext h0, show C = q 1 from Fin.ext h1]
  obtain ⟨a, d, rfl⟩ : ∃ a d, q = ix2 a d := ⟨q 0, q 1, (ix2_eta q).symm⟩
  refine (congrFun (Tile.pay4 _ _ _ _ _ _) _).trans ?_
  refine (Tile.out_at _ _ _ _ _ _ a d).trans ((Tile.out_at _ _ _ _ _ _ a d).trans ?_).symm
  have h : Tile.head (View.ld x r0_0) a = Tile.head x a := by
    funext k e
    show View.ld x r0_0 (ix2 a _) = x (ix2 a _)
    pointwise []
  rw [h]
  pointwise []

/-- A point's stored tile, from the arguments. -/
theorem point (y : S256x2048.Idx) :
    out0_6 (iblk m c 0 t) (iblk m c 1 t) (iblk m c 2 t) (iblk m c 3 t) (iblk m c 4 t) (iblk m c 5 t) y
      = entry (rows m c) (bonus m c) (gates m c) (gains m c) (offsets m c) (weights m c) (at_ (row t) (y 0)) (y 1) := by
  idx_vars y
  refine (stored _ _ _ _ _ _ y0 y1).trans ((Tile.out_at _ _ _ _ _ _ y0 y1).trans ?_)
  unfold entry gated
  refine Fintype.sum_equiv turn _ _ fun k => ?_
  rw [read1, read2, read3, read4, read5, Equiv.symm_apply_apply]
  have h : Tile.head (iblk m c 0 t) y0 k = fun e : Fin 64 => rows m c (ix2 (at_ (row t) y0) ⟨e.val * 32 + (turn k).val / 64, by omega⟩) :=
    funext fun e => (read0 m c t y0 _).trans (congrArg (fun k => rows m c (ix2 (at_ (row t) y0) k))
      (Fin.ext (by show e.val * 32 + k.val % 32 = e.val * 32 + (k.val % 32 * 64 + k.val / 32) / 64; omega)))
  rw [h, show (⟨k.val / 32, by omega⟩ : Fin 64) = ⟨(turn k).val % 64, by omega⟩ from
    Fin.ext (by show k.val / 32 = (k.val % 32 * 64 + k.val / 32) % 64; omega)]

/-- The entry depends on the places alone. -/
theorem entry_at (Y U Z g b W) (i i' : Fin 16384) (j j' : Fin 2048) (hi : i'.val = i.val) (hj : j'.val = j.val) :
    entry Y U Z g b W i j = entry Y U Z g b W i' j' := by
  rw [Fin.ext hi, Fin.ext hj]

/-- The result array holds the projected rows. -/
theorem final : (dats m 0 c).arrAt 6 cfg0.N =
    fun i : S16384x2048.Idx => entry (rows m c) (bonus m c) (gates m c) (gains m c) (offsets m c) (weights m c) (i 0) (i 1) := by
  refine (dats m 0 c).arrAt_eq_of_covers 6 _ (by decide +kernel) fun t _ y => ?_
  have hi := (idx t).2.2.2.2.2.2
  rw [after0_6, point]
  idx_vars y
  refine entry_at _ _ _ _ _ _ _ _ _ _ ?_ ?_
  · blk_simp [hi]; rfl
  · blk_simp [hi]; rfl

end Cert.ProjAIdeal.Array
-- ==== Proof.ProjARef.lean ====
module
public import proofs.«01_k».proof.Proof.ProjAArray
public import proofs.«01_k».proof.Proof.Gen.ProjARefIdeal.Run

/-!
# The reference's output projection of the recurrence
-/

@[expose] public section
set_option maxRecDepth 16384
noncomputable section
open Idealize.ShloMosaic Idealize.ShloMosaic.TcCoe Idealize.SL.Sem Idealize.ShloMosaic.StableHlo

namespace Cert.ProjARefIdeal.Stage
open Cert.ProjARefIdeal Cert.ProjARefIdeal.Gen
open Cert.HeadNorm (turn)

/-- The rows by head. -/
def heads (y : FVec Ideal S16384x2048 .f32) : FVec Ideal S16384x32x64 .f32 :=
  transpose S16384x32x64 [0, 2, 1] (shapeCast _ y shapeCasts_S16384x2048_S16384x64x32) transposes_S16384x64x32_S16384x32x64_0_2_1

/-- A head's entry. -/
theorem heads_at (y) (i : Fin 16384) (h : Fin 32) (e : Fin 64) : heads y (ix3 i h e) = y (ix2 i ⟨e.val * 32 + h.val, by omega⟩) := by
  pointwise [heads]

/-- The heads, side by side. -/
def flat (t : FVec Ideal S16384x32x64 .f32) : FVec Ideal S16384x2048 .f32 := shapeCast _ t shapeCasts_S16384x32x64_S16384x2048

/-- A column's entry. -/
theorem flat_at (t) (i : Fin 16384) (k : Fin 2048) : flat t (ix2 i k) = t (ix3 i ⟨k.val / 64, by omega⟩ ⟨k.val % 64, by omega⟩) := by
  pointwise [flat]

/-- The heads' means. -/
def means (t : FVec Ideal S16384x32x64 .f32) : FVec Ideal S16384x32x1 .f32 :=
  Host.divf (broadcastInDim S16384x32x1 ![0, 1] bcast_S16384x32_S16384x32x1_0_1 (Host.reduceAdd t (constant S_ .f32 0x00000000#32) reducesTo_S16384x32x64_S16384x32_d2 h_S_))
    (broadcastInDim S16384x32x1 ![] bcast_S_S16384x32x1 (constant S_ .f32 0x42800000#32))

/-- A head's mean. -/
theorem means_at (t) (i : Fin 16384) (h : Fin 32) : means t (ix3 i h 0) = HeadNorm.mean fun e => t (ix3 i h e) := by
  pointwise [means]
  rfl

/-- The heads less their means. -/
def centred (t : FVec Ideal S16384x32x64 .f32) : FVec Ideal S16384x32x64 .f32 :=
  subf t (broadcastInDim S16384x32x64 ![0, 1, 2] bcast_S16384x32x1_S16384x32x64_0_1_2 (means t))

/-- A centred head. -/
theorem centred_at (t) (i : Fin 16384) (h : Fin 32) (e : Fin 64) : centred t (ix3 i h e) = HeadNorm.centred (fun k => t (ix3 i h k)) e := by
  pointwise [centred]
  rw [means_at]
  rfl

/-- The normed heads. -/
def normed (t : FVec Ideal S16384x32x64 .f32) : FVec Ideal S16384x32x64 .f32 :=
  mulf (centred t) (broadcastInDim S16384x32x64 ![0, 1, 2] bcast_S16384x32x1_S16384x32x64_0_1_2
    (Host.rsqrt (addf (means (mulf (centred t) (centred t))) (broadcastInDim S16384x32x1 ![] bcast_S_S16384x32x1 (constant S_ .f32 0x3A27C5AC#32)))))

/-- A normed head. -/
theorem normed_at (t) (i : Fin 16384) (h : Fin 32) (e : Fin 64) :
    normed t (ix3 i h e) = HeadNorm.centred (fun k => t (ix3 i h k)) e *
      Ideal.rsqrt (HeadNorm.mean (fun k => HeadNorm.centred (fun k => t (ix3 i h k)) k * HeadNorm.centred (fun k => t (ix3 i h k)) k) + Ideal.ofBits FTy.f32 0x3A27C5AC#32) := by
  pointwise [normed]
  rw [means_at, centred_at]
  simp only [mulf_apply, centred_at]
  rfl

/-- A row over all the columns. -/
def rowOf (g : FVec Ideal S2048 .f32) : FVec Ideal S16384x2048 .f32 :=
  broadcastInDim S16384x2048 ![0, 1] bcast_S1x2048_S16384x2048_0_1 (broadcastInDim S1x2048 ![1] bcast_S2048_S1x2048_1 g)

/-- The gated rows. -/
def gated (y u z : FVec Ideal S16384x2048 .f32) (g b : FVec Ideal S2048 .f32) : FVec Ideal S16384x2048 .f32 :=
  mulf (addf (addf (mulf (flat (normed (heads y))) (rowOf g)) (rowOf b)) (flat (heads u))) (flat (heads z))

/-- A gated entry. -/
theorem gated_at (y u z g b) (i : Fin 16384) (k : Fin 2048) :
    gated y u z g b (ix2 i k) = Cert.ProjAIdeal.Array.gated y u z g b i k := by
  pointwise [gated, rowOf]
  rw [flat_at, flat_at, flat_at, normed_at, heads_at, heads_at]
  simp only [heads_at]
  rfl

/-- The reference's result. -/
def result (y u z : FVec Ideal S16384x2048 .f32) (g b : FVec Ideal S2048 .f32) (W : FVec Ideal S2048x2048 .f32) : FVec Ideal S16384x2048 .f32 :=
  Host.dotGeneral dot_S16384x2048_S2048x2048_S16384x2048_1_0_0_1_n_n none (gated y u z g b) W

/-- The reference's result, entry by entry. -/
theorem result_at (y u z g b W) (i : Fin 16384) (j : Fin 2048) : result y u z g b W (ix2 i j) = Cert.ProjAIdeal.Array.entry y u z g b W i j := by
  pointwise [result]
  exact Finset.sum_congr rfl fun k _ => congrArg (fun v : EReal => v * W (ix2 k j)) (gated_at y u z g b i k)

/-- The reference's result is the kernel's. -/
theorem result_eq (y u z g b W) : result y u z g b W = fun i : S16384x2048.Idx => Cert.ProjAIdeal.Array.entry y u z g b W (i 0) (i 1) := by
  funext i
  exact (congrArg _ (ix2_eta i).symm).trans (result_at y u z g b W (i 0) (i 1))

end Cert.ProjARefIdeal.Stage
-- ==== Proof.MoeBody.lean ====
module

public import proofs.«01_k».proof.Proof.Gen.Moe.Launch
public import proofs.«01_k».proof.Proof.Gen.Moe.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-! One grid point of the expert layer's kernel, on any staging buffers: what it leaves in the output block when
the point's rows are in use and when they are not. -/

@[expose] public section

set_option maxRecDepth 16384

noncomputable section

namespace Cert.Moe.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Moe.Gen

variable {F : FTy → Type} [FloatOps F]

local notation "𝕄" => MT nD τ sig Unit (Elt F) ℕ (UR sig nD τ) ℕ

/-- The experts' table as the kernel is handed it. -/
abbrev tabE : Memref sig .tc .smem S544 .i32 := Memref.whole main_v11
/-- The count of blocks in use as the kernel is handed it. -/
abbrev tabN : Memref sig .tc .smem S1 .i32 := Memref.whole main_v15
/-- The contents of a table's buffer on a core. -/
abbrev TabBuf (c : Dev nD) {S : Shape} {e : EltTy} (M : Memref sig .tc .smem S e) : Type := Buf (Elt F) (M.view.loc (c : Thread nD τ))
/-- A table's buffer held for reading at the given contents. -/
abbrev tabHeld (c : Dev nD) {S : Shape} {e : EltTy} (M : Memref sig .tc .smem S e) (f : TabBuf (F := F) c M) : sProp 𝕄 :=
  M.view.loc (c : Thread nD τ) ↦{fullShare.right} f

/-- The number of blocks in use, read from its table. -/
abbrev word (n : S1.Idx → BitVec 32) : BitVec 32 := n (Shape.Idx.first (s := S1) (by decide))

/-- The output block of grid point `i`: the experts' result where the block is in use, zeros where it is not. -/
def blockOut (i : grid0.Coords) (n : BitVec 32) (x0 : Vec F S128x2048 .bf16) (x1 : Vec F S128x1 .f32) (x2 x3 : Vec F S1x2048x2048 .bf16) (x4 x5 : Vec F S1x1x2048 .f32) (x6 : Vec F S1x2048x2048 .bf16) (x7 : Vec F S1x1x2048 .f32) : Vec F S128x2048 .f32 :=
  if k0_cond1 i n = 1#1 then k0_pay1 (k0_pay3 x0 x2 x4 x3 x5 x6) x7 x1 else k0_pay2

/-- The second condition is the first one's negation. -/
theorem cond2_iff (i : grid0.Coords) (n : BitVec 32) : k0_cond2 i n = 1#1 ↔ ¬ k0_cond1 i n = 1#1 := by
  unfold k0_cond1 k0_cond2 Scalar.cmpi Scalar.extui IntOp.cmpi
  dsimp only
  rw [BitVec.sle_eq_not_slt]
  generalize BitVec.slt _ n = b
  revert b; decide

set_option maxHeartbeats 1000000 in
/-- From the inputs' blocks and the two tables, the body leaves the inputs as they were and `blockOut` in the output's
    staging buffer. -/
theorem body_run (c : Dev nD) (i : grid0.Coords) (a3 : Memref sig .tc .vmem S128x2048 .bf16) (w3 : a3.IsWhole) (a4 : Memref sig .tc .vmem S128x1 .f32) (w4 : a4.IsWhole) (a5 : Memref sig .tc .vmem S1x2048x2048 .bf16) (w5 : a5.IsWhole) (a6 : Memref sig .tc .vmem S1x2048x2048 .bf16) (w6 : a6.IsWhole) (a7 : Memref sig .tc .vmem S1x1x2048 .f32) (w7 : a7.IsWhole) (a8 : Memref sig .tc .vmem S1x1x2048 .f32) (w8 : a8.IsWhole) (a9 : Memref sig .tc .vmem S1x2048x2048 .bf16) (w9 : a9.IsWhole) (a10 : Memref sig .tc .vmem S1x1x2048 .f32) (w10 : a10.IsWhole) (a11 : Memref sig .tc .vmem S128x2048 .f32) (w11 : a11.IsWhole)
    (x0 : Vec F S128x2048 .bf16) (x1 : Vec F S128x1 .f32) (x2 x3 : Vec F S1x2048x2048 .bf16) (x4 x5 : Vec F S1x1x2048 .f32) (x6 : Vec F S1x2048x2048 .bf16) (x7 : Vec F S1x1x2048 .f32) (tE : TabBuf (F := F) c tabE) (tN : TabBuf (F := F) c tabN)
    (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ (∃ d, owns (c : Thread nD τ) a11 fullShare d) ∗ tabHeld c tabE tE ∗ tabHeld c tabN tN
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare (blockOut i (word tN) x0 x1 x2 x3 x4 x5 x6 x7) ∗ tabHeld c tabE tE ∗ tabHeld c tabN tN) -∗ K ⟨⟩))
      ⊢ wp frame (wpE (defs₀ (F := F)) Variants.none c none) E (cc0_moe_experts i tabE (Memref.isWhole_whole _) tabN (Memref.isWhole_whole _) a3 w3 a4 w4 a5 w5 a6 w6 a7 w7 a8 w8 a9 w9 a10 w10 a11 w11) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HE, HN, Hk⟩
  obtain rfl := w3.eq_unread hf0; obtain rfl := w4.eq_unread hf1; obtain rfl := w5.eq_unread hf2; obtain rfl := w6.eq_unread hf3; obtain rfl := w7.eq_unread hf4; obtain rfl := w8.eq_unread hf5; obtain rfl := w9.eq_unread hf6; obtain rfl := w10.eq_unread hf7
  sl_exec
  sl_step
  iapply Hk
  isplitl [H0]
  · iexists _; isplitr; · ipureintro; exact w3.read_unread _
    iexact H0
  isplitl [H1]
  · iexists _; isplitr; · ipureintro; exact w4.read_unread _
    iexact H1
  isplitl [H2]
  · iexists _; isplitr; · ipureintro; exact w5.read_unread _
    iexact H2
  isplitl [H3]
  · iexists _; isplitr; · ipureintro; exact w6.read_unread _
    iexact H3
  isplitl [H4]
  · iexists _; isplitr; · ipureintro; exact w7.read_unread _
    iexact H4
  isplitl [H5]
  · iexists _; isplitr; · ipureintro; exact w8.read_unread _
    iexact H5
  isplitl [H6]
  · iexists _; isplitr; · ipureintro; exact w9.read_unread _
    iexact H6
  isplitl [H7]
  · iexists _; isplitr; · ipureintro; exact w10.read_unread _
    iexact H7
  isplitl [H8]
  · iexists _; isplitr
    swap; · iexact H8
    ipureintro
    have hw : body_run.sl.r c tN = word tN := by
      unfold body_run.sl.r
      refine congrArg tN (funext fun a => ?_)
      fin_cases a; exact Fin.ext (by decide)
    rw [hw]
    unfold blockOut
    by_cases h : k0_cond1 i (word tN) = 1#1
    · rw [dif_neg (by rw [cond2_iff]; exact not_not.mpr h), dif_pos h, if_pos h, View.read_writes_full]
      unfold body_run.sl.r_1
      iterate 8 rw [View.readAt_full]
      simp only [Memref.IsWhole.read_unread]
    · rw [dif_pos ((cond2_iff i _).mpr h), if_neg h, View.read_writes_full]
  isplitl [HE]; · iexact HE
  iexact HN

end Cert.Moe.Run

end
-- ==== Proof.MoeRun.lean ====
module

public import proofs.«01_k».proof.Proof.MoeBody
public import Idealize.ShloMosaic.Lib.Claim

/-! The expert layer's kernel as a whole: for tables that keep every window inside its array it runs to the end, changes
no argument, and leaves in the result what each grid point stores. -/

@[expose] public section

set_option maxRecDepth 16384

noncomputable section

namespace Cert.Moe.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Moe.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the kernel -/

/-- The host operations before the kernel, in their three stretches. -/
abbrev hostOps : List (List (HloOp τ sig (Elt F))) := [hostOps0, hostOps0_1, hostOps0_2]

/-- A buffer's contents when the kernel starts. -/
abbrev V (c : Dev nD) (b : Ref sig .tc) : Buf (Elt F) ((c : Thread nD τ).loc b) :=
  StableHlo.after (List.flatten hostOps) (fun b => m (c, b)) b

/-- No host operation draws fresh contents. -/
theorem host_fresh : (hostOps (F := F)).Forall fun l => l.Forall fun op => op.fresh = ∅ := by
  simp only [List.Forall]
  repeat' constructor

set_option maxHeartbeats 800000 in
/-- The program is its host operations, then the kernel. -/
theorem launch_main : Pipeline.HMainP (Ix := Unit) (Name := ℕ) (U := UR sig nD τ) (Lvl := ℕ) pcfgs 0 defs₀ Variants.none m (main (F := F)) (V m) :=
  Pipeline.hmainP_prefixes pcfgs 0 defs₀ Variants.none m main hostOps (by simp only [List.Forall]; exact ⟨hostOps0_sub, hostOps0_1_sub, hostOps0_2_sub⟩)
    host_fresh main_chain

/-- The program's arguments. -/
abbrev args : List (Ref sig .tc) := [main_arg0, main_arg1, main_arg2, main_arg3, main_arg4, main_arg5, main_arg6]

set_option maxHeartbeats 1600000 in
/-- No host operation writes an argument. -/
theorem V_arg (c : Dev nD) (b : Ref sig .tc) (hb : b ∈ args) : V m c b = m ((c : Thread nD τ).loc b) :=
  StableHlo.after_of_forall_not_mem (b := Proc.devRef .tc b) _ _ (List.forall_iff_forall_mem.mp (by
    have hne : ∀ b' : Ref sig .tc, b' ∉ args → Proc.devRef (τ := τ) .tc b ≠ Proc.devRef .tc b' := fun b' h' =>
      StableHlo.devRef_ne_of_ne fun e => h' (e ▸ hb)
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact hne _ (by decide)))

/-- The two tables' contents when the kernel starts. -/
def tbl : pre0.Contents (Elt F) := fun j => V m (0 : Dev nD) (pre0.ref j)

/-- They are so on every device, there being one. -/
theorem V_pre (c : Dev nD) (j : Fin 2) : V m c (pre0.ref j) = tbl m j := by
  obtain rfl : c = 0 := Subsingleton.elim _ _
  rfl

/-- The tables keep every window inside its array. -/
abbrev Ok : Prop := ok0 (F := F) (tbl m)
/-- The tables, as contents the pipeline admits. -/
abbrev adm (hO : Ok m) : (pcfg0 (F := F)).Adm := ⟨tbl m, hO⟩
/-- The pipeline at the tables' contents. -/
abbrev cfgM (hO : Ok m) : Pipeline.Cfg sig Λ₀ := cfg0 (adm m hO)

/-- The tables the pipeline holds, one by one. -/
theorem tables_eq (c : Dev nD) : (Pipeline.ΦT pre0 (tbl m) c : sProp 𝕄) = iprop(tabHeld c tabE (tbl m 0) ∗ tabHeld c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## What the buffers hold -/

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output's block after a point. -/
def outAt (hO : Ok m) (c : Dev nD) (t : Fin (cfgM m hO).N) : Vec F S128x2048 .f32 :=
  blockOut (grid0.coords t) (word (tbl m 1)) (iblk m hO c 0 t) (iblk m hO c 1 t) (iblk m hO c 2 t) (iblk m hO c 3 t) (iblk m hO c 4 t) (iblk m hO c 5 t) (iblk m hO c 6 t) (iblk m hO c 7 t)

/-- What the pipeline's buffers hold: an input's its block, the output's `outAt`; the tables are held throughout. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => outAt m hO c t
  Φ _ := iprop(Pipeline.ΦA spec0 c ∗ Pipeline.ΦT pre0 (tbl m) c)
  q _ := fullShare
  owed _ := 0

/-- An array starts as the host operations left it. -/
theorem A_eq (hO : Ok m) (c : Dev nD) (w : Fin (cfgM m hO).W) : (dats m hO 0 c).A w = V m c (Pipeline.arrRef spec0 w) := by
  dsimp only [dats]

/-- The output's buffer after a point. -/
theorem after_out (hO : Ok m) (c : Dev nD) (t : Fin (cfgM m hO).N) : (dats m hO 0 c).after 8 t = outAt m hO c t := by
  dsimp only [dats]; try rfl

/-- An input's buffer before a point holds its block, if its buffer after every point does. -/
theorem before_block (hO : Ok m) (c : Dev nD) (w : Fin (cfgM m hO).W) (hin : ((cfgM m hO).win w).isOut = false)
    (hlive : ∀ i, (cfgM m hO).idle w i = false)
    (hclip : ∀ t t' : Fin (cfgM m hO).N, ((cfgM m hO).win w).clip ((cfgM m hO).grid.coords t) = ((cfgM m hO).win w).clip ((cfgM m hO).grid.coords t'))
    (hkeep : ∀ t, ((cfgM m hO).win w).cut ((cfgM m hO).grid.coords t) ((dats m hO 0 c).after w t) = iblk m hO c w t)
    (t : Fin (cfgM m hO).N) (d) : (dats m hO 0 c).before w t d = ((cfgM m hO).win w).fill ((cfgM m hO).grid.coords t) d (iblk m hO c w t) :=
  ((dats m hO 0 c).before_in_eq_fetched w hin hlive (fun t t' _ => hclip t t') (fun t => by rw [hkeep]; unfold Dat.blockOf iblk; rw [A_eq]) t d).trans
    (by unfold Dat.fetched Dat.blockOf iblk; rw [A_eq])

set_option maxHeartbeats 4000000 in
/-- Each input's buffer before a point holds its block. -/
theorem before_in (hO : Ok m) (c : Dev nD) (t : Fin (cfgM m hO).N) :
    (∀ d, (dats m hO 0 c).before 0 t d = iblk m hO c 0 t) ∧ (∀ d, (dats m hO 0 c).before 1 t d = iblk m hO c 1 t)
    ∧ (∀ d, (dats m hO 0 c).before 2 t d = iblk m hO c 2 t) ∧ (∀ d, (dats m hO 0 c).before 3 t d = iblk m hO c 3 t)
    ∧ (∀ d, (dats m hO 0 c).before 4 t d = iblk m hO c 4 t) ∧ (∀ d, (dats m hO 0 c).before 5 t d = iblk m hO c 5 t)
    ∧ (∀ d, (dats m hO 0 c).before 6 t d = iblk m hO c 6 t) ∧ (∀ d, (dats m hO 0 c).before 7 t d = iblk m hO c 7 t) :=
  ⟨before_block m hO c 0 rfl (fun _ => rfl) (fun _ _ => rfl) (fun _ => rfl) t, before_block m hO c 1 rfl (fun _ => rfl) (fun _ _ => rfl) (fun _ => rfl) t,
    before_block m hO c 2 rfl (fun _ => rfl) (fun _ _ => rfl) (fun _ => rfl) t, before_block m hO c 3 rfl (fun _ => rfl) (fun _ _ => rfl) (fun _ => rfl) t,
    before_block m hO c 4 rfl (fun _ => rfl) (fun _ _ => rfl) (fun _ => rfl) t, before_block m hO c 5 rfl (fun _ => rfl) (fun _ _ => rfl) (fun _ => rfl) t,
    before_block m hO c 6 rfl (fun _ => rfl) (fun _ _ => rfl) (fun _ => rfl) t, before_block m hO c 7 rfl (fun _ => rfl) (fun _ _ => rfl) (fun _ => rfl) t⟩

/-- One of the body's two branches stores. -/
theorem live_word (i : grid0.Coords) (n : BitVec 32) : (!(k0_cond1 i n == 1#1) && !(k0_cond2 i n == 1#1)) = false := by
  have h := cond2_iff i n
  by_cases h1 : k0_cond1 i n = 1#1
  · rw [h1]; rfl
  · rw [h.mpr h1]; simp

/-- The output's buffer is stored at every point. -/
theorem live_out (hO : Ok m) (i : grid0.Coords) : (cfgM m hO).idle 8 i = false := by
  have e : (cfgM m hO).idle = idle0 (tbl m) := rfl
  rw [e]
  exact live_word i _

/-! ## A point -/

/-- A window's current buffer at a point. -/
abbrev buf (hO : Ok m) (t : Fin (cfgM m hO).N) (w : Fin (cfgM m hO).W) := ((cfgM m hO).win w).stage ((cfgM m hO).slots t w)

/-- What the body is handed at a point. -/
def given (hO : Ok m) (c : Dev nD) (t : Fin (cfgM m hO).N) : sProp 𝕄 :=
  iprop((dats m hO 0 c).Φ t.castSucc ∗ (dats m hO 0 c).owesAt () t.castSucc
    ∗ (∃ d, owns (c : Thread nD τ) (buf m hO t 0) fullShare ((dats m hO 0 c).before 0 t d))
    ∗ (∃ d, owns (c : Thread nD τ) (buf m hO t 1) fullShare ((dats m hO 0 c).before 1 t d))
    ∗ (∃ d, owns (c : Thread nD τ) (buf m hO t 2) fullShare ((dats m hO 0 c).before 2 t d))
    ∗ (∃ d, owns (c : Thread nD τ) (buf m hO t 3) fullShare ((dats m hO 0 c).before 3 t d))
    ∗ (∃ d, owns (c : Thread nD τ) (buf m hO t 4) fullShare ((dats m hO 0 c).before 4 t d))
    ∗ (∃ d, owns (c : Thread nD τ) (buf m hO t 5) fullShare ((dats m hO 0 c).before 5 t d))
    ∗ (∃ d, owns (c : Thread nD τ) (buf m hO t 6) fullShare ((dats m hO 0 c).before 6 t d))
    ∗ (∃ d, owns (c : Thread nD τ) (buf m hO t 7) fullShare ((dats m hO 0 c).before 7 t d))
    ∗ (∃ d, owns (c : Thread nD τ) (buf m hO t 8) fullShare ((dats m hO 0 c).before 8 t d)))

/-- What it hands back. -/
def left (hO : Ok m) (c : Dev nD) (t : Fin (cfgM m hO).N) : sProp 𝕄 :=
  iprop((dats m hO 0 c).Φ t.succ ∗ (dats m hO 0 c).owesAt () t.succ
    ∗ owns (c : Thread nD τ) (buf m hO t 0) fullShare (iblk m hO c 0 t)
    ∗ owns (c : Thread nD τ) (buf m hO t 1) fullShare (iblk m hO c 1 t)
    ∗ owns (c : Thread nD τ) (buf m hO t 2) fullShare (iblk m hO c 2 t)
    ∗ owns (c : Thread nD τ) (buf m hO t 3) fullShare (iblk m hO c 3 t)
    ∗ owns (c : Thread nD τ) (buf m hO t 4) fullShare (iblk m hO c 4 t)
    ∗ owns (c : Thread nD τ) (buf m hO t 5) fullShare (iblk m hO c 5 t)
    ∗ owns (c : Thread nD τ) (buf m hO t 6) fullShare (iblk m hO c 6 t)
    ∗ owns (c : Thread nD τ) (buf m hO t 7) fullShare (iblk m hO c 7 t)
    ∗ owns (c : Thread nD τ) (buf m hO t 8) fullShare (outAt m hO c t))

/-- The body as the pipeline calls it at a point. -/
abbrev bodyAt (hO : Ok m) (t : Fin (cfgM m hO).N) : Prog (TpuEff nD τ sig (Elt F) Λ₀ .tc) PUnit :=
  defs₀ (F := F) .tc (cfgM m hO).body ((cfgM m hO).bodyArgs t ((cfgM m hO).slots t))

set_option maxHeartbeats 800000 in
/-- The body at any point. -/
theorem body_at (hO : Ok m) (c : Dev nD) (t : Fin (cfgM m hO).N) :
    given m hO c t ⊢ wp frame (wpE (defs₀ (F := F)) Variants.none c none) Set.univ (bodyAt m hO t) (fun _ => left m hO c t) := by
  obtain ⟨e0, e1, e2, e3, e4, e5, e6, e7⟩ := before_in m hO c t
  unfold given left bodyAt defs₀
  rw [Defs.onTc_tc]
  simp only [e0, e1, e2, e3, e4, e5, e6, e7]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, tables_eq]
  unfold outAt
  iintro ⟨⟨HΦ, ⟨HE, HN⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HE]; · iexact HE
  isplitl [HN]; · iexact HN
  iintro ⟨H0, H1, H2, H3, H4, H5, H6, H7, H8, HE, HN⟩
  isplitl [HΦ HE HN]
  · isplitl [HΦ]
    · iexact HΦ
    isplitl [HE]; · iexact HE
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
/-- Every point meets what the pipeline asks of the body. -/
theorem obligation (hO : Ok m) (c : Dev nD) : BodyObligation (dats (F := F) m hO 0 c) (defs₀ (F := F)) Variants.none () Set.univ := fun t => by
  rw [bigSep_W0, bigSep_W0]
  refine triple_restated (body_at m hO c t) rfl .rfl fun _ => ?_
  rw [live_out m hO, after_out]
  exact .rfl

/-! ## The whole run -/

set_option backward.isDefEq.respectTransparency.types false in
/-- The program runs to the end with every semaphore at zero, each array of the pipeline as the points' stores leave it
    and every other buffer as the host operations left it. -/
theorem run (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := launch_main m) (hA := A_eq m hO) (hpf := V_pre m)
    (hΦ := fun _ _ => rfl)

/-- The result and the arguments after the run. -/
theorem run_result (hO : Ok m) : θ_run defs (onTc (τ := τ) (main (F := F))) ⟨m, fun _ => 0, ρ⟩ (fun r => (∀ c : Dev nD,
      r.2.mem ((c.tc : Thread nD τ).loc main_v28) = (dats m hO 0 c).arrAt 8 (cfgM m hO).N
      ∧ ∀ b ∈ args, r.2.mem ((c.tc : Thread nD τ).loc b) = m ((c.tc : Thread nD τ).loc b))
      ∧ r.2.sem = fun _ => 0) :=
  (θ_run defs _ _).mono (fun r h => ⟨fun c => ⟨(h.1 c).1 8, fun b hb =>
    ((h.1 c).2 b ((by decide : ∀ b ∈ args, b ∈ Pipeline.restRefs sig spec0) b hb)).trans (V_arg m c b hb)⟩, h.2⟩) (run m ρ hO)

end Cert.Moe.Run

end
-- ==== Proof.MoeHost.lean ====
module

public import proofs.«01_k».proof.Proof.MoeRun
public import Idealize.ShloMosaic.Lib.StableHlo.Run
public import Idealize.ShloMosaic.PureOps.Reduce

/-! What the host operations before the expert kernel compute: the two tables, and that the tables keep every window inside
its array. -/

@[expose] public section

set_option maxRecDepth 16384

noncomputable section

namespace Cert.Moe.Run

open Idealize.ShloMosaic Idealize.ShloMosaic.TcCoe Idealize.ShloMosaic.StableHlo
open Idealize.SL Idealize.SL.Sem
open Cert.Moe.Gen

variable {F : FTy → Type} [FloatOps F]
variable (m : (ℓ : Loc nD τ sig) → Buf (Elt F) ℓ)

/-- The expert of each block of 128 rows: how many experts' rows end at or before the block's first row, and at most 31. -/
def blkExp (p : Vec F S32 .i32) : Vec F S544 .i32 :=
  minsi (Host.reduce IntOp.addi (extui 32 (cmpi .sle
      (broadcastInDim S544x32 ![0, 1] bcast_S1x32_S544x32_0_1 (broadcastInDim S1x32 ![1] bcast_S32_S1x32_1 p : Vec F S1x32 .i32) : Vec F S544x32 .i32)
      (broadcastInDim S544x32 ![0, 1] bcast_S544x1_S544x32_0_1 (broadcastInDim S544x1 ![0] bcast_S544_S544x1_0
        (muli (iotaInDim S544 32 0) (broadcastInDim S544 ![] bcast_S_S544 (constantI S_ 32 128#32 : Vec F S_ .i32) : Vec F S544 .i32) : Vec F S544 .i32) : Vec F S544x1 .i32) : Vec F S544x32 .i32)) natLt_1_32)
      (constantI S_ 32 0#32) reducesTo_S544x32_S544_d1 h_S_ : Vec F S544 .i32)
    (broadcastInDim S544 ![] bcast_S_S544 (constantI S_ 32 31#32 : Vec F S_ .i32) : Vec F S544 .i32)

/-- The last expert's end, alone. -/
def lastEnd (p : Vec F S32 .i32) : Vec F S_ .i32 := shapeCast S_ (extractStridedSlice S1 ![31] p slices_S32_S1_31 : Vec F S1 .i32) shapeCasts_S1_S_

/-- The number of blocks in use: the last expert's end divided by 128, rounded down. -/
def nUsed (p : Vec F S32 .i32) : Vec F S_ .i32 :=
  select (andi (cmpi .ne (signi (lastEnd p)) (signi (id (constantI S_ 32 128#32 : Vec F S_ .i32))))
      (cmpi .ne (Host.remsi (lastEnd p) (id (constantI S_ 32 128#32 : Vec F S_ .i32))) (constantI S_ 32 0#32)))
    (subi (Host.divsi (lastEnd p) (id (constantI S_ 32 128#32 : Vec F S_ .i32))) (constantI S_ 32 1#32))
    (Host.divsi (lastEnd p) (id (constantI S_ 32 128#32 : Vec F S_ .i32)))

set_option maxHeartbeats 4000000 in
/-- The first table is the blocks' experts. -/
theorem V_exp (c : Dev nD) : V m c main_v11 = blkExp (m ((c : Thread nD τ).loc main_arg0)) := by
  simp only [V, hostOps, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

set_option maxHeartbeats 4000000 in
/-- The second is the number of blocks in use. -/
theorem V_used (c : Dev nD) : V m c main_v15 = shapeCast S1 (nUsed (m ((c : Thread nD τ).loc main_arg0))) shapeCasts_S_S1 := by
  simp only [V, hostOps, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

/-! ## The experts are experts -/

/-- A running sum of words that are each 0 or 1 grows by at most one a step. -/
theorem foldl_le {ι : Type} (f : ι → BitVec 32) (hf : ∀ i, (f i).toNat ≤ 1) (l : List ι) (a : BitVec 32) :
    (l.foldl (fun r i => IntOp.addi r (f i)) a).toNat ≤ a.toNat + l.length := by
  induction l generalizing a with
  | nil => simp
  | cons i l ih =>
    have h := ih (IntOp.addi a (f i))
    have h1 : (IntOp.addi a (f i)).toNat ≤ a.toNat + (f i).toNat := by
      unfold IntOp.addi; rw [BitVec.toNat_add]; exact Nat.mod_le _ _
    have := hf i
    rw [List.foldl_cons, List.length_cons]
    omega

/-- The smaller of a small word and 31 is below 32. -/
theorem min_lt (a : BitVec 32) (h : a.toNat < 100000) : (IntOp.minsi a 31#32).toNat < 32 := by
  unfold IntOp.minsi
  split
  · rename_i hs
    rw [BitVec.slt_iff_toInt_lt, BitVec.toInt_eq_toNat_of_lt (by omega)] at hs
    have : (31#32 : BitVec 32).toInt = 31 := by decide
    omega
  · decide

/-- A flag widened is at most 1. -/
theorem ext_le (b : BitVec 1) : (b.setWidth 32).toNat ≤ 1 := by
  have := b.isLt
  rw [BitVec.toNat_setWidth, Nat.mod_eq_of_lt] <;> omega

/-- How many of the flags of a block are set, which is below the bound of a word's sign. -/
theorem count_lt (x : S544x32.Idx → BitVec 1) (init : S_.Idx → BitVec 32) (hi : ∀ i, init i = 0#32) (j : S544.Idx) :
    (Host.reduce IntOp.addi (fun i => (x i).setWidth 32) init reducesTo_S544x32_S544_d1 h_S_ j : BitVec 32).toNat < 100000 := by
  rw [Host.reduce_eq_foldl, hi]
  refine lt_of_le_of_lt (foldl_le _ (fun i => ext_le _) _ _) ?_
  refine lt_of_le_of_lt (Nat.add_le_add_left (List.length_filter_le _ _) _) ?_
  rw [List.length_map, List.length_finRange]
  decide

/-- A block's expert is one of the 32. -/
theorem blkExp_lt (p : Vec F S32 .i32) (j : S544.Idx) : BitVec.toNat (blkExp p j : BitVec 32) < 32 :=
  have h : ∀ (x y : Vec F S544 .i32), y j = 31#32 → BitVec.toNat (x j : BitVec 32) < 100000 → BitVec.toNat (minsi x y j : BitVec 32) < 32 :=
    fun x y hy hx => by
      show BitVec.toNat (IntOp.minsi (x j) (y j)) < 32
      rw [hy]; exact min_lt _ hx
  h _ _ rfl (count_lt _ _ (fun _ => rfl) j)

/-! ## The windows are inside their arrays -/

/-- The expert the index maps read at a point. -/
def expert (pf : pre0.Contents (Elt F)) (i : grid0.Coords) : BitVec 32 :=
  pf.at 0 (Rect.unit (s := S544) (k0_off1 i) S1.size (k0_off1_inb i)) numel1_S1

/-- The first table as the pipeline reads it. -/
theorem tbl_exp (j : S544.Idx) : (tbl m 0 j : BitVec 32) = blkExp (m (((0 : Dev nD) : Thread nD τ).loc main_arg0)) j :=
  congrFun (V_exp m 0) j

/-- It is one of the 32. -/
theorem expert_lt (i : grid0.Coords) : (expert (tbl m) i).toNat < 32 := by
  have h : ∀ j : S544.Idx, BitVec.toNat (tbl m 0 j : BitVec 32) < 32 := fun j => by
    rw [tbl_exp]; exact blkExp_lt _ _
  exact h _

/-- A window that takes an expert's whole row of blocks lies inside its array. -/
theorem row_inside {b d n : ℕ} (hn : n < 32) {ix : Fin 3 → ℕ} (e : ix = ![n, 0, 0]) :
    ∀ a : Fin 3, (ix a + 1) * (![1, b, d] : Fin 3 → ℕ) a ≤ (![32, b, d] : Fin 3 → ℕ) a := by
  subst e
  intro a
  match a with
  | 0 => show (n + 1) * 1 ≤ 32; omega
  | 1 => show (0 + 1) * b ≤ b; omega
  | 2 => show (0 + 1) * d ≤ d; omega

/-- A weight's window at an expert: inside its array, of whole words. -/
theorem weight_ok {n : ℕ} (hn : n < 32) {ix : Fin 3 → ℕ} (e : ix = ![n, 0, 0]) :
    ∃ h : (∀ a, (ix a + 1) * S1x2048x2048.size a ≤ S32x2048x2048.size a), EltTy.bits .bf16 = 32 ∨ (Rect.block (s := S32x2048x2048) S1x2048x2048.size ix h).WholeWords (EltTy.packing .bf16) :=
  ⟨row_inside hn e, .inr (Affine.block_words_dvd (of_decide_eq_true rfl) (by decide))⟩

/-- A bias's window at an expert. -/
theorem bias_ok {n : ℕ} (hn : n < 32) {ix : Fin 3 → ℕ} (e : ix = ![n, 0, 0]) :
    ∃ h : (∀ a, (ix a + 1) * S1x1x2048.size a ≤ S32x1x2048.size a), EltTy.bits .f32 = 32 ∨ (Rect.block (s := S32x1x2048) S1x1x2048.size ix h).WholeWords (EltTy.packing .f32) :=
  ⟨row_inside hn e, .inl rfl⟩

/-- The tables keep every window inside its array. -/
theorem tables_ok : Ok m :=
  ⟨fun i => weight_ok (expert_lt m i) rfl, fun i => weight_ok (expert_lt m i) rfl, fun i => bias_ok (expert_lt m i) rfl,
    fun i => bias_ok (expert_lt m i) rfl, fun i => weight_ok (expert_lt m i) rfl, fun i => bias_ok (expert_lt m i) rfl⟩

end Cert.Moe.Run

end
-- ==== Proof.MoeSame.lean ====
module

public import proofs.«01_k».proof.Defs
public import proofs.«01_k».proof.Proof.MoeHost
public import proofs.«01_k».proof.Proof.Gen.MoeIdeal.Launch

/-! The expert layer's two programs, the kernel's and the one the value claim is made of, are the same text: a run of the
one is a run of the other. And the run itself, with its seven arguments named. -/

@[expose] public section

set_option maxRecDepth 65536
set_option maxHeartbeats 1000000

noncomputable section

namespace Cert.Moe.Same

open Idealize.ShloMosaic Idealize.ShloMosaic.TcCoe Idealize.SL.Sem
open Cert.Moe Cert.Moe.Run

variable {F : FTy → Type} [FloatOps F]

/-- The kernel's bodies are the same. -/
theorem bodies_eq : @Cert.MoeIdeal.defs₀ F _ _ = @Cert.Moe.defs₀ F _ _ := by
  unfold Cert.MoeIdeal.defs₀ Cert.Moe.defs₀
  refine congrArg Defs.onTc (funext fun l => funext fun x => ?_)
  match l, x with
  | 0, (t, s) => exact rfl
  | ⟨_ + 1, h⟩, _ => exact absurd h (Nat.not_lt.2 (Nat.le_add_left _ _))

/-- The host programs are the same. -/
theorem main_eq : Cert.MoeIdeal.main (F := F) = Cert.Moe.main (F := F) := by
  funext c
  refine (Cert.MoeIdeal.Gen.main_chain c).trans (Eq.trans ?_ (Cert.Moe.Gen.main_chain c).symm)
  rfl

/-- The pipelines around the bodies are the same. -/
theorem defs_eq : Cert.MoeIdeal.defs (F := F) = Cert.Moe.defs (F := F) := by
  unfold Cert.MoeIdeal.defs Cert.Moe.defs
  exact congrArg (Pipeline.defs Cert.Moe.pcfgs) bodies_eq

/-- What every run of the one meets, every run of the other meets. -/
theorem run_eq (m : (ℓ : Loc nD τ sig) → Buf (Elt F) ℓ) (ρ : Dev nD → PrngReg) (Q)
    (h : θ_run (Cert.Moe.defs (F := F)) (onTc (τ := τ) (Cert.Moe.main (F := F))) ⟨m, fun _ => 0, ρ⟩ Q) :
    θ_run (Cert.MoeIdeal.defs (F := F)) (onTc (τ := Cert.MoeIdeal.τ) (Cert.MoeIdeal.main (F := F))) ⟨m, fun _ => 0, ρ⟩ Q := by
  rw [defs_eq, main_eq]
  exact h

/-- What holds of every argument, argument by argument. -/
theorem each_arg {P : Ref sig .tc → Prop} (h : ∀ b ∈ args, P b) :
    P main_arg0 ∧ P main_arg1 ∧ P main_arg2 ∧ P main_arg3 ∧ P main_arg4 ∧ P main_arg5 ∧ P main_arg6 :=
  ⟨h _ (by decide), h _ (by decide), h _ (by decide), h _ (by decide), h _ (by decide), h _ (by decide), h _ (by decide)⟩

end Cert.Moe.Same

end
-- ==== Proof.MoeSpec.lean ====
module

public import proofs.«01_k».proof.Proof.MoeHost
public import Idealize.ShloMosaic.Lib.Pipeline.ValueKit

/-!
# The expert layer, entry by entry

The rows come in blocks of 128, all rows of a block going to the same expert. A row is taken up by its expert's first
weights, whose even columns are the gated half and whose odd columns the linear half; the two halves make the activation;
the second weights take it down; the row's gate scales the result. The rows of a block past the last one in use are zero.
-/

@[expose] public section

noncomputable section

namespace Cert.Moe.Spec

open Idealize.ShloMosaic Idealize.ShloMosaic.TcCoe
open Cert.Moe.Gen Cert.Moe.Run

/-- The gated half: at most 7. -/
def glu (g : Ideal .f32) : Ideal .f32 := FloatOps.minimumf g (Scalar.ofBits .f32 0x40E00000#32)

/-- The linear half: between -7 and 7. -/
def lin (l : Ideal .f32) : Ideal .f32 :=
  FloatOps.minimumf (Scalar.ofBits .f32 0x40E00000#32) (FloatOps.maximumf (Scalar.ofBits .f32 0xC0E00000#32) l)

/-- The activation of a pair of columns: `glu * sigmoid (1.702 * glu) * (lin + 1)`. -/
def act (g l : Ideal .f32) : Ideal .f32 :=
  FloatOps.mulf (FloatOps.mulf (glu g) (FloatOps.logistic (FloatOps.mulf (Scalar.ofBits .f32 0x3FD9DB23#32) (glu g))))
    (FloatOps.addf (lin l) (Scalar.ofBits .f32 0x3F800000#32))

/-- The block a row is in. -/
def blockOf (r : Fin 69632) : Fin 544 := ⟨r.val / 128, by omega⟩

/-- A block's expert. -/
def expertOf (P : Vec Ideal S32 .i32) (b : Fin 544) : Fin 32 := ⟨(blkExp P (ix1 b)).toNat, blkExp_lt P (ix1 b)⟩

/-- A block's expert, as a number. -/
theorem expertOf_val (P : Vec Ideal S32 .i32) (b : Fin 544) : (blkExp P (ix1 b)).toNat = (expertOf P b).val := by
  unfold expertOf; exact (Fin.val_mk _).symm

/-- The one index of a scalar. -/
def only : S_.Idx := fun a => a.elim0

/-- Whether a block is in use. -/
def inUse (P : Vec Ideal S32 .i32) (b : Fin 544) : Prop := IntOp.cmpi .slt (BitVec.ofNat 32 b.val) (nUsed P only) = 1#1

/-- A row in its expert's first weights, at a column. -/
def raised (X : FVec Ideal S69632x2048 .f32) (W1 : FVec Ideal S32x2048x4096 .f32) (B1 : FVec Ideal S32x4096 .f32)
    (e : Fin 32) (r : Fin 69632) (f : Fin 4096) : EReal :=
  (∑ d : Fin 2048, (X (ix2 r d) * W1 (ix3 e d f) : EReal)) + B1 (ix2 e f)

/-- A column of the gated half. -/
abbrev even (k : Fin 2048) : Fin 4096 := ⟨2 * k.val, by omega⟩
/-- A column of the linear half. -/
abbrev odd (k : Fin 2048) : Fin 4096 := ⟨1 + 2 * k.val, by omega⟩

/-- An expert's result for a row at a column, before the gate. -/
def outcome (X : FVec Ideal S69632x2048 .f32) (W1 : FVec Ideal S32x2048x4096 .f32) (B1 : FVec Ideal S32x4096 .f32)
    (W2 : FVec Ideal S32x2048x2048 .f32) (B2 : FVec Ideal S32x2048 .f32) (e : Fin 32) (r : Fin 69632) (j : Fin 2048) : EReal :=
  (∑ k : Fin 2048, (act (raised X W1 B1 e r (even k)) (raised X W1 B1 e r (odd k)) * W2 (ix3 e k j) : EReal)) + B2 (ix2 e j)

open Classical in
/-- The layer's result at a row and column. -/
def entry (P : Vec Ideal S32 .i32) (X : FVec Ideal S69632x2048 .f32) (G : FVec Ideal S69632 .f32)
    (W1 : FVec Ideal S32x2048x4096 .f32) (B1 : FVec Ideal S32x4096 .f32) (W2 : FVec Ideal S32x2048x2048 .f32)
    (B2 : FVec Ideal S32x2048 .f32) (r : Fin 69632) (j : Fin 2048) : EReal :=
  if inUse P (blockOf r) then outcome X W1 B1 W2 B2 (expertOf P (blockOf r)) r j * G (ix1 r) else 0

end Cert.Moe.Spec

end
-- ==== Proof.MoeReads.lean ====
module

public import proofs.«01_k».proof.Proof.MoeSpec
public import Idealize.ShloMosaic.Lib.Pipeline.ValueKit

/-! What the expert kernel's windows hold at a grid point, in terms of the program's arguments. -/

@[expose] public section

set_option maxRecDepth 16384

noncomputable section

namespace Cert.Moe.Run

open Idealize.ShloMosaic Idealize.ShloMosaic.TcCoe Idealize.ShloMosaic.StableHlo
open Idealize.SL Idealize.SL.Sem
open Cert.Moe.Gen Cert.Moe.Spec

variable (m : (ℓ : Loc nD τ sig) → Buf (Elt Ideal) ℓ) (c : Dev nD)

/-- The ends of the experts' rows. -/
abbrev pends : Vec Ideal S32 .i32 := m ((c : Thread nD τ).loc main_arg0)
/-- The rows. -/
abbrev rows : FVec Ideal S69632x2048 .f32 := m ((c : Thread nD τ).loc main_arg1)
/-- The rows' gates. -/
abbrev gates : FVec Ideal S69632 .f32 := m ((c : Thread nD τ).loc main_arg2)
/-- The first weights. -/
abbrev up : FVec Ideal S32x2048x4096 .f32 := m ((c : Thread nD τ).loc main_arg3)
/-- Their biases. -/
abbrev upBias : FVec Ideal S32x4096 .f32 := m ((c : Thread nD τ).loc main_arg4)
/-- The second weights. -/
abbrev down : FVec Ideal S32x2048x2048 .f32 := m ((c : Thread nD τ).loc main_arg5)
/-- Their biases. -/
abbrev downBias : FVec Ideal S32x2048 .f32 := m ((c : Thread nD τ).loc main_arg6)

set_option maxHeartbeats 4000000 in
/-- The rows, when the kernel starts. -/
theorem V_rows : (V m c main_v20 : S69632x2048.Idx → EReal) = rows m c := by
  simp only [V, hostOps, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

set_option maxHeartbeats 4000000 in
/-- The even columns of the first weights. -/
theorem V_even : (V m c main_v17 : S32x2048x2048.Idx → EReal) = Host.slice S32x2048x2048 ![0, 0, 0] ![1, 1, 2] (up m c) slicesBy_S32x2048x4096_S32x2048x2048_0s1_0s1_0s2 := by
  simp only [V, hostOps, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

set_option maxHeartbeats 4000000 in
/-- The odd columns of the first weights. -/
theorem V_odd : (V m c main_v19 : S32x2048x2048.Idx → EReal) = Host.slice S32x2048x2048 ![0, 0, 1] ![1, 1, 2] (up m c) slicesBy_S32x2048x4096_S32x2048x2048_0s1_0s1_1s2 := by
  simp only [V, hostOps, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

set_option maxHeartbeats 4000000 in
/-- The biases of the even columns. -/
theorem V_evenBias : (V m c main_v22 : S32x1x2048.Idx → EReal) = broadcastInDim S32x1x2048 ![0, 2] bcast_S32x2048_S32x1x2048_0_2 (Host.slice S32x2048 ![0, 0] ![1, 2] (upBias m c) slicesBy_S32x4096_S32x2048_0s1_0s2) := by
  simp only [V, hostOps, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

set_option maxHeartbeats 4000000 in
/-- The biases of the odd columns. -/
theorem V_oddBias : (V m c main_v24 : S32x1x2048.Idx → EReal) = broadcastInDim S32x1x2048 ![0, 2] bcast_S32x2048_S32x1x2048_0_2 (Host.slice S32x2048 ![0, 1] ![1, 2] (upBias m c) slicesBy_S32x4096_S32x2048_0s1_1s2) := by
  simp only [V, hostOps, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

set_option maxHeartbeats 4000000 in
/-- The second weights. -/
theorem V_down : (V m c main_v25 : S32x2048x2048.Idx → EReal) = down m c := by
  simp only [V, hostOps, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

set_option maxHeartbeats 4000000 in
/-- The biases of the second weights. -/
theorem V_downBias : (V m c main_v26 : S32x1x2048.Idx → EReal) = broadcastInDim S32x1x2048 ![0, 2] bcast_S32x2048_S32x1x2048_0_2 (downBias m c) := by
  simp only [V, hostOps, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

set_option maxHeartbeats 4000000 in
/-- The gates, in a column. -/
theorem V_gates : (V m c main_v27 : S69632x1.Idx → EReal) = shapeCast S69632x1 (gates m c) shapeCasts_S69632_S69632x1 := by
  simp only [V, hostOps, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

/-- A point's block. -/
abbrev blk (i : grid0.Coords) : Fin 544 := i 0

/-- A grid coordinate as a word. -/
theorem coord_word (i : grid0.Coords) : (BitVec.ofNat 32 (i 0).val).toNat = (blk i).val := by
  have h : (i 0).val < 544 := (blk i).isLt
  rw [BitVec.toNat_ofNat, Nat.mod_eq_of_lt (by omega)]

/-- A block's row. -/
def rowAt (b : Fin 544) (R : Fin 128) : Fin 69632 := ⟨b.val * 128 + R.val, by omega⟩

/-- The second table's word is the number of blocks in use. -/
theorem word_used : word (tbl m 1) = nUsed (pends m 0) only := by
  unfold word tbl
  show (V m 0 main_v15 : S1.Idx → BitVec 32) _ = _
  rw [V_used]
  exact congrArg (nUsed _) (funext fun a => a.elim0)

/-- The index maps look up the first table at the point's block. -/
theorem off_eq (i : grid0.Coords) (h : ∀ a, k0_off1 i a + S1.size a ≤ S544.size a) (j : S1.Idx) :
    (Rect.unit (s := S544) (k0_off1 i) S1.size h).emb j = ix1 (blk i) := by
  funext a
  obtain rfl : a = 0 := Subsingleton.elim _ _
  refine Fin.ext ?_
  rw [Rect.emb_apply]
  have hj : (j 0).val = 0 := by have : (j 0).val < 1 := (j 0).isLt; omega
  show (k0_off1 i) 0 + 1 * (j 0).val = _
  rw [hj, Nat.mul_zero, Nat.add_zero]
  exact coord_word i

/-- What they find is the block's expert. -/
theorem expert_eq (i : grid0.Coords) : (expert (tbl m) i).toNat = (expertOf (pends m 0) (blk i)).val := by
  have h : ∀ j : S544.Idx, j = ix1 (blk i) → BitVec.toNat (tbl m 0 j : BitVec 32) = (expertOf (pends m 0) (blk i)).val := fun j e => by
    rw [tbl_exp, e, expertOf_val]
  exact h _ (off_eq i _ _)

/-- Where the windows of an expert's weights and biases stand, by the first table. -/
theorem placed (pf : pre0.Contents (Elt Ideal)) (h : ok0 pf) (t : Fin (cfg0 ⟨pf, h⟩).N) :
    ((cfg0 ⟨pf, h⟩).win 2).index t = ![(expert pf (grid0.coords t)).toNat, 0, 0] ∧ ((cfg0 ⟨pf, h⟩).win 3).index t = ![(expert pf (grid0.coords t)).toNat, 0, 0] ∧ ((cfg0 ⟨pf, h⟩).win 4).index t = ![(expert pf (grid0.coords t)).toNat, 0, 0] ∧ ((cfg0 ⟨pf, h⟩).win 5).index t = ![(expert pf (grid0.coords t)).toNat, 0, 0] ∧ ((cfg0 ⟨pf, h⟩).win 6).index t = ![(expert pf (grid0.coords t)).toNat, 0, 0] ∧ ((cfg0 ⟨pf, h⟩).win 7).index t = ![(expert pf (grid0.coords t)).toNat, 0, 0] :=
  ⟨rfl, rfl, rfl, rfl, rfl, rfl⟩

variable (hO : Ok m) (t : Fin (cfgM m hO).N)

/-- Where a window of rows stands at a point. -/
theorem idx_rows : ((cfgM m hO).win 0).index t = ![(blk (grid0.coords t)).val, 0] ∧ ((cfgM m hO).win 1).index t = ![(blk (grid0.coords t)).val, 0] ∧ ((cfgM m hO).win 8).index t = ![(blk (grid0.coords t)).val, 0] := by
  have h := coord_word (grid0.coords t)
  refine ⟨?_, ?_, ?_⟩ <;> rw [← h] <;> rfl

/-- They stand at the block's expert. -/
theorem idx_expert : ((cfgM m hO).win 2).index t = ![(expertOf (pends m 0) (blk (grid0.coords t))).val, 0, 0] ∧ ((cfgM m hO).win 3).index t = ![(expertOf (pends m 0) (blk (grid0.coords t))).val, 0, 0] ∧ ((cfgM m hO).win 4).index t = ![(expertOf (pends m 0) (blk (grid0.coords t))).val, 0, 0] ∧ ((cfgM m hO).win 5).index t = ![(expertOf (pends m 0) (blk (grid0.coords t))).val, 0, 0] ∧ ((cfgM m hO).win 6).index t = ![(expertOf (pends m 0) (blk (grid0.coords t))).val, 0, 0] ∧ ((cfgM m hO).win 7).index t = ![(expertOf (pends m 0) (blk (grid0.coords t))).val, 0, 0] := by
  rw [← expert_eq]
  exact placed (tbl m) hO t

/-- A point's rows. -/
theorem read0 (R : Fin 128) (k : Fin 2048) :
   iblk m hO c 0 t (ix2 R k) = rows m c (ix2 (rowAt (blk (grid0.coords t)) R) k) := by
  rw [← V_rows]
  have h := (idx_rows m hO t).1
  blk_point [iblk, V, rowAt]
  all_goals rw [h]
  all_goals simp

/-- A point's gates. -/
theorem read1 (R : Fin 128) :
   iblk m hO c 1 t (ix2 R 0) = gates m c (ix1 (rowAt (blk (grid0.coords t)) R)) := by
  have h := (idx_rows m hO t).2.1
  have e : iblk m hO c 1 t (ix2 R 0) = (V m c main_v27 : S69632x1.Idx → EReal) (ix2 (rowAt (blk (grid0.coords t)) R) 0) := by
    blk_point [iblk, V, rowAt]
    all_goals rw [h]
    all_goals simp
  rw [e, V_gates]
  pointwise

/-- A point's even columns of its expert's first weights. -/
theorem read2 (d k : Fin 2048) :
    iblk m hO c 2 t (ix3 0 d k) = up m c (ix3 (expertOf (pends m 0) (blk (grid0.coords t))) d (even k)) := by
  have h := (idx_expert m hO t).1
  have e : iblk m hO c 2 t (ix3 0 d k) = (V m c main_v17 : S32x2048x2048.Idx → EReal) (ix3 (expertOf (pends m 0) (blk (grid0.coords t))) d k) := by
    blk_point [iblk, V]
    all_goals rw [h]
    all_goals simp
  rw [e, V_even]
  pointwise

/-- A point's odd columns of them. -/
theorem read3 (d k : Fin 2048) :
    iblk m hO c 3 t (ix3 0 d k) = up m c (ix3 (expertOf (pends m 0) (blk (grid0.coords t))) d (odd k)) := by
  have h := (idx_expert m hO t).2.1
  have e : iblk m hO c 3 t (ix3 0 d k) = (V m c main_v19 : S32x2048x2048.Idx → EReal) (ix3 (expertOf (pends m 0) (blk (grid0.coords t))) d k) := by
    blk_point [iblk, V]
    all_goals rw [h]
    all_goals simp
  rw [e, V_odd]
  pointwise

/-- The biases of the even columns. -/
theorem read4 (k : Fin 2048) :
    iblk m hO c 4 t (ix3 0 0 k) = upBias m c (ix2 (expertOf (pends m 0) (blk (grid0.coords t))) (even k)) := by
  have h := (idx_expert m hO t).2.2.1
  have e : iblk m hO c 4 t (ix3 0 0 k) = (V m c main_v22 : S32x1x2048.Idx → EReal) (ix3 (expertOf (pends m 0) (blk (grid0.coords t))) 0 k) := by
    blk_point [iblk, V]
    all_goals rw [h]
    all_goals simp
  rw [e, V_evenBias]
  pointwise

/-- The biases of the odd columns. -/
theorem read5 (k : Fin 2048) :
    iblk m hO c 5 t (ix3 0 0 k) = upBias m c (ix2 (expertOf (pends m 0) (blk (grid0.coords t))) (odd k)) := by
  have h := (idx_expert m hO t).2.2.2.1
  have e : iblk m hO c 5 t (ix3 0 0 k) = (V m c main_v24 : S32x1x2048.Idx → EReal) (ix3 (expertOf (pends m 0) (blk (grid0.coords t))) 0 k) := by
    blk_point [iblk, V]
    all_goals rw [h]
    all_goals simp
  rw [e, V_oddBias]
  pointwise

/-- A point's second weights. -/
theorem read6 (d k : Fin 2048) :
    iblk m hO c 6 t (ix3 0 d k) = down m c (ix3 (expertOf (pends m 0) (blk (grid0.coords t))) d k) := by
  have h := (idx_expert m hO t).2.2.2.2.1
  have e : iblk m hO c 6 t (ix3 0 d k) = (V m c main_v25 : S32x2048x2048.Idx → EReal) (ix3 (expertOf (pends m 0) (blk (grid0.coords t))) d k) := by
    blk_point [iblk, V]
    all_goals rw [h]
    all_goals simp
  rw [e, V_down]

/-- Their biases. -/
theorem read7 (k : Fin 2048) :
    iblk m hO c 7 t (ix3 0 0 k) = downBias m c (ix2 (expertOf (pends m 0) (blk (grid0.coords t))) k) := by
  have h := (idx_expert m hO t).2.2.2.2.2
  have e : iblk m hO c 7 t (ix3 0 0 k) = (V m c main_v26 : S32x1x2048.Idx → EReal) (ix3 (expertOf (pends m 0) (blk (grid0.coords t))) 0 k) := by
    blk_point [iblk, V]
    all_goals rw [h]
    all_goals simp
  rw [e, V_downBias]
  pointwise

end Cert.Moe.Run

end
-- ==== Proof.MoeArray.lean ====
module

public import proofs.«01_k».proof.Proof.MoeReads

/-! What the expert kernel leaves in its result: the layer, entry by entry. -/

@[expose] public section

set_option maxRecDepth 16384

noncomputable section

namespace Cert.Moe.Run

open Idealize.ShloMosaic Idealize.ShloMosaic.TcCoe Idealize.ShloMosaic.StableHlo
open Idealize.SL Idealize.SL.Sem
open Cert.Moe.Gen Cert.Moe.Spec

/-- A block's product with a weight, entry by entry. -/
theorem product_at (x : FVec Ideal S128x2048 .bf16) (w : Vec Ideal S1x2048x2048 .bf16) (R : Fin 128) (C : Fin 2048) :
    matmul (φ₂ := .bf16) dot_S128x2048_S2048x2048_S128x2048_1_0_0_1_n_n none x (shapeCast S2048x2048 w shapeCasts_S1x2048x2048_S2048x2048) (constant S128x2048 .f32 0x00000000#32) (ix2 R C)
      = ∑ k : Fin 2048, x (ix2 R k) * w (ix3 0 k C) := by
  pointwise

/-- A bias spread over the rows, entry by entry. -/
theorem bias_at (b : Vec Ideal S1x1x2048 .f32) (R : Fin 128) (C : Fin 2048) :
    broadcastTo S128x2048 (shapeCast S1x2048 b shapeCasts_S1x1x2048_S1x2048 : FVec Ideal S1x2048 .f32) broadcasts_S1x2048_S128x2048 (ix2 R C) = b (ix3 0 0 C) := by
  pointwise

/-- The gates spread over the columns, entry by entry. -/
theorem gate_at (g : Vec Ideal S128x1 .f32) (R : Fin 128) (C : Fin 2048) :
    broadcastTo S128x2048 (shapeCast S128x1 g shapeCasts_S128x1_S128x1 : FVec Ideal S128x1 .f32) broadcasts_S128x1_S128x2048 (ix2 R C) = g (ix2 R 0) := by
  pointwise

/-- A block's rows in a weight, plus its bias. -/
def half (x : Vec Ideal S128x2048 .bf16) (w : Vec Ideal S1x2048x2048 .bf16) (b : Vec Ideal S1x1x2048 .f32) (R : Fin 128) (C : Fin 2048) : EReal :=
  (∑ k : Fin 2048, (x (ix2 R k) * w (ix3 0 k C) : EReal)) + b (ix3 0 0 C)

/-- What the body stores of a block in use, before the bias and the gate. -/
theorem down_at (x : Vec Ideal S128x2048 .bf16) (wg wl w2 : Vec Ideal S1x2048x2048 .bf16) (bg bl : Vec Ideal S1x1x2048 .f32) (R : Fin 128) (C : Fin 2048) :
    k0_pay3 x wg bg wl bl w2 (ix2 R C) = ∑ k : Fin 2048, (act (half x wg bg R k) (half x wl bl R k) * w2 (ix3 0 k C) : EReal) := by
  unfold k0_pay3
  refine (product_at _ _ R C).trans (Finset.sum_congr rfl fun k _ => congrArg (fun a : EReal => a * _) ?_)
  have hx : shapeCast S128x2048 x shapeCasts_S128x2048_S128x2048 = x := by
    funext y; idx_vars y; pointwise
  rw [hx]
  have e : ∀ (w : Vec Ideal S1x2048x2048 .bf16) (b : Vec Ideal S1x1x2048 .f32), half x w b R k = addf (matmul (φ₂ := .bf16) dot_S128x2048_S2048x2048_S128x2048_1_0_0_1_n_n none x (shapeCast S2048x2048 w shapeCasts_S1x2048x2048_S2048x2048) (constant S128x2048 .f32 0x00000000#32))
    (broadcastTo S128x2048 (shapeCast S1x2048 b shapeCasts_S1x1x2048_S1x2048 : FVec Ideal S1x2048 .f32) broadcasts_S1x2048_S128x2048) (ix2 R k) := fun w b =>
    (congrArg₂ (fun a b : EReal => a + b) (product_at x w R k) (bias_at b R k)).symm
  rw [e, e]
  rfl

/-- What the body stores of a block in use. -/
theorem stored (y : FVec Ideal S128x2048 .f32) (b : Vec Ideal S1x1x2048 .f32) (g : Vec Ideal S128x1 .f32) (R : Fin 128) (C : Fin 2048) :
    k0_pay1 y b g (ix2 R C) = ((y (ix2 R C) + b (ix3 0 0 C)) * g (ix2 R 0) : EReal) :=
  congrArg₂ (fun a b : EReal => a * b) (congrArg (fun b : EReal => _ + b) (bias_at b R C)) (gate_at g R C)

/-- The body's condition is that the block is in use. -/
theorem cond_iff (P : Vec Ideal S32 .i32) (i : grid0.Coords) : k0_cond1 i (nUsed P only) = 1#1 ↔ inUse P (blk i) := by
  unfold k0_cond1 inUse
  show Scalar.cmpi .ne (Scalar.extui (IntOp.cmpi .slt (BitVec.ofNat 32 (i 0).val) (nUsed P only))) 0#32 = 1#1 ↔ _
  generalize IntOp.cmpi .slt (BitVec.ofNat 32 (i 0).val) (nUsed P only) = b
  revert b; decide

/-- A block with no use is stored as zeros. -/
theorem zeros_at (R : Fin 128) (C : Fin 2048) : k0_pay2 (F := Ideal) (ix2 R C) = (0 : EReal) := by
  pointwise [k0_pay2]

variable (m : (ℓ : Loc nD τ sig) → Buf (Elt Ideal) ℓ) (c : Dev nD) (hO : Ok m) (t : Fin (cfgM m hO).N)

/-- The row is in the block. -/
theorem blockOf_row (b : Fin 544) (R : Fin 128) : blockOf (rowAt b R) = b := by
  apply Fin.ext; unfold blockOf rowAt; simp only []; omega

/-- The layer's result at an entry, from the program's arguments. -/
def result (r : Fin 69632) (j : Fin 2048) : EReal :=
  entry (pends m c) (rows m c) (gates m c) (up m c) (upBias m c) (down m c) (downBias m c) r j

/-- The gated half at a point. -/
theorem even_at (R : Fin 128) (k : Fin 2048) :
    half (iblk m hO c 0 t) (iblk m hO c 2 t) (iblk m hO c 4 t) R k
      = raised (rows m c) (up m c) (upBias m c) (expertOf (pends m 0) (blk (grid0.coords t))) (rowAt (blk (grid0.coords t)) R) (even k) :=
  congrArg₂ (fun a b : EReal => a + b)
    (Finset.sum_congr rfl fun d _ => congrArg₂ (fun a b : EReal => a * b) (read0 m c hO t R d) (read2 m c hO t d k)) (read4 m c hO t k)

/-- The linear half at a point. -/
theorem odd_at (R : Fin 128) (k : Fin 2048) :
    half (iblk m hO c 0 t) (iblk m hO c 3 t) (iblk m hO c 5 t) R k
      = raised (rows m c) (up m c) (upBias m c) (expertOf (pends m 0) (blk (grid0.coords t))) (rowAt (blk (grid0.coords t)) R) (odd k) :=
  congrArg₂ (fun a b : EReal => a + b)
    (Finset.sum_congr rfl fun d _ => congrArg₂ (fun a b : EReal => a * b) (read0 m c hO t R d) (read3 m c hO t d k)) (read5 m c hO t k)

/-- What a point stores. -/
theorem point (R : Fin 128) (C : Fin 2048) : outAt m hO c t (ix2 R C) = result m c (rowAt (blk (grid0.coords t)) R) C := by
  obtain rfl : c = 0 := Subsingleton.elim _ _
  unfold outAt blockOut result entry
  rw [word_used, blockOf_row]
  by_cases h : inUse (pends m 0) (blk (grid0.coords t))
  · rw [if_pos h, if_pos ((cond_iff _ _).mpr h)]
    refine (stored _ _ _ R C).trans ?_
    unfold outcome
    refine congrArg₂ (fun a b : EReal => a * b) (congrArg₂ (fun a b : EReal => a + b) ((down_at _ _ _ _ _ _ R C).trans (Finset.sum_congr rfl fun k _ => congrArg₂ (fun a b : EReal => a * b) (congrArg₂ act ?_ ?_) (read6 m 0 hO t k C))) (read7 m 0 hO t C)) (read1 m 0 hO t R)
    · exact even_at m 0 hO t R k
    · exact odd_at m 0 hO t R k
  · rw [if_neg h, if_neg (fun e => h ((cond_iff _ _).mp e)), zeros_at]

/-- The points are the blocks, and every point's block of the result is written back. -/
theorem points : ∀ t : Fin grid0.N, (grid0.coords t 0).val = t.val ∧ Pipeline.Window.flushOf grid0 true cc0_transform_8 t = true := by
  decide +kernel

/-- The blocks of the result cover it, whatever the tables hold. -/
theorem covers (pf : pre0.Contents (Elt Ideal)) (h : ok0 pf) : ((cfg0 ⟨pf, h⟩).win 8).Covers := by
  refine ⟨?_, fun β => ?_⟩
  · intro a
    have : ∀ a : Fin 2, 0 < S128x2048.size a := by decide
    exact this a
  · have hN : (544 : ℕ) = grid0.N := by decide +kernel
    have h0 : (β (0 : Fin 2)).val < 544 := lt_of_lt_of_eq (β (0 : Fin 2)).isLt (show (69632 + 128 - 1) / 128 = 544 by norm_num)
    have h1 : (β (1 : Fin 2)).val < 1 := lt_of_lt_of_eq (β (1 : Fin 2)).isLt (show (2048 + 2048 - 1) / 2048 = 1 by norm_num)
    refine ⟨⟨(β (0 : Fin 2)).val, hN ▸ h0⟩, (points _).2, fun a => ⟨?_, .inl rfl⟩⟩
    match a with
    | (0 : Fin 2) => exact (coord_word _).trans (points _).1
    | (1 : Fin 2) => exact (Nat.lt_one_iff.mp h1).symm

/-- What a point stores, at any index. -/
theorem point_at (y : S128x2048.Idx) : outAt m hO c t y = result m c (rowAt (blk (grid0.coords t)) (y 0)) (y 1) :=
  (congrArg _ (ix2_eta y).symm).trans (point m c hO t (y 0) (y 1))

/-- Where a point's block places its elements in the result. -/
theorem placed_at (y : S128x2048.Idx) :
    ((((cfgM m hO).win 8).rect t).emb y (0 : Fin 2)).val = (blk (grid0.coords t)).val * 128 + (y 0).val
    ∧ ((((cfgM m hO).win 8).rect t).emb y (1 : Fin 2)).val = (y 1).val := by
  have hi := (idx_rows m hO t).2.2
  constructor
  · refine (Pipeline.Window.rect_emb_val ((cfgM m hO).win 8) t y (0 : Fin 2)).trans ?_
    rw [hi]; rfl
  · refine (Pipeline.Window.rect_emb_val ((cfgM m hO).win 8) t y (1 : Fin 2)).trans ?_
    rw [hi]
    exact (congrArg (· + _) (Nat.zero_mul _)).trans (Nat.zero_add _)

set_option maxHeartbeats 1000000 in
/-- The result array holds the layer's result. -/
theorem final : (dats m hO 0 c).arrAt 8 (cfgM m hO).N = fun i : S69632x2048.Idx => result m c (i 0) (i 1) := by
  refine (dats m hO 0 c).arrAt_eq_of_covers 8 _ (covers (tbl m) hO) ?_ (Memref.isWhole_whole _)
  intro t ht y
  rw [after_out]
  generalize hg : outAt m hO c t = g
  have h : ∀ y : S128x2048.Idx, g y = result m c (rowAt (blk (grid0.coords t)) (y 0)) (y 1) := fun y => hg ▸ point_at m c hO t y
  have e := placed_at m hO t y
  clear hg
  generalize result m c = ρ at h ⊢
  refine (h y).trans ?_
  exact congrArg₂ ρ (Fin.ext e.1.symm) (Fin.ext e.2.symm)

end Cert.Moe.Run

end
-- ==== Proof.MoeGather.lean ====
module

public import Idealize.ShloMosaic.Lib.Pipeline.ValueKit
public import Idealize.ShloMosaic.Lib.ValueIdxCore

/-! Taking one entry of a table's first axis per block: what the taken table holds at an index, when the entry taken is
known to be one of the table's. -/

@[expose] public section

noncomputable section

namespace Cert.Moe.Gather

open Idealize.ShloMosaic

variable {α : Type} {w : ℕ}

/-- One matrix of a stack of `n` for each of `N` blocks. -/
abbrev matDims (n A B N : ℕ) (wf : GatherDims.WF ⟨3, ![n, A, B]⟩ ⟨2, ![N, 1]⟩ ⟨3, ![N, A, B]⟩ [1, 2] [0] [] [0] [] 1 ![1, A, B]) :
    GatherDims ⟨3, ![n, A, B]⟩ ⟨2, ![N, 1]⟩ ⟨3, ![N, A, B]⟩ where
  offsetDims := [1, 2]
  collapsedSliceDims := [0]
  operandBatchingDims := []
  startIndicesBatchingDims := []
  startIndexMap := [0]
  indexVectorDim := 1
  sliceSizes := ![1, A, B]
  wf := wf

/-- Block `b`'s matrix is the one of the block's index. -/
theorem mat_at {n A B N : ℕ} (wf) (x : (⟨3, ![n, A, B]⟩ : Shape).Idx → α) (idx : IVec ⟨2, ![N, 1]⟩ w) (b : Fin N) (i : Fin A) (j : Fin B)
    (e : Fin n) (h : (idx (ix2 b 0)).toInt.toNat = e.val) : Host.gather (matDims n A B N wf) x idx (ix3 b i j) = x (ix3 e i j) := by
  unfold Host.gather
  congr 1
  funext a
  refine Fin.ext ?_
  show (matDims n A B N wf).start (ix3 b i j) idx a + (matDims n A B N wf).batchCoord (ix3 b i j) a + (matDims n A B N wf).offCoord (ix3 b i j) a = _
  rw [GatherDims.batchCoord_eq_zero _ _ _ List.not_mem_nil, Nat.add_zero]
  match a with
  | (0 : Fin 3) =>
    rw [GatherDims.offCoord_eq_zero _ _ _ (fun h => ((GatherDims.mem_sKept _ _).mp h).1 (List.mem_singleton.mpr rfl))]
    unfold GatherDims.start
    rw [dif_pos (show (0 : Fin 3) ∈ (matDims n A B N wf).startIndexMap from List.mem_singleton.mpr rfl)]
    have hs : (matDims n A B N wf).siIdx (ix3 b i j) ⟨List.idxOf (0 : Fin 3) (matDims n A B N wf).startIndexMap,
        List.idxOf_lt_length_iff.2 (List.mem_singleton.mpr rfl)⟩ = ix2 b 0 := by
      funext a; refine Fin.ext ?_
      match a with
      | (0 : Fin 2) => rfl
      | (1 : Fin 2) => rfl
    rw [hs, h]
    show min e.val (n - 1) + 0 = e.val
    omega
  | (1 : Fin 3) =>
    unfold GatherDims.start
    rw [dif_neg (show (1 : Fin 3) ∉ ([0] : List (Fin 3)) by decide), Nat.zero_add]
    rfl
  | (2 : Fin 3) =>
    unfold GatherDims.start
    rw [dif_neg (show (2 : Fin 3) ∉ ([0] : List (Fin 3)) by decide), Nat.zero_add]
    rfl

/-- One row of a stack of `n` for each of `N` blocks. -/
abbrev rowDims (n B N : ℕ) (wf : GatherDims.WF ⟨2, ![n, B]⟩ ⟨2, ![N, 1]⟩ ⟨2, ![N, B]⟩ [1] [0] [] [0] [] 1 ![1, B]) :
    GatherDims ⟨2, ![n, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- Block `b`'s row is the one of the block's index. -/
theorem row_at {n B N : ℕ} (wf) (x : (⟨2, ![n, B]⟩ : Shape).Idx → α) (idx : IVec ⟨2, ![N, 1]⟩ w) (b : Fin N) (j : Fin B)
    (e : Fin n) (h : (idx (ix2 b 0)).toInt.toNat = e.val) : Host.gather (rowDims n B N wf) x idx (ix2 b j) = x (ix2 e j) := by
  unfold Host.gather
  congr 1
  funext a
  refine Fin.ext ?_
  show (rowDims n B N wf).start (ix2 b j) idx a + (rowDims n B N wf).batchCoord (ix2 b j) a + (rowDims n B N wf).offCoord (ix2 b j) a = _
  rw [GatherDims.batchCoord_eq_zero _ _ _ List.not_mem_nil, Nat.add_zero]
  match a with
  | (0 : Fin 2) =>
    rw [GatherDims.offCoord_eq_zero _ _ _ (fun h => ((GatherDims.mem_sKept _ _).mp h).1 (List.mem_singleton.mpr rfl))]
    unfold GatherDims.start
    rw [dif_pos (show (0 : Fin 2) ∈ (rowDims n B N wf).startIndexMap from List.mem_singleton.mpr rfl)]
    have hs : (rowDims n B N wf).siIdx (ix2 b j) ⟨List.idxOf (0 : Fin 2) (rowDims n B N wf).startIndexMap,
        List.idxOf_lt_length_iff.2 (List.mem_singleton.mpr rfl)⟩ = ix2 b 0 := by
      funext a; refine Fin.ext ?_
      match a with
      | (0 : Fin 2) => rfl
      | (1 : Fin 2) => rfl
    rw [hs, h]
    show min e.val (n - 1) + 0 = e.val
    omega
  | (1 : Fin 2) =>
    unfold GatherDims.start
    rw [dif_neg (show (1 : Fin 2) ∉ ([0] : List (Fin 2)) by decide), Nat.zero_add]
    rfl

end Cert.Moe.Gather

end
-- ==== Proof.MoeRefArray.lean ====
module

public import proofs.«01_k».proof.Proof.MoeSpec
public import proofs.«01_k».proof.Proof.MoeGather
public import proofs.«01_k».proof.Proof.Gen.MoeRefIdeal.Run

/-! The expert layer's reference, stage by stage, is the layer entry by entry. -/

@[expose] public section

set_option maxRecDepth 16384

noncomputable section

namespace Cert.MoeRefIdeal.Stage

open Idealize.ShloMosaic Idealize.ShloMosaic.TcCoe Idealize.SL.Sem Idealize.ShloMosaic.StableHlo
open Cert.MoeRefIdeal Cert.MoeRefIdeal.Gen
open Cert.Moe.Spec (glu lin act blockOf expertOf inUse raised even odd outcome entry only expertOf_val)
open Cert.Moe.Run (blkExp nUsed lastEnd blkExp_lt)

variable (P : Vec Ideal S32 .i32) (X : FVec Ideal S69632x2048 .f32) (G : FVec Ideal S69632 .f32)
  (W1 : FVec Ideal S32x2048x4096 .f32) (B1 : FVec Ideal S32x4096 .f32) (W2 : FVec Ideal S32x2048x2048 .f32)
  (B2 : FVec Ideal S32x2048 .f32)

/-- The experts as indices into a table of 32, a negative one counting from the end. -/
def index : Vec Ideal S544x1 .i32 :=
  broadcastInDim S544x1 ![0] bcast_S544_S544x1_0 (select (cmpi .slt (blkExp P) (broadcastInDim S544 ![] bcast_S_S544 (constantI S_ 32 0#32 : Vec Ideal S_ .i32)))
    (addi (blkExp P) (broadcastInDim S544 ![] bcast_S_S544 (constantI S_ 32 32#32 : Vec Ideal S_ .i32))) (blkExp P) : Vec Ideal S544 .i32)

/-- The rows in their experts' first weights. -/
def wide : FVec Ideal S544x128x4096 .f32 :=
  addf (Host.dotGeneral dot_S544x128x2048_S544x2048x4096_S544x128x4096_2_1_1_2_0_0 none (shapeCast S544x128x2048 X shapeCasts_S69632x2048_S544x128x2048)
      (Host.gather gather_S32x2048x4096_S544x1_S544x2048x4096_12_0_n_n_0_1_120484096 W1 (index P)))
    (broadcastInDim S544x128x4096 ![0, 1, 2] bcast_S544x1x4096_S544x128x4096_0_1_2 (broadcastInDim S544x1x4096 ![0, 2] bcast_S544x4096_S544x1x4096_0_2
      (Host.gather gather_S32x4096_S544x1_S544x4096_1_0_n_n_0_1_14096 B1 (index P))))

/-- The gated half. -/
def gated (H : FVec Ideal S544x128x4096 .f32) : FVec Ideal S544x128x2048 .f32 :=
  minimumf (Host.slice S544x128x2048 ![0, 0, 0] ![1, 1, 2] H slicesBy_S544x128x4096_S544x128x2048_0s1_0s1_0s2) (broadcastInDim S544x128x2048 ![] bcast_S_S544x128x2048 (constant S_ .f32 0x40E00000#32))

/-- The linear half. -/
def linear (H : FVec Ideal S544x128x4096 .f32) : FVec Ideal S544x128x2048 .f32 :=
  minimumf (broadcastInDim S544x128x2048 ![] bcast_S_S544x128x2048 (id (constant S_ .f32 0x40E00000#32)))
    (maximumf (broadcastInDim S544x128x2048 ![] bcast_S_S544x128x2048 (id (constant S_ .f32 0xC0E00000#32)))
      (Host.slice S544x128x2048 ![0, 0, 1] ![1, 1, 2] H slicesBy_S544x128x4096_S544x128x2048_0s1_0s1_1s2))

/-- The activation. -/
def activated (H : FVec Ideal S544x128x4096 .f32) : FVec Ideal S544x128x2048 .f32 :=
  mulf (mulf (gated H) (Host.divf (broadcastInDim S544x128x2048 ![] bcast_S_S544x128x2048 (constant S_ .f32 0x3F800000#32))
      (addf (broadcastInDim S544x128x2048 ![] bcast_S_S544x128x2048 (constant S_ .f32 0x3F800000#32))
        (Host.exp (Host.negf (mulf (broadcastInDim S544x128x2048 ![] bcast_S_S544x128x2048 (constant S_ .f32 0x3FD9DB23#32)) (gated H)))))))
    (addf (linear H) (broadcastInDim S544x128x2048 ![] bcast_S_S544x128x2048 (constant S_ .f32 0x3F800000#32)))

/-- The experts' results. -/
def narrow (A : FVec Ideal S544x128x2048 .f32) : FVec Ideal S544x128x2048 .f32 :=
  addf (Host.dotGeneral dot_S544x128x2048_S544x2048x2048_S544x128x2048_2_1_1_2_0_0 none A
      (Host.gather gather_S32x2048x2048_S544x1_S544x2048x2048_12_0_n_n_0_1_120482048 W2 (index P)))
    (broadcastInDim S544x128x2048 ![0, 1, 2] bcast_S544x1x2048_S544x128x2048_0_1_2 (broadcastInDim S544x1x2048 ![0, 2] bcast_S544x2048_S544x1x2048_0_2
      (Host.gather gather_S32x2048_S544x1_S544x2048_1_0_n_n_0_1_12048 B2 (index P))))

/-- Which blocks are in use. -/
def used : Vec Ideal S544 .i1 := cmpi .slt (iotaInDim S544 32 0) (broadcastInDim S544 ![] bcast_S_S544 (nUsed P))

/-- The results of the blocks in use. -/
def kept (Y : FVec Ideal S544x128x2048 .f32) : FVec Ideal S544x128x2048 .f32 :=
  select (broadcastInDim S544x128x2048 ![0, 1, 2] bcast_S544x1x1_S544x128x2048_0_1_2 (broadcastInDim S544x1x1 ![0] bcast_S544_S544x1x1_0 (used P)))
    Y (broadcastInDim S544x128x2048 ![] bcast_S_S544x128x2048 (id (constant S_ .f32 0x00000000#32)))

/-- The rows of the blocks, scaled by their gates. -/
def scaled (Y : FVec Ideal S544x128x2048 .f32) : FVec Ideal S69632x2048 .f32 :=
  mulf (shapeCast S69632x2048 Y shapeCasts_S544x128x2048_S69632x2048)
    (broadcastInDim S69632x2048 ![0, 1] bcast_S69632x1_S69632x2048_0_1 (broadcastInDim S69632x1 ![0] bcast_S69632_S69632x1_0 G))

/-- The reference's result. -/
def result : FVec Ideal S69632x2048 .f32 := scaled G (kept P (narrow P W2 B2 (activated (wide P X W1 B1))))

/-- An index is its block's expert. -/
theorem index_at (b : Fin 544) : (index P (ix2 b 0)).toInt.toNat = (expertOf P b).val := by
  have h := blkExp_lt P (ix1 b)
  have s : ∀ x : BitVec 32, x.toNat < 32 → Scalar.select (IntOp.cmpi .slt x 0#32) (IntOp.addi x 32#32) x = x := fun x hx => by
    have n : ¬ IntOp.cmpi .slt x 0#32 = 1#1 := fun e => by
      have := IntOp.cmpi_slt.mp e
      rw [BitVec.toInt_eq_toNat_of_lt (by omega)] at this
      simp at this
      omega
    rw [ValueIdx.eq_zero_of_ne_one n, ValueIdx.select_zero]
  have e : index P (ix2 b 0) = Scalar.select (IntOp.cmpi .slt (blkExp P (ix1 b)) 0#32) (IntOp.addi (blkExp P (ix1 b)) 32#32) (blkExp P (ix1 b)) := by
    unfold index
    generalize blkExp P = x
    pointwise
  rw [e, s _ h, ← expertOf_val, BitVec.toInt_eq_toNat_of_lt (by omega)]
  rfl

/-- A row of a block among all rows. -/
abbrev rowOf (b : Fin 544) (R : Fin 128) : Fin 69632 := ⟨b.val * 128 + R.val, by omega⟩

/-- The rows in their experts' first weights, entry by entry. -/
theorem wide_at (b : Fin 544) (R : Fin 128) (f : Fin 4096) :
    wide P X W1 B1 (ix3 b R f) = raised X W1 B1 (expertOf P b) (rowOf b R) f := by
  unfold wide raised
  refine congrArg₂ (fun a b : EReal => a + b) ?_ ?_
  · have e : ∀ (Y : FVec Ideal S544x128x2048 .f32) (Z : FVec Ideal S544x2048x4096 .f32), (Host.dotGeneral (φ₁ := .f32) (φ₂ := .f32) dot_S544x128x2048_S544x2048x4096_S544x128x4096_2_1_1_2_0_0 none Y Z : FVec Ideal S544x128x4096 .f32) (ix3 b R f)
        = ∑ d : Fin 2048, (Y (ix3 b R d) * Z (ix3 b d f) : EReal) := fun Y Z => by
      pointwise
    refine (e _ _).trans (Finset.sum_congr rfl fun d _ => congrArg₂ (fun a b : EReal => a * b) ?_ ?_)
    · pointwise
    · exact Cert.Moe.Gather.mat_at _ W1 _ b d f _ (index_at P b)
  · have e : ∀ Z : FVec Ideal S544x4096 .f32, (broadcastInDim S544x128x4096 ![0, 1, 2] bcast_S544x1x4096_S544x128x4096_0_1_2 (broadcastInDim S544x1x4096 ![0, 2] bcast_S544x4096_S544x1x4096_0_2 Z)) (ix3 b R f) = Z (ix2 b f) := fun Z => by
      pointwise
    exact (e _).trans (Cert.Moe.Gather.row_at _ B1 _ b f _ (index_at P b))

/-- The activation, entry by entry. -/
theorem activated_at (H : FVec Ideal S544x128x4096 .f32) (b : Fin 544) (R : Fin 128) (k : Fin 2048) :
    activated H (ix3 b R k) = act (H (ix3 b R (even k))) (H (ix3 b R (odd k))) := by
  have e0 : Host.slice S544x128x2048 ![0, 0, 0] ![1, 1, 2] H slicesBy_S544x128x4096_S544x128x2048_0s1_0s1_0s2 (ix3 b R k) = H (ix3 b R (even k)) := by pointwise
  have e1 : Host.slice S544x128x2048 ![0, 0, 1] ![1, 1, 2] H slicesBy_S544x128x4096_S544x128x2048_0s1_0s1_1s2 (ix3 b R k) = H (ix3 b R (odd k)) := by pointwise
  have one : (Scalar.ofBits .f32 0x3F800000#32 : Ideal .f32) = (1 : EReal) := by
    have : (constant S_ .f32 0x3F800000#32 : FVec Ideal S_ .f32) only = (1 : EReal) := by pointwise
    exact this
  have l : ∀ x : Ideal .f32, FloatOps.hostDivf (Scalar.ofBits .f32 0x3F800000#32) (FloatOps.addf (Scalar.ofBits .f32 0x3F800000#32) (FloatOps.hostUnary .exp (FloatOps.hostNegf x))) = FloatOps.logistic x := fun x => by
    rw [one]; rfl
  rw [← e0, ← e1]
  unfold act
  rw [← l]
  rfl

/-- The experts' results, entry by entry. -/
theorem narrow_at (A : FVec Ideal S544x128x2048 .f32) (b : Fin 544) (R : Fin 128) (j : Fin 2048) :
    narrow P W2 B2 A (ix3 b R j) = (∑ k : Fin 2048, (A (ix3 b R k) * W2 (ix3 (expertOf P b) k j) : EReal)) + B2 (ix2 (expertOf P b) j) := by
  unfold narrow
  refine congrArg₂ (fun a b : EReal => a + b) ?_ ?_
  · have e : ∀ (Y : FVec Ideal S544x128x2048 .f32) (Z : FVec Ideal S544x2048x2048 .f32), (Host.dotGeneral (φ₁ := .f32) (φ₂ := .f32) dot_S544x128x2048_S544x2048x2048_S544x128x2048_2_1_1_2_0_0 none Y Z : FVec Ideal S544x128x2048 .f32) (ix3 b R j)
        = ∑ d : Fin 2048, (Y (ix3 b R d) * Z (ix3 b d j) : EReal) := fun Y Z => by
      pointwise
    refine (e _ _).trans (Finset.sum_congr rfl fun k _ => congrArg (fun b : EReal => _ * b) ?_)
    exact Cert.Moe.Gather.mat_at _ W2 _ b k j _ (index_at P b)
  · have e : ∀ Z : FVec Ideal S544x2048 .f32, (broadcastInDim S544x128x2048 ![0, 1, 2] bcast_S544x1x2048_S544x128x2048_0_1_2 (broadcastInDim S544x1x2048 ![0, 2] bcast_S544x2048_S544x1x2048_0_2 Z)) (ix3 b R j) = Z (ix2 b j) := fun Z => by
      pointwise
    exact (e _).trans (Cert.Moe.Gather.row_at _ B2 _ b j _ (index_at P b))

open Classical in
/-- The results of the blocks in use, entry by entry. -/
theorem kept_at (Y : FVec Ideal S544x128x2048 .f32) (b : Fin 544) (R : Fin 128) (j : Fin 2048) :
    kept P Y (ix3 b R j) = if inUse P b then Y (ix3 b R j) else (0 : EReal) := by
  have e : kept P Y (ix3 b R j) = Scalar.select (IntOp.cmpi .slt (BitVec.ofNat 32 b.val) (nUsed P only)) (Y (ix3 b R j)) (0 : EReal) := by
    unfold kept used
    generalize nUsed P = n
    have z : (constant S_ .f32 0#32 : FVec Ideal S_ .f32) only = (0 : EReal) := by pointwise
    pointwise
    exact congrArg (Scalar.select _ _) z
  rw [e]
  by_cases h : inUse P b
  · rw [if_pos h]; unfold inUse at h; rw [h, ValueIdx.select_one]
  · rw [if_neg h]; unfold inUse at h; rw [ValueIdx.eq_zero_of_ne_one h, ValueIdx.select_zero]

/-- The scaled rows, entry by entry. -/
theorem scaled_at (Y : FVec Ideal S544x128x2048 .f32) (r : Fin 69632) (j : Fin 2048) :
    scaled G Y (ix2 r j) = (Y (ix3 (blockOf r) ⟨r.val % 128, Nat.mod_lt _ (by decide)⟩ j) * G (ix1 r) : EReal) := by
  unfold blockOf
  pointwise [scaled]

/-- The reference's result is the layer, entry by entry. -/
theorem result_at (r : Fin 69632) (j : Fin 2048) : result P X G W1 B1 W2 B2 (ix2 r j) = entry P X G W1 B1 W2 B2 r j := by
  unfold result entry
  rw [scaled_at, kept_at]
  have hr : rowOf (blockOf r) ⟨r.val % 128, Nat.mod_lt _ (by decide)⟩ = r := by
    apply Fin.ext; show r.val / 128 * 128 + r.val % 128 = r.val; omega
  by_cases h : inUse P (blockOf r)
  · rw [if_pos h, if_pos h, narrow_at]
    unfold outcome
    refine congrArg (fun a : EReal => a * _) (congrArg (fun a : EReal => a + _) (Finset.sum_congr rfl fun k _ => congrArg (fun a : EReal => a * _) ?_))
    rw [activated_at, wide_at, wide_at, hr]
  · rw [if_neg h, if_neg h]
    exact zero_mul _

/-- The reference's result is the layer. -/
theorem result_eq : result P X G W1 B1 W2 B2 = fun i : S69632x2048.Idx => entry P X G W1 B1 W2 B2 (i 0) (i 1) := by
  funext i
  exact (congrArg _ (ix2_eta i).symm).trans (result_at P X G W1 B1 W2 B2 (i 0) (i 1))

set_option maxHeartbeats 1000000 in
/-- The program's result is the stages' of its arguments. -/
theorem run_result (m : (ℓ : Loc nD τ sig) → Buf (Elt Ideal) ℓ) (c : Dev nD) :
    Value.res_main_v77 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_main_v77 result scaled kept used narrow activated gated linear wide index blkExp nUsed lastEnd
  rfl

end Cert.MoeRefIdeal.Stage

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Rkv.Frame
public import proofs.«01_k».proof.Proof.Gen.RkvIdeal.Frame
public import proofs.«01_k».proof.Proof.Gen.RkvIdeal.Value
public import proofs.«01_k».proof.Proof.Gen.RkvRefIdeal.Run
public import proofs.«01_k».proof.Proof.Gen.Lora.Frame
public import proofs.«01_k».proof.Proof.Gen.LoraIdeal.Frame
public import proofs.«01_k».proof.Proof.Gen.LoraIdeal.Value
public import proofs.«01_k».proof.Proof.Gen.LoraRefIdeal.Run
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.CaQ.Frame
public import proofs.«01_k».proof.Proof.Gen.CaQIdeal.Frame
public import proofs.«01_k».proof.Proof.Gen.CaQIdeal.Value
public import proofs.«01_k».proof.Proof.Gen.CaQRefIdeal.Run
public import proofs.«01_k».proof.Proof.Gen.CaKv.Frame
public import proofs.«01_k».proof.Proof.Gen.CaKvIdeal.Frame
public import proofs.«01_k».proof.Proof.Gen.CaKvIdeal.Value
public import proofs.«01_k».proof.Proof.Gen.CaKvRefIdeal.Run
public import proofs.«01_k».proof.Proof.Gen.Moe.Launch
public import proofs.«01_k».proof.Proof.Gen.Moe.Skeleton
public import proofs.«01_k».proof.Proof.Gen.MoeIdeal.Launch
public import proofs.«01_k».proof.Proof.Gen.MoeIdeal.Skeleton
public import proofs.«01_k».proof.Proof.Gen.MoeRefIdeal.Run
public import proofs.«01_k».proof.Proof.Gen.WOut.Frame
public import proofs.«01_k».proof.Proof.Gen.WOutIdeal.Frame
public import proofs.«01_k».proof.Proof.Gen.WOutIdeal.Value
public import proofs.«01_k».proof.Proof.Gen.WOutRefIdeal.Run
public import proofs.«01_k».proof.Proof.Gen.CaO.Frame
public import proofs.«01_k».proof.Proof.Gen.CaOIdeal.Frame
public import proofs.«01_k».proof.Proof.Gen.CaOIdeal.Value
public import proofs.«01_k».proof.Proof.Gen.CaORefIdeal.Run
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.ProjA.Frame
public import proofs.«01_k».proof.Proof.Gen.ProjAIdeal.Frame
public import proofs.«01_k».proof.Proof.Gen.ProjAIdeal.Value
public import proofs.«01_k».proof.Proof.Gen.ProjARefIdeal.Run
public import proofs.«01_k».proof.Proof.Array
public import proofs.«01_k».proof.Proof.Ref
public import proofs.«01_k».proof.Proof.RkvArray
public import proofs.«01_k».proof.Proof.LoraArray
public import proofs.«01_k».proof.Proof.GateArray
public import proofs.«01_k».proof.Proof.CaQArray
public import proofs.«01_k».proof.Proof.CaKvArray
public import proofs.«01_k».proof.Proof.WOutArray
public import proofs.«01_k».proof.Proof.CaOArray
public import proofs.«01_k».proof.Proof.QkvArray
public import proofs.«01_k».proof.Proof.QkvRef
public import proofs.«01_k».proof.Proof.ProjAArray
public import proofs.«01_k».proof.Proof.ProjARef
public import proofs.«01_k».proof.Proof.MoeSame
public import proofs.«01_k».proof.Proof.MoeArray
public import proofs.«01_k».proof.Proof.MoeRefArray
public import Idealize.ShloMosaic.Adequacy
public import Idealize.ShloMosaic.Lib.Claim
public import Idealize.ShloMosaic.Init

@[expose] public section

noncomputable section

namespace Cert.Proof

open Idealize.ShloMosaic Idealize.ShloMosaic.TcCoe Idealize.SL.Sem Cert.Attn

/-- Dilated attention: over the extended reals the kernel's output and log-sum-exp are the reference's. -/
theorem attention : algebraic_KernelIdeal_ReferenceIdeal (hKernelIdeal := Cert.KernelIdeal.Gen.facts) (hReferenceIdeal := Cert.ReferenceIdeal.Gen.facts) := by
  intro m g m' g' _ h
  refine ⟨fun c i => outEntry (KernelIdeal.Array.arg m c) (i 0) (i 1) (i 2), fun c i => lseEntry (KernelIdeal.Array.arg m c) (i 0) (i 1) (i 2), ?_, ?_⟩
  · exact (θ_run _ _ _).mono (fun r hr c => ⟨(hr c).1.trans (KernelIdeal.Array.final5 m c), (hr c).2.1.trans (KernelIdeal.Array.final6 m c), (hr c).2.2⟩)
      (KernelIdeal.Value.run_blocks m g)
  · refine (θ_run _ _ _).mono (fun r hr c => ⟨(hr c).1.trans ?_, (hr c).2.1.trans ?_, (hr c).2.2⟩) (ReferenceIdeal.Value.run m' g')
    · refine (ReferenceIdeal.Stage.res0 m' c).trans ?_
      funext i
      rw [h c]
      exact (congrArg _ (ix3_eta i).symm).trans (ReferenceIdeal.Stage.result0_at _ (i 0) (i 1) (i 2))
    · refine (ReferenceIdeal.Stage.res1 m' c).trans ?_
      funext i
      rw [h c]
      exact (congrArg _ (ix3_eta i).symm).trans (ReferenceIdeal.Stage.result1_at _ (i 0) (i 1) (i 2))

/-- The reference terminates, leaves its argument as it was, and every semaphore at zero. -/
theorem reference_frame : quiescent_ReferenceIdeal (hReferenceIdeal := Cert.ReferenceIdeal.Gen.facts) := by
  intro m g _
  exact (θ_run _ _ _).mono (fun r h => ⟨fun c => (h c).2.2, sem_eq_zero_of_no_sems (by decide) r.2⟩) (ReferenceIdeal.Value.run m g)

/-- The receptance, key and value projection: over the extended reals the kernel's result is the reference's. -/
theorem rkv_value : algebraic_RkvIdeal_RkvRefIdeal (hRkvIdeal := Cert.RkvIdeal.Gen.facts) (hRkvRefIdeal := Cert.RkvRefIdeal.Gen.facts) := by
  intro m g m' g' _ h
  refine ⟨fun c i => RkvIdeal.Array.entry (RkvIdeal.Array.tokens m c) (RkvIdeal.Array.weights m c) (i 0) (i 1), ?_, ?_⟩
  · exact (θ_run _ _ _).mono (fun r hr c => ⟨(hr c).1.trans (RkvIdeal.Array.final m c), (hr c).2⟩) (RkvIdeal.Value.run_blocks m g)
  · refine (θ_run _ _ _).mono (fun r hr c => ⟨(hr c).1.trans ?_, (hr c).2⟩) (RkvRefIdeal.Value.run m' g')
    rw [(h c).1, (h c).2]
    exact RkvRefIdeal.Stage.result_eq _ _

/-- The reference terminates, leaves its arguments as they were, and every semaphore at zero. -/
theorem rkv_reference_frame : quiescent_RkvRefIdeal (hRkvRefIdeal := Cert.RkvRefIdeal.Gen.facts) := by
  intro m g _
  exact (θ_run _ _ _).mono (fun r h => ⟨fun c => (h c).2, sem_eq_zero_of_no_sems (by decide) r.2⟩) (RkvRefIdeal.Value.run m g)

/-- The projection onto the low-rank inputs: over the extended reals the kernel's result is the reference's. -/
theorem lora_value : algebraic_LoraIdeal_LoraRefIdeal (hLoraIdeal := Cert.LoraIdeal.Gen.facts) (hLoraRefIdeal := Cert.LoraRefIdeal.Gen.facts) := by
  intro m g m' g' _ h
  refine ⟨fun c i => LoraIdeal.Array.entry (LoraIdeal.Array.tokens m c) (LoraIdeal.Array.weights m c) (i 0) (i 1), ?_, ?_⟩
  · exact (θ_run _ _ _).mono (fun r hr c => ⟨(hr c).1.trans (LoraIdeal.Array.final m c), (hr c).2⟩) (LoraIdeal.Value.run_blocks m g)
  · refine (θ_run _ _ _).mono (fun r hr c => ⟨(hr c).1.trans ?_, (hr c).2⟩) (LoraRefIdeal.Value.run m' g')
    rw [(h c).1, (h c).2]
    exact LoraRefIdeal.Stage.result_eq _ _

/-- The reference terminates, leaves its arguments as they were, and every semaphore at zero. -/
theorem lora_reference_frame : quiescent_LoraRefIdeal (hLoraRefIdeal := Cert.LoraRefIdeal.Gen.facts) := by
  intro m g _
  exact (θ_run _ _ _).mono (fun r h => ⟨fun c => (h c).2, sem_eq_zero_of_no_sems (by decide) r.2⟩) (LoraRefIdeal.Value.run m g)

/-- The projection onto the merge gates: over the extended reals the kernel's result is the reference's. -/
theorem gate_value : algebraic_GateIdeal_GateRefIdeal (hGateIdeal := Cert.GateIdeal.Gen.facts) (hGateRefIdeal := Cert.GateRefIdeal.Gen.facts) := by
  intro m g m' g' _ h
  refine ⟨fun c i => GateIdeal.Array.entry (GateIdeal.Array.tokens m c) (GateIdeal.Array.weights m c) (i 0) (i 1), ?_, ?_⟩
  · exact (θ_run _ _ _).mono (fun r hr c => ⟨(hr c).1.trans (GateIdeal.Array.final m c), (hr c).2⟩) (GateIdeal.Value.run_blocks m g)
  · refine (θ_run _ _ _).mono (fun r hr c => ⟨(hr c).1.trans ?_, (hr c).2⟩) (GateRefIdeal.Value.run m' g')
    rw [(h c).1, (h c).2]
    exact GateRefIdeal.Stage.result_eq _ _

/-- The reference terminates, leaves its arguments as they were, and every semaphore at zero. -/
theorem gate_reference_frame : quiescent_GateRefIdeal (hGateRefIdeal := Cert.GateRefIdeal.Gen.facts) := by
  intro m g _
  exact (θ_run _ _ _).mono (fun r h => ⟨fun c => (h c).2, sem_eq_zero_of_no_sems (by decide) r.2⟩) (GateRefIdeal.Value.run m g)

/-- The memory attention's queries: over the extended reals the kernel's result is the reference's. -/
theorem caQ_value : algebraic_CaQIdeal_CaQRefIdeal (hCaQIdeal := Cert.CaQIdeal.Gen.facts) (hCaQRefIdeal := Cert.CaQRefIdeal.Gen.facts) := by
  intro m g m' g' _ h
  refine ⟨fun c i => CaQIdeal.Array.entry (CaQIdeal.Array.tokens m c) (CaQIdeal.Array.weights m c) (i 0) (i 1), ?_, ?_⟩
  · exact (θ_run _ _ _).mono (fun r hr c => ⟨(hr c).1.trans (CaQIdeal.Array.final m c), (hr c).2⟩) (CaQIdeal.Value.run_blocks m g)
  · refine (θ_run _ _ _).mono (fun r hr c => ⟨(hr c).1.trans ?_, (hr c).2⟩) (CaQRefIdeal.Value.run m' g')
    rw [(h c).1, (h c).2]
    exact CaQRefIdeal.Stage.result_eq _ _

/-- The reference terminates, leaves its arguments as they were, and every semaphore at zero. -/
theorem caQ_reference_frame : quiescent_CaQRefIdeal (hCaQRefIdeal := Cert.CaQRefIdeal.Gen.facts) := by
  intro m g _
  exact (θ_run _ _ _).mono (fun r h => ⟨fun c => (h c).2, sem_eq_zero_of_no_sems (by decide) r.2⟩) (CaQRefIdeal.Value.run m g)

/-- The memory attention's keys and values: over the extended reals the kernel's result is the reference's. -/
theorem caKv_value : algebraic_CaKvIdeal_CaKvRefIdeal (hCaKvIdeal := Cert.CaKvIdeal.Gen.facts) (hCaKvRefIdeal := Cert.CaKvRefIdeal.Gen.facts) := by
  intro m g m' g' _ h
  refine ⟨fun c i => CaKvIdeal.Array.entry (CaKvIdeal.Array.memory m c) (CaKvIdeal.Array.weights m c) (i 0) (i 1), ?_, ?_⟩
  · exact (θ_run _ _ _).mono (fun r hr c => ⟨(hr c).1.trans (CaKvIdeal.Array.final m c), (hr c).2⟩) (CaKvIdeal.Value.run_blocks m g)
  · refine (θ_run _ _ _).mono (fun r hr c => ⟨(hr c).1.trans ?_, (hr c).2⟩) (CaKvRefIdeal.Value.run m' g')
    rw [(h c).1, (h c).2]
    exact CaKvRefIdeal.Stage.result_eq _ _

/-- The reference terminates, leaves its arguments as they were, and every semaphore at zero. -/
theorem caKv_reference_frame : quiescent_CaKvRefIdeal (hCaKvRefIdeal := Cert.CaKvRefIdeal.Gen.facts) := by
  intro m g _
  exact (θ_run _ _ _).mono (fun r h => ⟨fun c => (h c).2, sem_eq_zero_of_no_sems (by decide) r.2⟩) (CaKvRefIdeal.Value.run m g)

/-- The expert layer's kernel terminates, leaves its arguments as they were, and every semaphore at zero. -/
theorem moe_frame : quiescent_Moe (hMoe := Cert.Moe.Gen.facts) := by
  intro m g _
  exact (θ_run _ _ _).mono (fun r h => ⟨fun c => Moe.Same.each_arg (h.1 c).2, h.2⟩) (Moe.Run.run_result m g (Moe.Run.tables_ok m))

/-- So does the program the value claim is made of. -/
theorem moe_ideal_frame : quiescent_MoeIdeal (hMoeIdeal := Cert.MoeIdeal.Gen.facts) := by
  intro m g _
  refine Moe.Same.run_eq m g _ ?_
  exact (θ_run _ _ _).mono (fun r h => ⟨fun c => Moe.Same.each_arg (h.1 c).2, h.2⟩) (Moe.Run.run_result m g (Moe.Run.tables_ok m))

/-- The expert layer: over the extended reals the kernel's result is the reference's. -/
theorem moe_value : algebraic_MoeIdeal_MoeRefIdeal (hMoeIdeal := Cert.MoeIdeal.Gen.facts) (hMoeRefIdeal := Cert.MoeRefIdeal.Gen.facts) := by
  intro m g m' g' _ h
  refine ⟨fun c i => Moe.Run.result m c (i 0) (i 1), ?_, ?_⟩
  · refine Moe.Same.run_eq m g _ ?_
    exact (θ_run _ _ _).mono (fun r hr c => ⟨(hr.1 c).1.trans (Moe.Run.final m c (Moe.Run.tables_ok m)), Moe.Same.each_arg (hr.1 c).2⟩) (Moe.Run.run_result m g (Moe.Run.tables_ok m))
  · refine (θ_run _ _ _).mono (fun r hr c => ⟨(hr c).1.trans ?_, (hr c).2⟩) (MoeRefIdeal.Value.run m' g')
    obtain ⟨h0, h1, h2, h3, h4, h5, h6⟩ := h c
    refine (MoeRefIdeal.Stage.run_result m' c).trans ?_
    rw [h0, h1, h2, h3, h4, h5, h6]
    exact MoeRefIdeal.Stage.result_eq _ _ _ _ _ _ _

/-- The reference terminates, leaves its arguments as they were, and every semaphore at zero. -/
theorem moe_reference_frame : quiescent_MoeRefIdeal (hMoeRefIdeal := Cert.MoeRefIdeal.Gen.facts) := by
  intro m g _
  exact (θ_run _ _ _).mono (fun r h => ⟨fun c => (h c).2, sem_eq_zero_of_no_sems (by decide) r.2⟩) (MoeRefIdeal.Value.run m g)

/-- The mixer's output projection, residual and norm: over the extended reals the kernel's results are the reference's. -/
theorem wOut_value : algebraic_WOutIdeal_WOutRefIdeal (hWOutIdeal := Cert.WOutIdeal.Gen.facts) (hWOutRefIdeal := Cert.WOutRefIdeal.Gen.facts) := by
  intro m g m' g' _ h
  refine ⟨fun c i => WOutIdeal.Array.entry (WOutIdeal.Array.rows m c) (WOutIdeal.Array.weights m c) (WOutIdeal.Array.stream m c) (WOutIdeal.Array.gains m c) (WOutIdeal.Array.offsets m c) (i 0) (i 1),
    fun c i => WOutIdeal.Array.entry (WOutIdeal.Array.rows m c) (WOutIdeal.Array.weights m c) (WOutIdeal.Array.stream m c) (WOutIdeal.Array.gains m c) (WOutIdeal.Array.offsets m c) (i 0) (i 1), ?_, ?_⟩
  · exact (θ_run _ _ _).mono (fun r hr c => ⟨(hr c).1.trans (WOutIdeal.Array.final5 m c), (hr c).2.1.trans (WOutIdeal.Array.final6 m c), (hr c).2.2⟩) (WOutIdeal.Value.run_blocks m g)
  · refine (θ_run _ _ _).mono (fun r hr c => ⟨(hr c).1.trans ?_, (hr c).2.1.trans ?_, (hr c).2.2⟩) (WOutRefIdeal.Value.run m' g')
    all_goals
      obtain ⟨h0, h1, h2, h3, h4⟩ := h c
      rw [h0, h1, h2, h3, h4]
      exact WOutRefIdeal.Stage.result_eq _ _ _ _ _

/-- The reference terminates, leaves its arguments as they were, and every semaphore at zero. -/
theorem wOut_reference_frame : quiescent_WOutRefIdeal (hWOutRefIdeal := Cert.WOutRefIdeal.Gen.facts) := by
  intro m g _
  exact (θ_run _ _ _).mono (fun r h => ⟨fun c => (h c).2.2, sem_eq_zero_of_no_sems (by decide) r.2⟩) (WOutRefIdeal.Value.run m g)

/-- The memory attention's output projection, residual and norm: over the extended reals the kernel's results are the reference's. -/
theorem caO_value : algebraic_CaOIdeal_CaORefIdeal (hCaOIdeal := Cert.CaOIdeal.Gen.facts) (hCaORefIdeal := Cert.CaORefIdeal.Gen.facts) := by
  intro m g m' g' _ h
  refine ⟨fun c i => CaOIdeal.Array.entry (CaOIdeal.Array.rows m c) (CaOIdeal.Array.weights m c) (CaOIdeal.Array.stream m c) (CaOIdeal.Array.gains m c) (CaOIdeal.Array.offsets m c) (i 0) (i 1),
    fun c i => CaOIdeal.Array.entry (CaOIdeal.Array.rows m c) (CaOIdeal.Array.weights m c) (CaOIdeal.Array.stream m c) (CaOIdeal.Array.gains m c) (CaOIdeal.Array.offsets m c) (i 0) (i 1), ?_, ?_⟩
  · exact (θ_run _ _ _).mono (fun r hr c => ⟨(hr c).1.trans (CaOIdeal.Array.final5 m c), (hr c).2.1.trans (CaOIdeal.Array.final6 m c), (hr c).2.2⟩) (CaOIdeal.Value.run_blocks m g)
  · refine (θ_run _ _ _).mono (fun r hr c => ⟨(hr c).1.trans ?_, (hr c).2.1.trans ?_, (hr c).2.2⟩) (CaORefIdeal.Value.run m' g')
    all_goals
      obtain ⟨h0, h1, h2, h3, h4⟩ := h c
      rw [h0, h1, h2, h3, h4]
      exact CaORefIdeal.Stage.result_eq _ _ _ _ _

/-- The reference terminates, leaves its arguments as they were, and every semaphore at zero. -/
theorem caO_reference_frame : quiescent_CaORefIdeal (hCaORefIdeal := Cert.CaORefIdeal.Gen.facts) := by
  intro m g _
  exact (θ_run _ _ _).mono (fun r h => ⟨fun c => (h c).2.2, sem_eq_zero_of_no_sems (by decide) r.2⟩) (CaORefIdeal.Value.run m g)

/-- The attention's queries, keys and values, rotated: over the extended reals the kernel's results are the reference's. -/
theorem qkv_value : algebraic_QkvIdeal_QkvRefIdeal (hQkvIdeal := Cert.QkvIdeal.Gen.facts) (hQkvRefIdeal := Cert.QkvRefIdeal.Gen.facts) := by
  intro m g m' g' _ h
  refine ⟨fun c => QkvIdeal.Array.result0 (QkvIdeal.Array.tokens m c) (QkvIdeal.Array.weights m c),
    fun c => QkvIdeal.Array.result1 (QkvIdeal.Array.tokens m c) (QkvIdeal.Array.weights m c),
    fun c => QkvIdeal.Array.result2 (QkvIdeal.Array.tokens m c) (QkvIdeal.Array.weights m c), ?_, ?_⟩
  · exact (θ_run _ _ _).mono (fun r hr c => ⟨(hr c).1.trans (QkvIdeal.Array.final4 m c), (hr c).2.1.trans (QkvIdeal.Array.final5 m c),
      (hr c).2.2.1.trans (QkvIdeal.Array.final6 m c), (hr c).2.2.2⟩) (QkvIdeal.Value.run_blocks m g)
  · refine (θ_run _ _ _).mono (fun r hr c => ⟨(hr c).1.trans ((QkvRefIdeal.Stage.held0 m' c).trans ?_),
      (hr c).2.1.trans ((QkvRefIdeal.Stage.held1 m' c).trans ?_), (hr c).2.2.1.trans ((QkvRefIdeal.Stage.held2 m' c).trans ?_), (hr c).2.2.2⟩)
      (QkvRefIdeal.Value.run m' g')
    all_goals
      obtain ⟨h0, h1⟩ := h c
      rw [h0, h1]
    · exact QkvRefIdeal.Stage.result0_eq _ _
    · exact QkvRefIdeal.Stage.result1_eq _ _
    · exact QkvRefIdeal.Stage.result2_eq _ _

/-- The reference terminates, leaves its arguments as they were, and every semaphore at zero. -/
theorem qkv_reference_frame : quiescent_QkvRefIdeal (hQkvRefIdeal := Cert.QkvRefIdeal.Gen.facts) := by
  intro m g _
  exact (θ_run _ _ _).mono (fun r h => ⟨fun c => (h c).2.2.2, sem_eq_zero_of_no_sems (by decide) r.2⟩) (QkvRefIdeal.Value.run m g)

/-- The recurrence's output projection: over the extended reals the kernel's result is the reference's. -/
theorem projA_value : algebraic_ProjAIdeal_ProjARefIdeal (hProjAIdeal := Cert.ProjAIdeal.Gen.facts) (hProjARefIdeal := Cert.ProjARefIdeal.Gen.facts) := by
  intro m g m' g' _ h
  refine ⟨fun c i => ProjAIdeal.Array.entry (ProjAIdeal.Array.rows m c) (ProjAIdeal.Array.bonus m c) (ProjAIdeal.Array.gates m c)
    (ProjAIdeal.Array.gains m c) (ProjAIdeal.Array.offsets m c) (ProjAIdeal.Array.weights m c) (i 0) (i 1), ?_, ?_⟩
  · exact (θ_run _ _ _).mono (fun r hr c => ⟨(hr c).1.trans (ProjAIdeal.Array.final m c), (hr c).2⟩) (ProjAIdeal.Value.run_blocks m g)
  · refine (θ_run _ _ _).mono (fun r hr c => ⟨(hr c).1.trans ?_, (hr c).2⟩) (ProjARefIdeal.Value.run m' g')
    obtain ⟨h0, h1, h2, h3, h4, h5⟩ := h c
    rw [h0, h1, h2, h3, h4, h5]
    exact ProjARefIdeal.Stage.result_eq _ _ _ _ _ _

/-- The reference terminates, leaves its arguments as they were, and every semaphore at zero. -/
theorem projA_reference_frame : quiescent_ProjARefIdeal (hProjARefIdeal := Cert.ProjARefIdeal.Gen.facts) := by
  intro m g _
  exact (θ_run _ _ _).mono (fun r h => ⟨fun c => (h c).2, sem_eq_zero_of_no_sems (by decide) r.2⟩) (ProjARefIdeal.Value.run m g)

/-- The certificate's claims. -/
theorem claim : Cert.Claim :=
  ⟨Cert.Kernel.Gen.facts, Cert.KernelIdeal.Gen.facts, Cert.ReferenceIdeal.Gen.facts,
    Cert.Rkv.Gen.facts, Cert.RkvIdeal.Gen.facts, Cert.RkvRefIdeal.Gen.facts,
    Cert.Lora.Gen.facts, Cert.LoraIdeal.Gen.facts, Cert.LoraRefIdeal.Gen.facts,
    Cert.Gate.Gen.facts, Cert.GateIdeal.Gen.facts, Cert.GateRefIdeal.Gen.facts,
    Cert.CaQ.Gen.facts, Cert.CaQIdeal.Gen.facts, Cert.CaQRefIdeal.Gen.facts,
    Cert.CaKv.Gen.facts, Cert.CaKvIdeal.Gen.facts, Cert.CaKvRefIdeal.Gen.facts,
    Cert.Moe.Gen.facts, Cert.MoeIdeal.Gen.facts, Cert.MoeRefIdeal.Gen.facts,
    Cert.WOut.Gen.facts, Cert.WOutIdeal.Gen.facts, Cert.WOutRefIdeal.Gen.facts,
    Cert.CaO.Gen.facts, Cert.CaOIdeal.Gen.facts, Cert.CaORefIdeal.Gen.facts,
    Cert.Qkv.Gen.facts, Cert.QkvIdeal.Gen.facts, Cert.QkvRefIdeal.Gen.facts,
    Cert.ProjA.Gen.facts, Cert.ProjAIdeal.Gen.facts, Cert.ProjARefIdeal.Gen.facts,
    fun m g _ => Cert.Kernel.Gen.frame m g, fun m g _ => Cert.KernelIdeal.Gen.frame m g, reference_frame,
    fun m g _ => Cert.Rkv.Gen.frame m g, fun m g _ => Cert.RkvIdeal.Gen.frame m g, rkv_reference_frame,
    fun m g _ => Cert.Lora.Gen.frame m g, fun m g _ => Cert.LoraIdeal.Gen.frame m g, lora_reference_frame,
    fun m g _ => Cert.Gate.Gen.frame m g, fun m g _ => Cert.GateIdeal.Gen.frame m g, gate_reference_frame,
    fun m g _ => Cert.CaQ.Gen.frame m g, fun m g _ => Cert.CaQIdeal.Gen.frame m g, caQ_reference_frame,
    fun m g _ => Cert.CaKv.Gen.frame m g, fun m g _ => Cert.CaKvIdeal.Gen.frame m g, caKv_reference_frame,
    moe_frame, moe_ideal_frame, moe_reference_frame,
    fun m g _ => Cert.WOut.Gen.frame m g, fun m g _ => Cert.WOutIdeal.Gen.frame m g, wOut_reference_frame,
    fun m g _ => Cert.CaO.Gen.frame m g, fun m g _ => Cert.CaOIdeal.Gen.frame m g, caO_reference_frame,
    fun m g _ => Cert.Qkv.Gen.frame m g, fun m g _ => Cert.QkvIdeal.Gen.frame m g, qkv_reference_frame,
    fun m g _ => Cert.ProjA.Gen.frame m g, fun m g _ => Cert.ProjAIdeal.Gen.frame m g, projA_reference_frame,
    IdealRules.named_const.statement Cert.KernelIdeal.κ "mask" .f32 0xF149F2CA#32 ⊥ rfl, attention,
    trivial, rkv_value,
    trivial, lora_value,
    trivial, gate_value,
    trivial, caQ_value,
    trivial, caKv_value,
    trivial, moe_value,
    trivial, wOut_value,
    trivial, caO_value,
    trivial, qkv_value,
    trivial, projA_value⟩

end Cert.Proof

end
